-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Nvfp4 (m : (ℓ : Loc Cert.Nvfp4.nD Cert.Nvfp4.τ Cert.Nvfp4.sig) → Buf (Elt Bits) ℓ) : Prop :=
  True

def Pre_Nvfp4Ideal (m : (ℓ : Loc Cert.Nvfp4Ideal.nD Cert.Nvfp4Ideal.τ Cert.Nvfp4Ideal.sig) → Buf (Elt Ideal) ℓ) : Prop :=
  True

def Pre_Nvfp4ReferenceIdeal (m : (ℓ : Loc Cert.Nvfp4ReferenceIdeal.nD Cert.Nvfp4ReferenceIdeal.τ Cert.Nvfp4ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Nvfp4 [hNvfp4 : Cert.Nvfp4.Facts] : Prop :=
  ∀ (m : (ℓ : Loc Cert.Nvfp4.nD Cert.Nvfp4.τ Cert.Nvfp4.sig) → Buf (Elt Bits) ℓ) (g : Dev Cert.Nvfp4.nD → PrngReg), Pre_Nvfp4 m →
    θ_run (Cert.Nvfp4.defs (F := Bits)) (onTc (τ := Cert.Nvfp4.τ) (Cert.Nvfp4.main (F := Bits))) ⟨m, fun _ => 0, g⟩ (fun r => (∀ c : Dev Cert.Nvfp4.nD,
      r.2.mem ((c.tc : Thread Cert.Nvfp4.nD Cert.Nvfp4.τ).loc Cert.Nvfp4.main_arg0) = m ((c.tc : Thread Cert.Nvfp4.nD Cert.Nvfp4.τ).loc Cert.Nvfp4.main_arg0)
      ∧ r.2.mem ((c.tc : Thread Cert.Nvfp4.nD Cert.Nvfp4.τ).loc Cert.Nvfp4.main_arg1) = m ((c.tc : Thread Cert.Nvfp4.nD Cert.Nvfp4.τ).loc Cert.Nvfp4.main_arg1))
      ∧ r.2.sem = fun _ => 0)

def quiescent_Nvfp4Ideal [hNvfp4Ideal : Cert.Nvfp4Ideal.Facts] : Prop :=
  ∀ (m : (ℓ : Loc Cert.Nvfp4Ideal.nD Cert.Nvfp4Ideal.τ Cert.Nvfp4Ideal.sig) → Buf (Elt Ideal) ℓ) (g : Dev Cert.Nvfp4Ideal.nD → PrngReg), Pre_Nvfp4Ideal m →
    θ_run (Cert.Nvfp4Ideal.defs (F := Ideal)) (onTc (τ := Cert.Nvfp4Ideal.τ) (Cert.Nvfp4Ideal.main (F := Ideal))) ⟨m, fun _ => 0, g⟩ (fun r => (∀ c : Dev Cert.Nvfp4Ideal.nD,
      r.2.mem ((c.tc : Thread Cert.Nvfp4Ideal.nD Cert.Nvfp4Ideal.τ).loc Cert.Nvfp4Ideal.main_arg0) = m ((c.tc : Thread Cert.Nvfp4Ideal.nD Cert.Nvfp4Ideal.τ).loc Cert.Nvfp4Ideal.main_arg0)
      ∧ r.2.mem ((c.tc : Thread Cert.Nvfp4Ideal.nD Cert.Nvfp4Ideal.τ).loc Cert.Nvfp4Ideal.main_arg1) = m ((c.tc : Thread Cert.Nvfp4Ideal.nD Cert.Nvfp4Ideal.τ).loc Cert.Nvfp4Ideal.main_arg1))
      ∧ r.2.sem = fun _ => 0)

def quiescent_Nvfp4ReferenceIdeal [hNvfp4ReferenceIdeal : Cert.Nvfp4ReferenceIdeal.Facts] : Prop :=
  ∀ (m : (ℓ : Loc Cert.Nvfp4ReferenceIdeal.nD Cert.Nvfp4ReferenceIdeal.τ Cert.Nvfp4ReferenceIdeal.sig) → Buf (Elt Ideal) ℓ) (g : Dev Cert.Nvfp4ReferenceIdeal.nD → PrngReg), Pre_Nvfp4ReferenceIdeal m →
    θ_run (Cert.Nvfp4ReferenceIdeal.defs (F := Ideal)) (onTc (τ := Cert.Nvfp4ReferenceIdeal.τ) (Cert.Nvfp4ReferenceIdeal.main (F := Ideal))) ⟨m, fun _ => 0, g⟩ (fun r => (∀ c : Dev Cert.Nvfp4ReferenceIdeal.nD,
      r.2.mem ((c.tc : Thread Cert.Nvfp4ReferenceIdeal.nD Cert.Nvfp4ReferenceIdeal.τ).loc Cert.Nvfp4ReferenceIdeal.main_arg0) = m ((c.tc : Thread Cert.Nvfp4ReferenceIdeal.nD Cert.Nvfp4ReferenceIdeal.τ).loc Cert.Nvfp4ReferenceIdeal.main_arg0)
      ∧ r.2.mem ((c.tc : Thread Cert.Nvfp4ReferenceIdeal.nD Cert.Nvfp4ReferenceIdeal.τ).loc Cert.Nvfp4ReferenceIdeal.main_arg1) = m ((c.tc : Thread Cert.Nvfp4ReferenceIdeal.nD Cert.Nvfp4ReferenceIdeal.τ).loc Cert.Nvfp4ReferenceIdeal.main_arg1))
      ∧ r.2.sem = fun _ => 0)

def preserves_Kernel_KernelIdeal : Prop :=
  True

def algebraic_KernelIdeal_ReferenceIdeal_on_everything_but_err_at_infinities [hKernelIdeal : Cert.KernelIdeal.Facts] [hReferenceIdeal : Cert.ReferenceIdeal.Facts] [hOn_everything_but_err_at_infinities : Cert.On_everything_but_err_at_infinities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v10_1)) (v5 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2, 21504]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v16) i = v0 c i)
          ∧ (∀ i : (⟨3, ![2, 21504, 3072]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v10_0) i = v1 c i)
          ∧ (∀ i : (⟨2, ![2, 21504]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v18) i = v2 c i)
          ∧ (∀ i : (⟨1, ![2]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.KernelIdeal.nD Cert.KernelIdeal.τ).loc Cert.KernelIdeal.main_v14) i = v3 c i)
          ∧ (∀ i : (⟨3, ![2, 21504, 3072]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.KernelIdeal.nD Cert.KernelIdeal.τ).loc Cert.KernelIdeal.main_v10_1) i = v4 c i)
          ∧ (∀ i : (⟨2, ![2, 21504]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 i = 1#1 → r.2.mem ((c.tc : Thread Cert.KernelIdeal.nD Cert.KernelIdeal.τ).loc Cert.KernelIdeal.main_v20) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2, 21504]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v0_0) i = v0 c i)
          ∧ (∀ i : (⟨3, ![2, 21504, 3072]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v0_1) i = v1 c i)
          ∧ (∀ i : (⟨2, ![2, 21504]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceIdeal.nD Cert.ReferenceIdeal.τ).loc Cert.ReferenceIdeal.main_v0_2) i = v2 c i)
          ∧ (∀ i : (⟨1, ![2]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.ReferenceIdeal.nD Cert.ReferenceIdeal.τ).loc Cert.ReferenceIdeal.main_v0_3) i = v3 c i)
          ∧ (∀ i : (⟨3, ![2, 21504, 3072]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.ReferenceIdeal.nD Cert.ReferenceIdeal.τ).loc Cert.ReferenceIdeal.main_v0_4) i = v4 c i)
          ∧ (∀ i : (⟨2, ![2, 21504]⟩ : Shape).Idx, (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 i = 1#1 → r.2.mem ((c.tc : Thread Cert.ReferenceIdeal.nD Cert.ReferenceIdeal.τ).loc Cert.ReferenceIdeal.main_v0_5) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Nvfp4_Nvfp4Ideal : Prop :=
  True

def algebraic_Nvfp4Ideal_Nvfp4ReferenceIdeal [hNvfp4Ideal : Cert.Nvfp4Ideal.Facts] [hNvfp4ReferenceIdeal : Cert.Nvfp4ReferenceIdeal.Facts] : Prop :=
  ∀ (m : (ℓ : Loc Cert.Nvfp4Ideal.nD Cert.Nvfp4Ideal.τ Cert.Nvfp4Ideal.sig) → Buf (Elt Ideal) ℓ) (g : Dev Cert.Nvfp4Ideal.nD → PrngReg)
    (m' : (ℓ : Loc Cert.Nvfp4ReferenceIdeal.nD Cert.Nvfp4ReferenceIdeal.τ Cert.Nvfp4ReferenceIdeal.sig) → Buf (Elt Ideal) ℓ) (g' : Dev Cert.Nvfp4ReferenceIdeal.nD → PrngReg), Pre_Nvfp4Ideal m →
    (∀ c : Dev Cert.Nvfp4Ideal.nD,
      m' ((c.tc : Thread Cert.Nvfp4ReferenceIdeal.nD Cert.Nvfp4ReferenceIdeal.τ).loc Cert.Nvfp4ReferenceIdeal.main_arg0) = m ((c.tc : Thread Cert.Nvfp4Ideal.nD Cert.Nvfp4Ideal.τ).loc Cert.Nvfp4Ideal.main_arg0)
      ∧ m' ((c.tc : Thread Cert.Nvfp4ReferenceIdeal.nD Cert.Nvfp4ReferenceIdeal.τ).loc Cert.Nvfp4ReferenceIdeal.main_arg1) = m ((c.tc : Thread Cert.Nvfp4Ideal.nD Cert.Nvfp4Ideal.τ).loc Cert.Nvfp4Ideal.main_arg1)) →
    ∃ (v0 : (c : Dev Cert.Nvfp4Ideal.nD) → Buf (Elt Ideal) ((c.tc : Thread Cert.Nvfp4Ideal.nD Cert.Nvfp4Ideal.τ).loc Cert.Nvfp4Ideal.main_v2_1)) (v1 : (c : Dev Cert.Nvfp4Ideal.nD) → Buf (Elt Ideal) ((c.tc : Thread Cert.Nvfp4Ideal.nD Cert.Nvfp4Ideal.τ).loc Cert.Nvfp4Ideal.main_v2_2)),
      θ_run (Cert.Nvfp4Ideal.defs (F := Ideal)) (onTc (τ := Cert.Nvfp4Ideal.τ) (Cert.Nvfp4Ideal.main (F := Ideal))) ⟨m, fun _ => 0, g⟩ (fun r => ∀ c : Dev Cert.Nvfp4Ideal.nD,
          r.2.mem ((c.tc : Thread Cert.Nvfp4Ideal.nD Cert.Nvfp4Ideal.τ).loc Cert.Nvfp4Ideal.main_v2_1) = v0 c
          ∧ r.2.mem ((c.tc : Thread Cert.Nvfp4Ideal.nD Cert.Nvfp4Ideal.τ).loc Cert.Nvfp4Ideal.main_v2_2) = v1 c
          ∧ r.2.mem ((c.tc : Thread Cert.Nvfp4Ideal.nD Cert.Nvfp4Ideal.τ).loc Cert.Nvfp4Ideal.main_arg0) = m ((c.tc : Thread Cert.Nvfp4Ideal.nD Cert.Nvfp4Ideal.τ).loc Cert.Nvfp4Ideal.main_arg0)
          ∧ r.2.mem ((c.tc : Thread Cert.Nvfp4Ideal.nD Cert.Nvfp4Ideal.τ).loc Cert.Nvfp4Ideal.main_arg1) = m ((c.tc : Thread Cert.Nvfp4Ideal.nD Cert.Nvfp4Ideal.τ).loc Cert.Nvfp4Ideal.main_arg1))
      ∧ θ_run (Cert.Nvfp4ReferenceIdeal.defs (F := Ideal)) (onTc (τ := Cert.Nvfp4ReferenceIdeal.τ) (Cert.Nvfp4ReferenceIdeal.main (F := Ideal))) ⟨m', fun _ => 0, g'⟩ (fun r => ∀ c : Dev Cert.Nvfp4ReferenceIdeal.nD,
          r.2.mem ((c.tc : Thread Cert.Nvfp4ReferenceIdeal.nD Cert.Nvfp4ReferenceIdeal.τ).loc Cert.Nvfp4ReferenceIdeal.main_v0_0) = v0 c
          ∧ r.2.mem ((c.tc : Thread Cert.Nvfp4ReferenceIdeal.nD Cert.Nvfp4ReferenceIdeal.τ).loc Cert.Nvfp4ReferenceIdeal.main_v0_1) = v1 c
          ∧ r.2.mem ((c.tc : Thread Cert.Nvfp4ReferenceIdeal.nD Cert.Nvfp4ReferenceIdeal.τ).loc Cert.Nvfp4ReferenceIdeal.main_arg0) = m' ((c.tc : Thread Cert.Nvfp4ReferenceIdeal.nD Cert.Nvfp4ReferenceIdeal.τ).loc Cert.Nvfp4ReferenceIdeal.main_arg0)
          ∧ r.2.mem ((c.tc : Thread Cert.Nvfp4ReferenceIdeal.nD Cert.Nvfp4ReferenceIdeal.τ).loc Cert.Nvfp4ReferenceIdeal.main_arg1) = m' ((c.tc : Thread Cert.Nvfp4ReferenceIdeal.nD Cert.Nvfp4ReferenceIdeal.τ).loc Cert.Nvfp4ReferenceIdeal.main_arg1))

def Claim : Prop :=
  ∃ (hKernel : Cert.Kernel.Facts) (hKernelIdeal : Cert.KernelIdeal.Facts) (hReferenceIdeal : Cert.ReferenceIdeal.Facts) (hNvfp4 : Cert.Nvfp4.Facts) (hNvfp4Ideal : Cert.Nvfp4Ideal.Facts) (hNvfp4ReferenceIdeal : Cert.Nvfp4ReferenceIdeal.Facts) (hOn_everything_but_err_at_infinities : Cert.On_everything_but_err_at_infinities.Facts),
    quiescent_Kernel (hKernel := hKernel)
    ∧ quiescent_KernelIdeal (hKernelIdeal := hKernelIdeal)
    ∧ quiescent_ReferenceIdeal (hReferenceIdeal := hReferenceIdeal)
    ∧ quiescent_Nvfp4 (hNvfp4 := hNvfp4)
    ∧ quiescent_Nvfp4Ideal (hNvfp4Ideal := hNvfp4Ideal)
    ∧ quiescent_Nvfp4ReferenceIdeal (hNvfp4ReferenceIdeal := hNvfp4ReferenceIdeal)
    ∧ preserves_Kernel_KernelIdeal
    ∧ algebraic_KernelIdeal_ReferenceIdeal_on_everything_but_err_at_infinities (hKernelIdeal := hKernelIdeal) (hReferenceIdeal := hReferenceIdeal) (hOn_everything_but_err_at_infinities := hOn_everything_but_err_at_infinities)
    ∧ preserves_Nvfp4_Nvfp4Ideal
    ∧ algebraic_Nvfp4Ideal_Nvfp4ReferenceIdeal (hNvfp4Ideal := hNvfp4Ideal) (hNvfp4ReferenceIdeal := hNvfp4ReferenceIdeal)
-- ==== On_everything_but_err_at_infinities.lean ====
abbrev S2x21504x3072 : Shape := ⟨3, ![2, 21504, 3072]⟩
abbrev S2x21504 : Shape := ⟨2, ![2, 21504]⟩
abbrev S2x21504x32 : Shape := ⟨3, ![2, 21504, 32]⟩
abbrev S2x32x3072 : Shape := ⟨3, ![2, 32, 3072]⟩
abbrev S2x3072 : Shape := ⟨2, ![2, 3072]⟩
abbrev S2x4x21504x128 : Shape := ⟨4, ![2, 4, 21504, 128]⟩
abbrev S2x4x128x3072 : Shape := ⟨4, ![2, 4, 128, 3072]⟩
abbrev S2x4 : Shape := ⟨2, ![2, 4]⟩
abbrev S2x3 : Shape := ⟨2, ![2, 3]⟩
abbrev S_ : Shape := ⟨0, ![]⟩
abbrev S2 : Shape := ⟨1, ![2]⟩
abbrev S2x3x128x3072 : Shape := ⟨4, ![2, 3, 128, 3072]⟩
abbrev S2x3x21504x128 : Shape := ⟨4, ![2, 3, 21504, 128]⟩
abbrev S2x1 : Shape := ⟨2, ![2, 1]⟩

class Facts : Prop where
  slices_S2x4_S2x3_0_1 : S2x4.Slices ![0, 1] S2x3
  bcast_S_S2x3 : S_.BroadcastsInDim S2x3 (![] : Fin 0 → Fin S2x3.rank)
  reducesTo_S2x3_S2_d1 : S2x3.ReducesTo [1] S2
  h_S_ : 0 < S_.numel
  slices_S2x4x128x3072_S2x3x128x3072_0_1_0_0 : S2x4x128x3072.Slices ![0, 1, 0, 0] S2x3x128x3072
  bitsLt_bf16_f32 : FTy.bits .bf16 < FTy.bits .f32
  bcast_S_S2x3x128x3072 : S_.BroadcastsInDim S2x3x128x3072 (![] : Fin 0 → Fin S2x3x128x3072.rank)
  reducesTo_S2x3x128x3072_S2_d1_2_3 : S2x3x128x3072.ReducesTo [1, 2, 3] S2
  bcast_S_S2x21504 : S_.BroadcastsInDim S2x21504 (![] : Fin 0 → Fin S2x21504.rank)
  slices_S2x4x21504x128_S2x3x21504x128_0_1_0_0 : S2x4x21504x128.Slices ![0, 1, 0, 0] S2x3x21504x128
  bcast_S_S2x3x21504x128 : S_.BroadcastsInDim S2x3x21504x128 (![] : Fin 0 → Fin S2x3x21504x128.rank)
  reducesTo_S2x3x21504x128_S2x21504_d1_3 : S2x3x21504x128.ReducesTo [1, 3] S2x21504
  bcast_S_S2x21504x3072 : S_.BroadcastsInDim S2x21504x3072 (![] : Fin 0 → Fin S2x21504x3072.rank)
  bcast_S_S2 : S_.BroadcastsInDim S2 (![] : Fin 0 → Fin S2.rank)
  bcast_S2_S2x1_0 : S2.BroadcastsInDim S2x1 (![0] : Fin 1 → Fin S2x1.rank)
  bcast_S2x1_S2x21504_0_1 : S2x1.BroadcastsInDim S2x21504 (![0, 1] : Fin 2 → Fin S2x21504.rank)

variable [Facts]

def fn_part1 {F : FTy → Type} [FloatOps F] (main_arg6 : FVec F S2x4x21504x128 .bf16) (main_v16 : IVec S2 1) (main_v17 : FVec F S2x21504 .f32) (main_cst_3 : FVec F S_ .f32) : IVec S2x21504 1 × IVec S2x21504x3072 1 × IVec S2x21504 1 × IVec S2 1 × IVec S2x21504x3072 1 × IVec S2x21504 1 :=
  let main_v18 : FVec F S2x21504 .f32 := broadcastInDim S2x21504 ![] bcast_S_S2x21504 main_cst_3
  let main_v19 : IVec S2x21504 1 := cmpf .olt main_v17 main_v18
  let main_v20 : FVec F S2x3x21504x128 .bf16 := (extractStridedSlice S2x3x21504x128 ![0, 1, 0, 0] · slices_S2x4x21504x128_S2x3x21504x128_0_1_0_0) main_arg6
  let main_v21 : FVec F S2x3x21504x128 .f32 := (extf .f32 · bitsLt_bf16_f32) main_v20
  let main_v22 : FVec F S2x3x21504x128 .f32 := Host.absf main_v21
  let main_cst_4 : FVec F S_ .f32 := constant S_ .f32 0x7F800000#32
  let main_v23 : FVec F S2x3x21504x128 .f32 := broadcastInDim S2x3x21504x128 ![] bcast_S_S2x3x21504x128 main_cst_4
  let main_v24 : IVec S2x3x21504x128 1 := cmpf .olt main_v22 main_v23
  let main_c_5 : IVec S_ 1 := constantI S_ 1 1#1
  let main_v25 : IVec S2x21504 1 := (fun x v => Host.reduce IntOp.andi x v reducesTo_S2x3x21504x128_S2x21504_d1_3 h_S_) main_v24 main_c_5
  let main_v26 : IVec S2x21504 1 := andi main_v19 main_v25
  let main_c_6 : IVec S_ 1 := constantI S_ 1 1#1
  let main_v27 : IVec S2x21504 1 := broadcastInDim S2x21504 ![] bcast_S_S2x21504 main_c_6
  let main_c_7 : IVec S_ 1 := constantI S_ 1 1#1
  let main_v28 : IVec S2x21504x3072 1 := broadcastInDim S2x21504x3072 ![] bcast_S_S2x21504x3072 main_c_7
  let main_c_8 : IVec S_ 1 := constantI S_ 1 1#1
  let main_v29 : IVec S2x21504 1 := broadcastInDim S2x21504 ![] bcast_S_S2x21504 main_c_8
  let main_c_9 : IVec S_ 1 := constantI S_ 1 1#1
  let main_v30 : IVec S2 1 := broadcastInDim S2 ![] bcast_S_S2 main_c_9
  let main_c_10 : IVec S_ 1 := constantI S_ 1 1#1
  let main_v31 : IVec S2x21504x3072 1 := broadcastInDim S2x21504x3072 ![] bcast_S_S2x21504x3072 main_c_10
  let main_v32 : IVec S2x1 1 := broadcastInDim S2x1 ![0] bcast_S2_S2x1_0 main_v16
  let main_v33 : IVec S2x21504 1 := broadcastInDim S2x21504 ![0, 1] bcast_S2x1_S2x21504_0_1 main_v32
  let main_v34 : IVec S2x21504 1 := andi main_v26 main_v33
  (main_v27, main_v28, main_v29, main_v30, main_v31, main_v34)

def fn {F : FTy → Type} [FloatOps F] (main_arg0 : FVec F S2x21504x3072 .fp8e4m3) (main_arg1 : FVec F S2x21504 .f32) (main_arg2 : FVec F S2x21504x32 .fp8e4m3) (main_arg3 : FVec F S2x21504 .f32) (main_arg4 : FVec F S2x32x3072 .fp8e4m3) (main_arg5 : FVec F S2x3072 .f32) (main_arg6 : FVec F S2x4x21504x128 .bf16) (main_arg7 : FVec F S2x4x128x3072 .bf16) (main_arg8 : IVec S2x4 32) (main_arg9 : FVec F S2x4 .f32) (main_arg10 : FVec F S2x4 .f32) (main_arg11 : FVec F S2x21504 .f32) : IVec S2x21504 1 × IVec S2x21504x3072 1 × IVec S2x21504 1 × IVec S2 1 × IVec S2x21504x3072 1 × IVec S2x21504 1 :=
  let main_v0 : FVec F S2x3 .f32 := (extractStridedSlice S2x3 ![0, 1] · slices_S2x4_S2x3_0_1) main_arg9
  let main_v1 : FVec F S2x3 .f32 := Host.absf main_v0
  let main_cst : FVec F S_ .f32 := constant S_ .f32 0x7F800000#32
  let main_v2 : FVec F S2x3 .f32 := broadcastInDim S2x3 ![] bcast_S_S2x3 main_cst
  let main_v3 : IVec S2x3 1 := cmpf .olt main_v1 main_v2
  let main_v4 : FVec F S2x3 .f32 := (extractStridedSlice S2x3 ![0, 1] · slices_S2x4_S2x3_0_1) main_arg10
  let main_v5 : FVec F S2x3 .f32 := Host.absf main_v4
  let main_cst_0 : FVec F S_ .f32 := constant S_ .f32 0x7F800000#32
  let main_v6 : FVec F S2x3 .f32 := broadcastInDim S2x3 ![] bcast_S_S2x3 main_cst_0
  let main_v7 : IVec S2x3 1 := cmpf .olt main_v5 main_v6
  let main_v8 : IVec S2x3 1 := andi main_v3 main_v7
  let main_c : IVec S_ 1 := constantI S_ 1 1#1
  let main_v9 : IVec S2 1 := (fun x v => Host.reduce IntOp.andi x v reducesTo_S2x3_S2_d1 h_S_) main_v8 main_c
  let main_v10 : FVec F S2x3x128x3072 .bf16 := (extractStridedSlice S2x3x128x3072 ![0, 1, 0, 0] · slices_S2x4x128x3072_S2x3x128x3072_0_1_0_0) main_arg7
  let main_v11 : FVec F S2x3x128x3072 .f32 := (extf .f32 · bitsLt_bf16_f32) main_v10
  let main_v12 : FVec F S2x3x128x3072 .f32 := Host.absf main_v11
  let main_cst_1 : FVec F S_ .f32 := constant S_ .f32 0x7F800000#32
  let main_v13 : FVec F S2x3x128x3072 .f32 := broadcastInDim S2x3x128x3072 ![] bcast_S_S2x3x128x3072 main_cst_1
  let main_v14 : IVec S2x3x128x3072 1 := cmpf .olt main_v12 main_v13
  let main_c_2 : IVec S_ 1 := constantI S_ 1 1#1
  let main_v15 : IVec S2 1 := (fun x v => Host.reduce IntOp.andi x v reducesTo_S2x3x128x3072_S2_d1_2_3 h_S_) main_v14 main_c_2
  let main_v16 : IVec S2 1 := andi main_v9 main_v15
  let main_v17 : FVec F S2x21504 .f32 := Host.absf main_arg11
  let main_cst_3 : FVec F S_ .f32 := constant S_ .f32 0x7F800000#32
  fn_part1 (F := F) main_arg6 main_v16 main_v17 main_cst_3
-- ==== Kernel.lean ====
abbrev S2x21504x3072 : Shape := ⟨3, ![2, 21504, 3072]⟩
abbrev S2x21504 : Shape := ⟨2, ![2, 21504]⟩
abbrev S2x21504x32 : Shape := ⟨3, ![2, 21504, 32]⟩
abbrev S2x32x3072 : Shape := ⟨3, ![2, 32, 3072]⟩
abbrev S2x3072 : Shape := ⟨2, ![2, 3072]⟩
abbrev S2x4x21504x128 : Shape := ⟨4, ![2, 4, 21504, 128]⟩
abbrev S2x4x128x3072 : Shape := ⟨4, ![2, 4, 128, 3072]⟩
abbrev S2x4 : Shape := ⟨2, ![2, 4]⟩
abbrev S2x1x21504 : Shape := ⟨3, ![2, 1, 21504]⟩
abbrev S2x3x21504 : Shape := ⟨3, ![2, 3, 21504]⟩
abbrev S2x32x21504 : Shape := ⟨3, ![2, 32, 21504]⟩
abbrev S2x512x3072 : Shape := ⟨3, ![2, 512, 3072]⟩
abbrev S2x1x3072 : Shape := ⟨3, ![2, 1, 3072]⟩
abbrev S2x8x128 : Shape := ⟨3, ![2, 8, 128]⟩
abbrev S1x256x3072 : Shape := ⟨3, ![1, 256, 3072]⟩
abbrev S1x3x256 : Shape := ⟨3, ![1, 3, 256]⟩
abbrev S1x32x256 : Shape := ⟨3, ![1, 32, 256]⟩
abbrev S1x32x3072 : Shape := ⟨3, ![1, 32, 3072]⟩
abbrev S1x1x3072 : Shape := ⟨3, ![1, 1, 3072]⟩
abbrev S1x4x256x128 : Shape := ⟨4, ![1, 4, 256, 128]⟩
abbrev S1x512x3072 : Shape := ⟨3, ![1, 512, 3072]⟩
abbrev S1x8x128 : Shape := ⟨3, ![1, 8, 128]⟩
abbrev S1x1x256 : Shape := ⟨3, ![1, 1, 256]⟩
abbrev S1x256 : Shape := ⟨2, ![1, 256]⟩
abbrev S128x256 : Shape := ⟨2, ![128, 256]⟩
abbrev S256x128 : Shape := ⟨2, ![256, 128]⟩
abbrev S1x1x256x128 : Shape := ⟨4, ![1, 1, 256, 128]⟩
abbrev S1x1 : Shape := ⟨2, ![1, 1]⟩
abbrev S256x384 : Shape := ⟨2, ![256, 384]⟩
abbrev S256x256 : Shape := ⟨2, ![256, 256]⟩
abbrev S32x256 : Shape := ⟨2, ![32, 256]⟩
abbrev S1x128x256 : Shape := ⟨3, ![1, 128, 256]⟩
abbrev S1x256x256 : Shape := ⟨3, ![1, 256, 256]⟩
abbrev S256 : Shape := ⟨1, ![256]⟩
abbrev S256x1 : Shape := ⟨2, ![256, 1]⟩
abbrev S1x384x256 : Shape := ⟨3, ![1, 384, 256]⟩
abbrev S384x256 : Shape := ⟨2, ![384, 256]⟩
abbrev S1 : Shape := ⟨1, ![1]⟩
abbrev S8x128 : Shape := ⟨2, ![8, 128]⟩
abbrev S2x1x1 : Shape := ⟨3, ![2, 1, 1]⟩
abbrev S2 : Shape := ⟨1, ![2]⟩
abbrev S_ : Shape := ⟨0, ![]⟩

abbrev nBuf : Space → Nat
  | .hbm => 37
  | .vmem => 22
  | .smem => 2
  | _ => 0

abbrev bufTy : (tb : Table) → Fin (tcTables nBuf tb) → BufTy
  | .hbm, ⟨0, _⟩ => ⟨S2x21504x3072, .fp8e4m3⟩
  | .hbm, ⟨1, _⟩ => ⟨S2x21504, .f32⟩
  | .hbm, ⟨2, _⟩ => ⟨S2x21504x32, .fp8e4m3⟩
  | .hbm, ⟨3, _⟩ => ⟨S2x21504, .f32⟩
  | .hbm, ⟨4, _⟩ => ⟨S2x32x3072, .fp8e4m3⟩
  | .hbm, ⟨5, _⟩ => ⟨S2x3072, .f32⟩
  | .hbm, ⟨6, _⟩ => ⟨S2x4x21504x128, .bf16⟩
  | .hbm, ⟨7, _⟩ => ⟨S2x4x128x3072, .bf16⟩
  | .hbm, ⟨8, _⟩ => ⟨S2x4, .i32⟩
  | .hbm, ⟨9, _⟩ => ⟨S2x4, .f32⟩
  | .hbm, ⟨10, _⟩ => ⟨S2x4, .f32⟩
  | .hbm, ⟨11, _⟩ => ⟨S2x21504, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S2x1x21504, .f32⟩
  | .hbm, ⟨16, _⟩ => ⟨S2x1x21504, .f32⟩
  | .hbm, ⟨17, _⟩ => ⟨S2x1x21504, .f32⟩
  | .hbm, ⟨18, _⟩ => ⟨S2x3x21504, .f32⟩
  | .hbm, ⟨19, _⟩ => ⟨S2x32x21504, .fp8e4m3⟩
  | .hbm, ⟨20, _⟩ => ⟨S2x512x3072, .bf16⟩
  | .hbm, ⟨21, _⟩ => ⟨S2x1x3072, .f32⟩
  | .hbm, ⟨22, _⟩ => ⟨S2x21504x3072, .fp8e4m3⟩
  | .hbm, ⟨23, _⟩ => ⟨S2x21504x3072, .f32⟩
  | .hbm, ⟨24, _⟩ => ⟨S2x3x21504, .f32⟩
  | .hbm, ⟨25, _⟩ => ⟨S2x8x128, .f32⟩
  | .hbm, ⟨26, _⟩ => ⟨S2x1x1, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S2x1x21504, .f32⟩
  | .hbm, ⟨32, _⟩ => ⟨S2x21504, .f32⟩
  | .hbm, ⟨33, _⟩ => ⟨S2x1x21504, .f32⟩
  | .hbm, ⟨34, _⟩ => ⟨S2x21504, .f32⟩
  | .hbm, ⟨35, _⟩ => ⟨S2x1x21504, .f32⟩
  | .hbm, ⟨36, _⟩ => ⟨S2x21504, .f32⟩
  | .local _ .vmem, ⟨0, _⟩ => ⟨S1x256x3072, .fp8e4m3⟩
  | .local _ .vmem, ⟨1, _⟩ => ⟨S1x256x3072, .fp8e4m3⟩
  | .local _ .vmem, ⟨2, _⟩ => ⟨S1x3x256, .f32⟩
  | .local _ .vmem, ⟨3, _⟩ => ⟨S1x3x256, .f32⟩
  | .local _ .vmem, ⟨4, _⟩ => ⟨S1x32x256, .fp8e4m3⟩
  | .local _ .vmem, ⟨5, _⟩ => ⟨S1x32x256, .fp8e4m3⟩
  | .local _ .vmem, ⟨6, _⟩ => ⟨S1x32x3072, .fp8e4m3⟩
  | .local _ .vmem, ⟨7, _⟩ => ⟨S1x32x3072, .fp8e4m3⟩
  | .local _ .vmem, ⟨8, _⟩ => ⟨S1x1x3072, .f32⟩
  | .local _ .vmem, ⟨9, _⟩ => ⟨S1x1x3072, .f32⟩
  | .local _ .vmem, ⟨10, _⟩ => ⟨S1x4x256x128, .bf16⟩
  | .local _ .vmem, ⟨11, _⟩ => ⟨S1x4x256x128, .bf16⟩
  | .local _ .vmem, ⟨12, _⟩ => ⟨S1x512x3072, .bf16⟩
  | .local _ .vmem, ⟨13, _⟩ => ⟨S1x512x3072, .bf16⟩
  | .local _ .vmem, ⟨14, _⟩ => ⟨S1x256x3072, .fp8e4m3⟩
  | .local _ .vmem, ⟨15, _⟩ => ⟨S1x256x3072, .fp8e4m3⟩
  | .local _ .vmem, ⟨16, _⟩ => ⟨S1x256x3072, .f32⟩
  | .local _ .vmem, ⟨17, _⟩ => ⟨S1x256x3072, .f32⟩
  | .local _ .vmem, ⟨18, _⟩ => ⟨S1x3x256, .f32⟩
  | .local _ .vmem, ⟨19, _⟩ => ⟨S1x3x256, .f32⟩
  | .local _ .vmem, ⟨20, _⟩ => ⟨S1x8x128, .f32⟩
  | .local _ .vmem, ⟨21, _⟩ => ⟨S1x8x128, .f32⟩
  | .local _ .smem, ⟨0, _⟩ => ⟨S2x4, .f32⟩
  | .local _ .smem, ⟨1, _⟩ => ⟨S2x4, .i32⟩
  | _, _ => ⟨S2x21504x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 84], ![false, false]⟩

def k0_off1 (i : grid0.Coords) : Fin 2 → Nat :=
  let arg0 : BitVec 32 := BitVec.ofNat 32 (i 0).val
  let v19 : Index := Scalar.indexCast arg0
  let c0_10 : Index := 0#32
  ![v19.toNat, 0]
def k0_off2 (i : grid0.Coords) : Fin 2 → Nat :=
  let arg0 : BitVec 32 := BitVec.ofNat 32 (i 0).val
  let v33 : Index := Scalar.indexCast arg0
  let c1_16 : Index := 1#32
  ![v33.toNat, 1]
def k0_off3 (i : grid0.Coords) : Fin 2 → Nat :=
  let arg0 : BitVec 32 := BitVec.ofNat 32 (i 0).val
  let v47 : Index := Scalar.indexCast arg0
  let c2_23 : Index := 2#32
  ![v47.toNat, 2]
def k0_off4 (i : grid0.Coords) : Fin 2 → Nat :=
  let arg0 : BitVec 32 := BitVec.ofNat 32 (i 0).val
  let v61 : Index := Scalar.indexCast arg0
  let c3_29 : Index := 3#32
  ![v61.toNat, 3]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x3072 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S2x21504x3072 : Shape := ⟨3, ![2, 21504, 3072]⟩
abbrev S2x21504 : Shape := ⟨2, ![2, 21504]⟩
abbrev S2x21504x32 : Shape := ⟨3, ![2, 21504, 32]⟩
abbrev S2x32x3072 : Shape := ⟨3, ![2, 32, 3072]⟩
abbrev S2x3072 : Shape := ⟨2, ![2, 3072]⟩
abbrev S2x4x21504x128 : Shape := ⟨4, ![2, 4, 21504, 128]⟩
abbrev S2x4x128x3072 : Shape := ⟨4, ![2, 4, 128, 3072]⟩
abbrev S2x4 : Shape := ⟨2, ![2, 4]⟩
abbrev S2 : Shape := ⟨1, ![2]⟩
abbrev S2x21504x1 : Shape := ⟨3, ![2, 21504, 1]⟩
abbrev S2x1x3072 : Shape := ⟨3, ![2, 1, 3072]⟩
abbrev S2x4x1x128 : Shape := ⟨4, ![2, 4, 1, 128]⟩
abbrev S2x4x1x1 : Shape := ⟨4, ![2, 4, 1, 1]⟩
abbrev S2x3x21504x128 : Shape := ⟨4, ![2, 3, 21504, 128]⟩
abbrev S2x21504x3x128 : Shape := ⟨4, ![2, 21504, 3, 128]⟩
abbrev S2x21504x384 : Shape := ⟨3, ![2, 21504, 384]⟩
abbrev S2x3x128x3072 : Shape := ⟨4, ![2, 3, 128, 3072]⟩
abbrev S2x384x3072 : Shape := ⟨3, ![2, 384, 3072]⟩
abbrev S2x1x21504x128 : Shape := ⟨4, ![2, 1, 21504, 128]⟩
abbrev S2x21504x128 : Shape := ⟨3, ![2, 21504, 128]⟩
abbrev S2x1x128x3072 : Shape := ⟨4, ![2, 1, 128, 3072]⟩
abbrev S2x128x3072 : Shape := ⟨3, ![2, 128, 3072]⟩

abbrev nBuf : Space → Nat
  | .hbm => 18
  | .vmem => 18
  | .smem => 0
  | _ => 0

abbrev bufTy : (tb : Table) → Fin (tcTables nBuf tb) → BufTy
  | .hbm, ⟨0, _⟩ => ⟨S2x21504x3072, .fp8e4m3⟩
  | .hbm, ⟨1, _⟩ => ⟨S2x21504, .f32⟩
  | .hbm, ⟨2, _⟩ => ⟨S2x21504x32, .fp8e4m3⟩
  | .hbm, ⟨3, _⟩ => ⟨S2x21504, .f32⟩
  | .hbm, ⟨4, _⟩ => ⟨S2x32x3072, .fp8e4m3⟩
  | .hbm, ⟨5, _⟩ => ⟨S2x3072, .f32⟩
  | .hbm, ⟨6, _⟩ => ⟨S2x4x21504x128, .bf16⟩
  | .hbm, ⟨7, _⟩ => ⟨S2x4x128x3072, .bf16⟩
  | .hbm, ⟨8, _⟩ => ⟨S2x4, .i32⟩
  | .hbm, ⟨9, _⟩ => ⟨S2x4, .f32⟩
  | .hbm, ⟨10, _⟩ => ⟨S2x4, .f32⟩
  | .hbm, ⟨11, _⟩ => ⟨S2x21504, .f32⟩
  | .hbm, ⟨12, _⟩ => ⟨S2x21504, .f32⟩
  | .hbm, ⟨13, _⟩ => ⟨S2x21504x3072, .fp8e4m3⟩
  | .hbm, ⟨14, _⟩ => ⟨S2x21504, .f32⟩
  | .hbm, ⟨15, _⟩ => ⟨S2, .f32⟩
  | .hbm, ⟨16, _⟩ => ⟨S2x21504x3072, .f32⟩
  | .hbm, ⟨17, _⟩ => ⟨S2x21504, .f32⟩
  | .local _ .vmem, ⟨0, _⟩ => ⟨S2x21504x3072, .fp8e4m3⟩
  | .local _ .vmem, ⟨1, _⟩ => ⟨S2x21504, .f32⟩
  | .local _ .vmem, ⟨2, _⟩ => ⟨S2x21504x32, .fp8e4m3⟩
  | .local _ .vmem, ⟨3, _⟩ => ⟨S2x21504, .f32⟩
  | .local _ .vmem, ⟨4, _⟩ => ⟨S2x32x3072, .fp8e4m3⟩
  | .local _ .vmem, ⟨5, _⟩ => ⟨S2x3072, .f32⟩
  | .local _ .vmem, ⟨6, _⟩ => ⟨S2x4x21504x128, .bf16⟩
  | .local _ .vmem, ⟨7, _⟩ => ⟨S2x4x128x3072, .bf16⟩
  | .local _ .vmem, ⟨8, _⟩ => ⟨S2x4, .i32⟩
  | .local _ .vmem, ⟨9, _⟩ => ⟨S2x4, .f32⟩
  | .local _ .vmem, ⟨10, _⟩ => ⟨S2x4, .f32⟩
  | .local _ .vmem, ⟨11, _⟩ => ⟨S2x21504, .f32⟩
  | .local _ .vmem, ⟨12, _⟩ => ⟨S2x21504, .f32⟩
  | .local _ .vmem, ⟨13, _⟩ => ⟨S2x21504x3072, .fp8e4m3⟩
  | .local _ .vmem, ⟨14, _⟩ => ⟨S2x21504, .f32⟩
  | .local _ .vmem, ⟨15, _⟩ => ⟨S2, .f32⟩
  | .local _ .vmem, ⟨16, _⟩ => ⟨S2x21504x3072, .f32⟩
  | .local _ .vmem, ⟨17, _⟩ => ⟨S2x21504, .f32⟩
  | _, _ => ⟨S2x21504x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S2x21504x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x21504 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x21504x32 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x21504x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x128x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x21504 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x21504 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x21504x3072 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x21504 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x21504x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x21504 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Nvfp4.lean ====
abbrev S2 : Shape := ⟨1, ![2]⟩
abbrev S2x21504x3072 : Shape := ⟨3, ![2, 21504, 3072]⟩
abbrev S2x1x1 : Shape := ⟨3, ![2, 1, 1]⟩
abbrev S2x8x128 : Shape := ⟨3, ![2, 8, 128]⟩
abbrev S2x21504x1536 : Shape := ⟨3, ![2, 21504, 1536]⟩
abbrev S2x192x21504 : Shape := ⟨3, ![2, 192, 21504]⟩
abbrev S2x1x21504 : Shape := ⟨3, ![2, 1, 21504]⟩
abbrev S1x8x128 : Shape := ⟨3, ![1, 8, 128]⟩
abbrev S1x256x3072 : Shape := ⟨3, ![1, 256, 3072]⟩
abbrev S1x256x1536 : Shape := ⟨3, ![1, 256, 1536]⟩
abbrev S1x192x256 : Shape := ⟨3, ![1, 192, 256]⟩
abbrev S1x1x256 : Shape := ⟨3, ![1, 1, 256]⟩
abbrev S1x1x128 : Shape := ⟨3, ![1, 1, 128]⟩
abbrev S1x128 : Shape := ⟨2, ![1, 128]⟩
abbrev S1x128x512 : Shape := ⟨3, ![1, 128, 512]⟩
abbrev S128x512 : Shape := ⟨2, ![128, 512]⟩
abbrev S512x128 : Shape := ⟨2, ![512, 128]⟩
abbrev S32x16x128 : Shape := ⟨3, ![32, 16, 128]⟩
abbrev S32x128 : Shape := ⟨2, ![32, 128]⟩
abbrev S1x32x128 : Shape := ⟨3, ![1, 32, 128]⟩
abbrev S32x1x128 : Shape := ⟨3, ![32, 1, 128]⟩
abbrev S128 : Shape := ⟨1, ![128]⟩
abbrev S64x8x128 : Shape := ⟨3, ![64, 8, 128]⟩
abbrev S64x1x128 : Shape := ⟨3, ![64, 1, 128]⟩
abbrev S64x128 : Shape := ⟨2, ![64, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 7
  | .vmem => 10
  | .smem => 0
  | _ => 0

abbrev bufTy : (tb : Table) → Fin (tcTables nBuf tb) → BufTy
  | .hbm, ⟨0, _⟩ => ⟨S2, .f32⟩
  | .hbm, ⟨1, _⟩ => ⟨S2x21504x3072, .f32⟩
  | .hbm, ⟨2, _⟩ => ⟨S2x1x1, .f32⟩
  | .hbm, ⟨3, _⟩ => ⟨S2x8x128, .f32⟩
  | .hbm, ⟨4, _⟩ => ⟨S2x21504x1536, .i8⟩
  | .hbm, ⟨5, _⟩ => ⟨S2x192x21504, .fp8e4m3⟩
  | .hbm, ⟨6, _⟩ => ⟨S2x1x21504, .f32⟩
  | .local _ .vmem, ⟨0, _⟩ => ⟨S1x8x128, .f32⟩
  | .local _ .vmem, ⟨1, _⟩ => ⟨S1x8x128, .f32⟩
  | .local _ .vmem, ⟨2, _⟩ => ⟨S1x256x3072, .f32⟩
  | .local _ .vmem, ⟨3, _⟩ => ⟨S1x256x3072, .f32⟩
  | .local _ .vmem, ⟨4, _⟩ => ⟨S1x256x1536, .i8⟩
  | .local _ .vmem, ⟨5, _⟩ => ⟨S1x256x1536, .i8⟩
  | .local _ .vmem, ⟨6, _⟩ => ⟨S1x192x256, .fp8e4m3⟩
  | .local _ .vmem, ⟨7, _⟩ => ⟨S1x192x256, .fp8e4m3⟩
  | .local _ .vmem, ⟨8, _⟩ => ⟨S1x1x256, .f32⟩
  | .local _ .vmem, ⟨9, _⟩ => ⟨S1x1x256, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 84], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Nvfp4ReferenceIdeal.lean ====
abbrev S2 : Shape := ⟨1, ![2]⟩
abbrev S2x21504x3072 : Shape := ⟨3, ![2, 21504, 3072]⟩
abbrev S2x192x21504 : Shape := ⟨3, ![2, 192, 21504]⟩
abbrev S2x1x21504 : Shape := ⟨3, ![2, 1, 21504]⟩
abbrev S2x3072x21504 : Shape := ⟨3, ![2, 3072, 21504]⟩
abbrev S2x192x16x21504 : Shape := ⟨4, ![2, 192, 16, 21504]⟩
abbrev S2x1x1 : Shape := ⟨3, ![2, 1, 1]⟩
abbrev S2x192x1x21504 : Shape := ⟨4, ![2, 192, 1, 21504]⟩
abbrev S2x21504 : Shape := ⟨2, ![2, 21504]⟩

abbrev nBuf : Space → Nat
  | .hbm => 4
  | .vmem => 4
  | .smem => 0
  | _ => 0

abbrev bufTy : (tb : Table) → Fin (tcTables nBuf tb) → BufTy
  | .hbm, ⟨0, _⟩ => ⟨S2, .f32⟩
  | .hbm, ⟨1, _⟩ => ⟨S2x21504x3072, .f32⟩
  | .hbm, ⟨2, _⟩ => ⟨S2x192x21504, .fp8e4m3⟩
  | .hbm, ⟨3, _⟩ => ⟨S2x1x21504, .f32⟩
  | .local _ .vmem, ⟨0, _⟩ => ⟨S2, .f32⟩
  | .local _ .vmem, ⟨1, _⟩ => ⟨S2x21504x3072, .f32⟩
  | .local _ .vmem, ⟨2, _⟩ => ⟨S2x192x21504, .fp8e4m3⟩
  | .local _ .vmem, ⟨3, _⟩ => ⟨S2x1x21504, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x21504x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x192x21504 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.BRun.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Tactic

@[expose] public section

-- membership in a rectangle of production extents (`View.cover_of_tiled`): the elaborator's structural look
-- recurses once per coordinate of the long axes
set_option maxRecDepth 16384

noncomputable section

namespace Cert.Kernel.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1236000 in
/-- The run of one grid step of the merge kernel. On whole staging buffers, the inputs' at their contents and the
    last output (the running maximum) at any contents `x12`, the body runs to the continuation that holds the inputs
    as they were and each output buffer with the pieces this term carries. The pieces of the first three outputs do
    not depend on `x12`; the last output's piece does, since the body reads it before it writes it. -/
noncomputable def mergeRun (c : Dev nD) (i : grid0.Coords) (arg2 : Memref sig .tc .smem S2x4 .f32) (harg2 : arg2.IsWhole) (arg3 : Memref sig .tc .smem S2x4 .i32) (harg3 : arg3.IsWhole) (arg4 : Memref sig .tc .vmem S1x256x3072 .fp8e4m3) (harg4 : arg4.IsWhole) (arg5 : Memref sig .tc .vmem S1x3x256 .f32) (harg5 : arg5.IsWhole) (arg6 : Memref sig .tc .vmem S1x32x256 .fp8e4m3) (harg6 : arg6.IsWhole) (arg7 : Memref sig .tc .vmem S1x32x3072 .fp8e4m3) (harg7 : arg7.IsWhole) (arg8 : Memref sig .tc .vmem S1x1x3072 .f32) (harg8 : arg8.IsWhole) (arg9 : Memref sig .tc .vmem S1x4x256x128 .bf16) (harg9 : arg9.IsWhole) (arg10 : Memref sig .tc .vmem S1x512x3072 .bf16) (harg10 : arg10.IsWhole) (arg11 : Memref sig .tc .vmem S1x256x3072 .fp8e4m3) (harg11 : arg11.IsWhole) (arg12 : Memref sig .tc .vmem S1x256x3072 .f32) (harg12 : arg12.IsWhole) (arg13 : Memref sig .tc .vmem S1x3x256 .f32) (harg13 : arg13.IsWhole) (arg14 : Memref sig .tc .vmem S1x8x128 .f32) (harg14 : arg14.IsWhole)
    (x0 : Vec F S2x4 .f32) (x1 : Vec F S2x4 .i32) (x2 : Vec F S1x256x3072 .fp8e4m3) (x3 : Vec F S1x3x256 .f32) (x4 : Vec F S1x32x256 .fp8e4m3) (x5 : Vec F S1x32x3072 .fp8e4m3) (x6 : Vec F S1x1x3072 .f32) (x7 : Vec F S1x4x256x128 .bf16) (x8 : Vec F S1x512x3072 .bf16) :
    Σ' (L9 : List (View.Piece (Elt F) S1x256x3072 .fp8e4m3)), Σ' (L10 : List (View.Piece (Elt F) S1x256x3072 .f32)), Σ' (L11 : List (View.Piece (Elt F) S1x3x256 .f32)), { L12 : Vec F S1x8x128 .f32 → List (View.Piece (Elt F) S1x8x128 .f32) //
      ∀ (xo12 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f (L12 xo12))) -∗ K ⟨⟩))
          ⊢ wp frame (wpE (defs₀ (F := F)) Variants.none c none) E (cc0_merge_fp8 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xo12 E K => ?run⟩
  case run =>
    simp only [cc0_merge_fp8_eq_skeleton]; unfold cc0_merge_fp8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    iexists _; iexact H12

end Cert.Kernel.Merge

end
-- ==== Proof.BFrame.lean ====
/- The frame of the merge kernel with what its output buffers hold at every grid point. The body reads the
   running-maximum buffer before it writes it; at the first tile of a batch the value it writes does not depend on what it
   read, so the buffer's contents are determined from there on (`topAt`). -/
module

public import proofs.«01_k».proof.Proof.BRun
public import proofs.«01_k».proof.Proof.Gen.Kernel.Launch
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VO0_9 : View sig .tc .vmem S1x256x3072 .fp8e4m3 := (Memref.whole cc0_stg9_0 : Memref sig .tc .vmem S1x256x3072 .fp8e4m3).view
abbrev VO0_10 : View sig .tc .vmem S1x256x3072 .f32 := (Memref.whole cc0_stg10_0 : Memref sig .tc .vmem S1x256x3072 .f32).view
abbrev VO0_11 : View sig .tc .vmem S1x3x256 .f32 := (Memref.whole cc0_stg11_0 : Memref sig .tc .vmem S1x3x256 .f32).view
abbrev VO0_12 : View sig .tc .vmem S1x8x128 .f32 := (Memref.whole cc0_stg12_0 : Memref sig .tc .vmem S1x8x128 .f32).view
abbrev ms0_0 (t : Fin cfg0.N) : Memref sig .tc .smem S2x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x3072 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x3072 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x3072 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x256x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x3072 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x3072 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x3072 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x3x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x128 .f32 := win0_12.stage (cfg0.slots t 12)
abbrev hs0_12 (t : Fin cfg0.N) : (ms0_12 t).IsWhole := hstage0_12 ((cfg0.slots t 12).cast nbuf0_12)

/-- The run at grid point `t`, on the point's staging buffers and input blocks. -/
abbrev runAt (c : Dev nD) (t : Fin cfg0.N) :=
  mergeRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t)

/-- The pieces stored into the codes window cover its block. -/
theorem cover9 (c : Dev nD) (t : Fin cfg0.N) (y : S1x256x3072.Idx) :
    ∃ pc ∈ (runAt m c t).1, y ∈ pc.1.set :=
  View.cover_of_tiledL ((runAt m c t).1) S1x256x256.size (by sl_kernel_rfl) y

/-- What the point leaves in the codes window. -/
def out9 (c : Dev nD) (t : Fin cfg0.N) : Vec F S1x256x3072 .fp8e4m3 :=
  VO0_9.read (Elt F) (VO0_9.writes (Elt F) VO0_9.junk ((runAt m c t).1))

/-- The pieces stored into the merged weights window cover its block. -/
theorem cover10 (c : Dev nD) (t : Fin cfg0.N) (y : S1x256x3072.Idx) :
    ∃ pc ∈ (runAt m c t).2.1, y ∈ pc.1.set :=
  View.cover_of_tiledL ((runAt m c t).2.1) S1x256x256.size (by sl_kernel_rfl) y

/-- What the point leaves in the merged weights window. -/
def out10 (c : Dev nD) (t : Fin cfg0.N) : Vec F S1x256x3072 .f32 :=
  VO0_10.read (Elt F) (VO0_10.writes (Elt F) VO0_10.junk ((runAt m c t).2.1))

/-- The pieces stored into the row statistics window cover its block. -/
theorem cover11 (c : Dev nD) (t : Fin cfg0.N) (y : S1x3x256.Idx) :
    ∃ pc ∈ (runAt m c t).2.2.1, y ∈ pc.1.set :=
  View.cover_of_tiledL ((runAt m c t).2.2.1) S1x1x256.size (by sl_kernel_rfl) y

/-- What the point leaves in the row statistics window. -/
def out11 (c : Dev nD) (t : Fin cfg0.N) : Vec F S1x3x256 .f32 :=
  VO0_11.read (Elt F) (VO0_11.writes (Elt F) VO0_11.junk ((runAt m c t).2.2.1))

/-- The pieces stored into the running maximum window cover its block. -/
theorem cover12 (c : Dev nD) (t : Fin cfg0.N) (x : Vec F S1x8x128 .f32) (y : S1x8x128.Idx) :
    ∃ pc ∈ (runAt m c t).2.2.2.1 x, y ∈ pc.1.set :=
  View.cover_of_tiledL ((runAt m c t).2.2.2.1 x) S1x8x128.size (by sl_kernel_rfl) y

/-- What the point leaves in the running maximum window. -/
def out12 (c : Dev nD) (t : Fin cfg0.N) (x : Vec F S1x8x128 .f32) : Vec F S1x8x128 .f32 :=
  VO0_12.read (Elt F) (VO0_12.writes (Elt F) VO0_12.junk ((runAt m c t).2.2.2.1 x))

/-- The word the last store selects on, at a point: one exactly at the first tile of a batch. -/
theorem first_iff (t : Fin cfg0.N) (h : t.val % 84 = 0) : BitVec.ofNat 32 (grid0.coords t 1).val = 0#32 := by
  have e1 : (grid0.coords t 1).val = t.val / 1 % 84 := Pipeline.Grid.coords_val t 1 (by decide) rfl
  rw [e1, Nat.div_one, h]

/-- At the first tile of a batch the selected value does not depend on what was read. -/
theorem pay154_first (b : BitVec 32) (hb : b = 0#32) (v : FVec F S256x1 .f32) (x y : Vec F S1x8x128 .f32) :
    k0_pay154 b v x = k0_pay154 b v y := by
  subst hb; rfl

/-- At the first tile of a batch the running maximum left does not depend on what the buffer held. -/
theorem out12_first (c : Dev nD) (t : Fin cfg0.N) (h : t.val % 84 = 0) (x y : Vec F S1x8x128 .f32) :
    out12 m c t x = out12 m c t y := by
  have e : (runAt m c t).2.2.2.1 x = (runAt m c t).2.2.2.1 y :=
    congrArg (fun z => [(⟨Rect.unit ![0, 0, 0] S1x8x128.size inb_S1x8x128_S1x8x128_0_0_0, k0_pay1 z⟩ : View.Piece (Elt F) S1x8x128 .f32)])
      (pay154_first _ (first_iff t h) _ _ _)
  unfold out12
  rw [e]

/-- The running maximum's buffer after the body at position `n`. -/
def topAt (c : Dev nD) : (n : ℕ) → n < cfg0.N → Vec F S1x8x128 .f32
  | 0, hn => out12 m c ⟨0, hn⟩ (VO0_12.read (Elt F) VO0_12.junk)
  | n + 1, hn => out12 m c ⟨n + 1, hn⟩ (topAt c n (Nat.lt_of_succ_lt hn))

/-- The pipeline's proof data: the arrays as the region finds them; after the body each input buffer at its block, each
    output buffer at what the point leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => out10 m c t
    | ⟨11, _⟩ => out11 m c t
    | ⟨12, _⟩ => topAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 m c t := by dsimp only [dats]
theorem after_10 (c : Dev nD) (t : Fin cfg0.N) : (dats m 0 c).after 10 t = out10 m c t := by dsimp only [dats]
theorem after_11 (c : Dev nD) (t : Fin cfg0.N) : (dats m 0 c).after 11 t = out11 m c t := by dsimp only [dats]
theorem after_12 (c : Dev nD) (t : Fin cfg0.N) : (dats m 0 c).after 12 t = topAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- No window is idle anywhere. -/
theorem live (w : Fin cfg0.W) (t : Fin cfg0.N) : cfg0.idle w (grid0.coords t) = false := by
  fin_cases w <;> rfl

/-- Whether the running maximum's buffer is fresh (written back since it was last stored into): at the first tile of
    a batch only. -/
def freshTab (n : ℕ) : Bool := n % 84 == 0
theorem freshTab_step : ∀ t : Fin cfg0.N,
    freshTab (t.val + 1) = ((cfg0.win 12).flush t || (cfg0.idle 12 (cfg0.grid.coords t) && freshTab t.val)) := by decide +kernel
theorem fresh_eq (t : Fin cfg0.N) : cfg0.fresh 12 t.val = freshTab t.val :=
  Pipeline.Cfg.fresh_tab cfg0 12 freshTab rfl freshTab_step t.val (Nat.le_of_lt t.isLt)

/-- Past the first tile of a batch the running maximum's buffer holds what the point before left. -/
theorem before_12 (c : Dev nD) (t : Fin cfg0.N) (h : t.val % 84 ≠ 0) (d) :
    (dats m 0 c).before 12 t d = topAt m c (t.val - 1) (Nat.lt_of_le_of_lt (Nat.sub_le _ _) t.isLt) := by
  rw [Dat.before_out_traj _ 12 rfl (fun _ _ => rfl)
    (fun t _ hi _ => absurd hi (by rw [live]; exact Bool.false_ne_true)) t.val t rfl d, if_neg ?_]
  · dsimp only [dats]
  · rw [fresh_eq t]; simp [freshTab, h]

/-- What the point leaves in the running maximum's buffer, whatever value of the buffer the pipeline hands over. -/
theorem topAt_before (c : Dev nD) (t : Fin cfg0.N) (d) :
    out12 m c t ((dats m 0 c).before 12 t d) = topAt m c t.val t.isLt := by
  obtain ⟨n, hn⟩ := t
  cases n with
  | zero => exact out12_first m c ⟨0, hn⟩ rfl _ _
  | succ n =>
    by_cases h : (n + 1) % 84 = 0
    · exact out12_first m c ⟨n + 1, hn⟩ h _ _
    · rw [before_12 m c ⟨n + 1, hn⟩ h d]; rfl

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 2400000 in
/-- The body at any point: the run applies to the point's blocks; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live 0 t], after_0]
  rw [show (dats m 0 c).leavesExact 1 t = owns (c : Thread nD τ) (ms0_1 t) fullShare ((dats m 0 c).after 1 t) from by
    unfold Dat.leavesExact; rw [live 1 t], after_1]
  rw [show (dats m 0 c).leavesExact 2 t = owns (c : Thread nD τ) (ms0_2 t) fullShare ((dats m 0 c).after 2 t) from by
    unfold Dat.leavesExact; rw [live 2 t], after_2]
  rw [show (dats m 0 c).leavesExact 3 t = owns (c : Thread nD τ) (ms0_3 t) fullShare ((dats m 0 c).after 3 t) from by
    unfold Dat.leavesExact; rw [live 3 t], after_3]
  rw [show (dats m 0 c).leavesExact 4 t = owns (c : Thread nD τ) (ms0_4 t) fullShare ((dats m 0 c).after 4 t) from by
    unfold Dat.leavesExact; rw [live 4 t], after_4]
  rw [show (dats m 0 c).leavesExact 5 t = owns (c : Thread nD τ) (ms0_5 t) fullShare ((dats m 0 c).after 5 t) from by
    unfold Dat.leavesExact; rw [live 5 t], after_5]
  rw [show (dats m 0 c).leavesExact 6 t = owns (c : Thread nD τ) (ms0_6 t) fullShare ((dats m 0 c).after 6 t) from by
    unfold Dat.leavesExact; rw [live 6 t], after_6]
  rw [show (dats m 0 c).leavesExact 7 t = owns (c : Thread nD τ) (ms0_7 t) fullShare ((dats m 0 c).after 7 t) from by
    unfold Dat.leavesExact; rw [live 7 t], after_7]
  rw [show (dats m 0 c).leavesExact 8 t = owns (c : Thread nD τ) (ms0_8 t) fullShare ((dats m 0 c).after 8 t) from by
    unfold Dat.leavesExact; rw [live 8 t], after_8]
  rw [show (dats m 0 c).leavesExact 9 t = owns (c : Thread nD τ) (ms0_9 t) fullShare ((dats m 0 c).after 9 t) from by
    unfold Dat.leavesExact; rw [live 9 t], after_9]
  rw [show (dats m 0 c).leavesExact 10 t = owns (c : Thread nD τ) (ms0_10 t) fullShare ((dats m 0 c).after 10 t) from by
    unfold Dat.leavesExact; rw [live 10 t], after_10]
  rw [show (dats m 0 c).leavesExact 11 t = owns (c : Thread nD τ) (ms0_11 t) fullShare ((dats m 0 c).after 11 t) from by
    unfold Dat.leavesExact; rw [live 11 t], after_11]
  rw [show (dats m 0 c).leavesExact 12 t = owns (c : Thread nD τ) (ms0_12 t) fullShare ((dats m 0 c).after 12 t) from by
    unfold Dat.leavesExact; rw [live 12 t], after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runAt m c t).2.2.2.2 ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  iintro ⟨H0, H1, H2, H3, H4, H5, H6, H7, H8, ⟨%e9, H9⟩, ⟨%e10, H10⟩, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover9 m c t)
  isplitl [H10]
  · unfold owns; iexists _; isplitr
    swap; · iexact H10
    ipureintro; exact View.read_writes_of_cover _ _ _ _ _ (cover10 m c t)
  isplitl [H11]
  · unfold owns; iexists _; isplitr
    swap; · iexact H11
    ipureintro; exact View.read_writes_of_cover _ _ _ _ _ (cover11 m c t)
  unfold owns; iexists _; isplitr
  swap; · iexact H12
  ipureintro
  rw [← topAt_before m c t d12]
  exact View.read_writes_of_cover _ _ _ _ _ (cover12 m c t _)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends with the pipeline's arrays at what the proof data says, and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.Kernel.Merge

end
-- ==== Proof.KRun.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic

@[expose] public section

-- membership in a rectangle of production extents (`View.cover_of_tiled`): the elaborator's structural look
-- recurses once per coordinate of the long axes
set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1236000 in
/-- The run of one grid step of the merge kernel. On whole staging buffers, the inputs' at their contents and the
    last output (the running maximum) at any contents `x12`, the body runs to the continuation that holds the inputs
    as they were and each output buffer with the pieces this term carries. The pieces of the first three outputs do
    not depend on `x12`; the last output's piece does, since the body reads it before it writes it. -/
noncomputable def mergeRun (c : Dev nD) (i : grid0.Coords) (arg2 : Memref sig .tc .smem S2x4 .f32) (harg2 : arg2.IsWhole) (arg3 : Memref sig .tc .smem S2x4 .i32) (harg3 : arg3.IsWhole) (arg4 : Memref sig .tc .vmem S1x256x3072 .fp8e4m3) (harg4 : arg4.IsWhole) (arg5 : Memref sig .tc .vmem S1x3x256 .f32) (harg5 : arg5.IsWhole) (arg6 : Memref sig .tc .vmem S1x32x256 .fp8e4m3) (harg6 : arg6.IsWhole) (arg7 : Memref sig .tc .vmem S1x32x3072 .fp8e4m3) (harg7 : arg7.IsWhole) (arg8 : Memref sig .tc .vmem S1x1x3072 .f32) (harg8 : arg8.IsWhole) (arg9 : Memref sig .tc .vmem S1x4x256x128 .bf16) (harg9 : arg9.IsWhole) (arg10 : Memref sig .tc .vmem S1x512x3072 .bf16) (harg10 : arg10.IsWhole) (arg11 : Memref sig .tc .vmem S1x256x3072 .fp8e4m3) (harg11 : arg11.IsWhole) (arg12 : Memref sig .tc .vmem S1x256x3072 .f32) (harg12 : arg12.IsWhole) (arg13 : Memref sig .tc .vmem S1x3x256 .f32) (harg13 : arg13.IsWhole) (arg14 : Memref sig .tc .vmem S1x8x128 .f32) (harg14 : arg14.IsWhole)
    (x0 : Vec F S2x4 .f32) (x1 : Vec F S2x4 .i32) (x2 : Vec F S1x256x3072 .fp8e4m3) (x3 : Vec F S1x3x256 .f32) (x4 : Vec F S1x32x256 .fp8e4m3) (x5 : Vec F S1x32x3072 .fp8e4m3) (x6 : Vec F S1x1x3072 .f32) (x7 : Vec F S1x4x256x128 .bf16) (x8 : Vec F S1x512x3072 .bf16) :
    Σ' (L9 : List (View.Piece (Elt F) S1x256x3072 .fp8e4m3)), Σ' (L10 : List (View.Piece (Elt F) S1x256x3072 .f32)), Σ' (L11 : List (View.Piece (Elt F) S1x3x256 .f32)), { L12 : Vec F S1x8x128 .f32 → List (View.Piece (Elt F) S1x8x128 .f32) //
      ∀ (xo12 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f (L12 xo12))) -∗ K ⟨⟩))
          ⊢ wp frame (wpE (defs₀ (F := F)) Variants.none c none) E (cc0_merge_fp8 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xo12 E K => ?run⟩
  case run =>
    simp only [cc0_merge_fp8_eq_skeleton]; unfold cc0_merge_fp8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    iexists _; iexact H12

end Cert.KernelIdeal.Merge

end
-- ==== Proof.KWords.lean ====
/- What one run of the merge kernel stores, in the words of its own operations: twelve column chunks of 256 columns per
   pass, each chunk of a pass by one and the same expression, and the running sums and maxima over the chunks. -/
module

public import proofs.«01_k».proof.Proof.KRun
public import Idealize.ShloMosaic.Lib.Pipeline.ReadBack
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic

@[expose] public section

-- membership in a rectangle of production extents (`View.cover_of_tiled`): the elaborator's structural look
-- recurses once per coordinate of the long axes
set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem inb_chunk {a b : ℕ} (o : ℕ) (ho : o + 256 ≤ 3072) : ∀ x : Fin 3, (![0, 0, o] : Fin 3 → ℕ) x + (⟨3, ![a, b, 256]⟩ : Shape).size x ≤ (⟨3, ![a, b, 3072]⟩ : Shape).size x := by
  intro x
  match x with
  | ⟨0, _⟩ => exact (Nat.zero_add _).le
  | ⟨1, _⟩ => exact (Nat.zero_add _).le
  | ⟨2, _⟩ => exact ho

theorem inb_chunkA (r s : ℕ) (hr : r + s ≤ 512) (o : ℕ) (ho : o + 256 ≤ 3072) : ∀ x : Fin 3, (![0, r, o] : Fin 3 → ℕ) x + (⟨3, ![1, s, 256]⟩ : Shape).size x ≤ S1x512x3072.size x := by
  intro x
  match x with
  | ⟨0, _⟩ => exact (Nat.zero_add _).le
  | ⟨1, _⟩ => exact hr
  | ⟨2, _⟩ => exact ho

/-- The columns `o … o + 255` of a block of rows of 3072. -/
abbrev colsAt (o : ℕ) (ho : o + 256 ≤ 3072) : Rect S1x256x3072 := Rect.unit ![0, 0, o] S1x256x256.size (inb_chunk o ho)

/-- Two more groups of 128 columns added, squared, to the lanes' running sums. -/
def sqT (acc : FVec F S256x128 .f32) (v : FVec F S256x256 .f32) : FVec F S256x128 .f32 :=
  addf (addf acc (mulf (extractStridedSlice S256x128 ![0, 0] v slices_S256x256_o0_0_S256x128) (extractStridedSlice S256x128 ![0, 0] v slices_S256x256_o0_0_S256x128)))
    (mulf (extractStridedSlice S256x128 ![0, 128] v slices_S256x256_o0_128_S256x128) (extractStridedSlice S256x128 ![0, 128] v slices_S256x256_o0_128_S256x128))

/-- Two more groups of 128 columns taken, by magnitude, into the lanes' running maxima. -/
def amT (acc : FVec F S256x128 .f32) (v : FVec F S256x256 .f32) : FVec F S256x128 .f32 :=
  maximumf (maximumf acc (absf (extractStridedSlice S256x128 ![0, 0] v slices_S256x256_o0_0_S256x128)))
    (absf (extractStridedSlice S256x128 ![0, 128] v slices_S256x256_o0_128_S256x128))

/-- The rows' norms from the lanes' sums of squares. -/
def normT (acc : FVec F S256x128 .f32) : FVec F S256x1 .f32 :=
  sqrt (shapeCast S256x1 (multiReduction .add [1] S256 acc 0x00000000#32 reduces_S256x128_S256 (.inl rfl) rfl) shapeCasts_S256_S256x1)

/-- The rows' factors, magnitude over norm (over one where the norm is zero), along the columns. -/
def facT (mg : FVec F S256x128 .f32) (n : FVec F S256x1 .f32) : FVec F S256x256 .f32 :=
  broadcastTo S256x256 (shapeCast S256x1 (divf (extractStridedSlice S256x1 ![0, 0] mg slices_S256x128_o0_0_S256x1)
    (select (cmpf .oeq n (broadcast S256x1 (Scalar.ofBits .f32 0x00000000#32 : F .f32))) (broadcast S256x1 (Scalar.ofBits .f32 0x3F800000#32 : F .f32)) n)) shapeCasts_S256x1_S256x1) broadcasts_S256x1_S256x256

/-- One chunk of the merged weights: the chunk as stored times the factors, plus the other adapters' product. -/
def wC (fac : FVec F S256x256 .f32) (br : FVec F S256x384 .bf16) (a : Vec F S1x384x256 .bf16) (v : Vec F S1x256x256 .f32) : FVec F S256x256 .f32 :=
  addf (mulf (shapeCast S256x256 v shapeCasts_S1x256x256_S256x256) fac)
    (matmul dot_S256x384_S384x256_S256x256_1_0_0_1_n_n none br (shapeCast S384x256 a shapeCasts_S1x384x256_S384x256) (constant S256x256 .f32 0x00000000#32))

/-- The rows' greatest magnitudes from the lanes'. -/
def aT (acc : FVec F S256x128 .f32) : FVec F S256x1 .f32 :=
  shapeCast S256x1 (multiReduction .maximumf [1] S256 acc 0xFF800000#32 reduces_S256x128_S256 (.inl rfl) rfl) shapeCasts_S256_S256x1

/-- The rows' scales. -/
def scT (a : FVec F S256x1 .f32) : FVec F S256x1 .f32 :=
  select (cmpf .oeq a (broadcast S256x1 (Scalar.ofBits .f32 0x00000000#32 : F .f32))) (broadcast S256x1 (Scalar.ofBits .f32 0x3F800000#32 : F .f32))
    (divf a (broadcast S256x1 (Scalar.ofBits .f32 0x43E00000#32 : F .f32)))

/-- How far a chunk of the weights, over the scales, lies from its codes. -/
def dC (sc : FVec F S256x1 .f32) (v : Vec F S1x256x256 .f32) : FVec F S256x256 .f32 :=
  subf (k0_pay97 sc v) (extf .f32 (k0_pay98 sc v) bitsLt_fp8e4m3_f32)

/-- The rows' squared errors from the lanes' sums, as stored. -/
def errT (sc : FVec F S256x1 .f32) (acc : FVec F S256x128 .f32) : FVec F S1x1x256 .f32 :=
  k0_pay151 (mulf (mulf (shapeCast S256x1 (multiReduction .add [1] S256 acc 0x00000000#32 reduces_S256x128_S256 (.inl rfl) rfl) shapeCasts_S256_S256x1) sc) sc)

section words

variable (c : Dev nD) (i : grid0.Coords) (arg2 : Memref sig .tc .smem S2x4 .f32) (harg2 : arg2.IsWhole) (arg3 : Memref sig .tc .smem S2x4 .i32) (harg3 : arg3.IsWhole) (arg4 : Memref sig .tc .vmem S1x256x3072 .fp8e4m3) (harg4 : arg4.IsWhole) (arg5 : Memref sig .tc .vmem S1x3x256 .f32) (harg5 : arg5.IsWhole) (arg6 : Memref sig .tc .vmem S1x32x256 .fp8e4m3) (harg6 : arg6.IsWhole) (arg7 : Memref sig .tc .vmem S1x32x3072 .fp8e4m3) (harg7 : arg7.IsWhole) (arg8 : Memref sig .tc .vmem S1x1x3072 .f32) (harg8 : arg8.IsWhole) (arg9 : Memref sig .tc .vmem S1x4x256x128 .bf16) (harg9 : arg9.IsWhole) (arg10 : Memref sig .tc .vmem S1x512x3072 .bf16) (harg10 : arg10.IsWhole) (x0 : Vec F S2x4 .f32) (x1 : Vec F S2x4 .i32) (x2 : Vec F S1x256x3072 .fp8e4m3) (x3 : Vec F S1x3x256 .f32) (x4 : Vec F S1x32x256 .fp8e4m3) (x5 : Vec F S1x32x3072 .fp8e4m3) (x6 : Vec F S1x1x3072 .f32) (x7 : Vec F S1x4x256x128 .bf16) (x8 : Vec F S1x512x3072 .bf16)

/-- The merged weights before scaling by the factor, at the columns `o … o + 255`. -/
def vC (o : ℕ) (ho : o + 256 ≤ 3072) : FVec F S256x256 .f32 :=
  k0_pay11 (mergeRun.sl.r_6 c i arg2 harg2 arg3 harg3 arg9 harg9 x0 x1 x7) (mergeRun.sl.r_14 c arg5 harg5 x3) (mergeRun.sl.r_15 c arg5 harg5 x3)
    (View.readAt (Elt F) arg6.view (Rect.unit ![0, 0, 0] S1x32x256.size inb_S1x32x256_S1x32x256_0_0_0).toLoadRect (harg6.unread x4))
    (View.readAt (Elt F) arg7.view (Rect.unit ![0, 0, o] S1x32x256.size (inb_chunk o ho) : Rect S1x32x3072).toLoadRect (harg7.unread x5))
    (View.readAt (Elt F) arg10.view (Rect.unit ![0, 0, o] S1x128x256.size (inb_chunkA 0 128 (by decide) o ho) : Rect S1x512x3072).toLoadRect (harg10.unread x8))
    (View.readAt (Elt F) arg4.view (colsAt o ho).toLoadRect (harg4.unread x2))
    (View.readAt (Elt F) arg8.view (Rect.unit ![0, 0, o] S1x1x256.size (inb_chunk o ho) : Rect S1x1x3072).toLoadRect (harg8.unread x6))

/-- That chunk as the first pass stores it. -/
def pV (o : ℕ) (ho : o + 256 ≤ 3072) : View.Piece (Elt F) S1x256x3072 .f32 :=
  ⟨colsAt o ho, shapeCast S1x256x256 (vC c i arg2 harg2 arg3 harg3 arg4 harg4 arg5 harg5 arg6 harg6 arg7 harg7 arg8 harg8 arg9 harg9 arg10 harg10 x0 x1 x2 x3 x4 x5 x6 x7 x8 o ho) shapeCasts_S256x256_S1x256x256⟩

set_option maxHeartbeats 1000000 in
/-- What the first pass stores. -/
theorem pieces_first : mergeRun.sl.H10_12 c i arg2 harg2 arg3 harg3 arg4 harg4 arg5 harg5 arg6 harg6 arg7 harg7 arg8 harg8 arg9 harg9 arg10 harg10 x0 x1 x2 x3 x4 x5 x6 x7 x8 =
    [pV c i arg2 harg2 arg3 harg3 arg4 harg4 arg5 harg5 arg6 harg6 arg7 harg7 arg8 harg8 arg9 harg9 arg10 harg10 x0 x1 x2 x3 x4 x5 x6 x7 x8 2816 (by decide), pV c i arg2 harg2 arg3 harg3 arg4 harg4 arg5 harg5 arg6 harg6 arg7 harg7 arg8 harg8 arg9 harg9 arg10 harg10 x0 x1 x2 x3 x4 x5 x6 x7 x8 2560 (by decide), pV c i arg2 harg2 arg3 harg3 arg4 harg4 arg5 harg5 arg6 harg6 arg7 harg7 arg8 harg8 arg9 harg9 arg10 harg10 x0 x1 x2 x3 x4 x5 x6 x7 x8 2304 (by decide), pV c i arg2 harg2 arg3 harg3 arg4 harg4 arg5 harg5 arg6 harg6 arg7 harg7 arg8 harg8 arg9 harg9 arg10 harg10 x0 x1 x2 x3 x4 x5 x6 x7 x8 2048 (by decide), pV c i arg2 harg2 arg3 harg3 arg4 harg4 arg5 harg5 arg6 harg6 arg7 harg7 arg8 harg8 arg9 harg9 arg10 harg10 x0 x1 x2 x3 x4 x5 x6 x7 x8 1792 (by decide), pV c i arg2 harg2 arg3 harg3 arg4 harg4 arg5 harg5 arg6 harg6 arg7 harg7 arg8 harg8 arg9 harg9 arg10 harg10 x0 x1 x2 x3 x4 x5 x6 x7 x8 1536 (by decide), pV c i arg2 harg2 arg3 harg3 arg4 harg4 arg5 harg5 arg6 harg6 arg7 harg7 arg8 harg8 arg9 harg9 arg10 harg10 x0 x1 x2 x3 x4 x5 x6 x7 x8 1280 (by decide), pV c i arg2 harg2 arg3 harg3 arg4 harg4 arg5 harg5 arg6 harg6 arg7 harg7 arg8 harg8 arg9 harg9 arg10 harg10 x0 x1 x2 x3 x4 x5 x6 x7 x8 1024 (by decide), pV c i arg2 harg2 arg3 harg3 arg4 harg4 arg5 harg5 arg6 harg6 arg7 harg7 arg8 harg8 arg9 harg9 arg10 harg10 x0 x1 x2 x3 x4 x5 x6 x7 x8 768 (by decide), pV c i arg2 harg2 arg3 harg3 arg4 harg4 arg5 harg5 arg6 harg6 arg7 harg7 arg8 harg8 arg9 harg9 arg10 harg10 x0 x1 x2 x3 x4 x5 x6 x7 x8 512 (by decide), pV c i arg2 harg2 arg3 harg3 arg4 harg4 arg5 harg5 arg6 harg6 arg7 harg7 arg8 harg8 arg9 harg9 arg10 harg10 x0 x1 x2 x3 x4 x5 x6 x7 x8 256 (by decide), pV c i arg2 harg2 arg3 harg3 arg4 harg4 arg5 harg5 arg6 harg6 arg7 harg7 arg8 harg8 arg9 harg9 arg10 harg10 x0 x1 x2 x3 x4 x5 x6 x7 x8 0 (by decide)] := rfl

set_option maxHeartbeats 1000000 in
/-- The lanes' sums of squares over the first eleven chunks, -/
theorem sq_eleven : mergeRun.sl.r_45 c i arg2 harg2 arg3 harg3 arg4 harg4 arg5 harg5 arg6 harg6 arg7 harg7 arg8 harg8 arg9 harg9 arg10 harg10 x0 x1 x2 x3 x4 x5 x6 x7 x8 =
    (sqT (sqT (sqT (sqT (sqT (sqT (sqT (sqT (sqT (sqT (sqT k0_pay10 (vC c i arg2 harg2 arg3 harg3 arg4 harg4 arg5 harg5 arg6 harg6 arg7 harg7 arg8 harg8 arg9 harg9 arg10 harg10 x0 x1 x2 x3 x4 x5 x6 x7 x8 0 (by decide))) (vC c i arg2 harg2 arg3 harg3 arg4 harg4 arg5 harg5 arg6 harg6 arg7 harg7 arg8 harg8 arg9 harg9 arg10 harg10 x0 x1 x2 x3 x4 x5 x6 x7 x8 256 (by decide))) (vC c i arg2 harg2 arg3 harg3 arg4 harg4 arg5 harg5 arg6 harg6 arg7 harg7 arg8 harg8 arg9 harg9 arg10 harg10 x0 x1 x2 x3 x4 x5 x6 x7 x8 512 (by decide))) (vC c i arg2 harg2 arg3 harg3 arg4 harg4 arg5 harg5 arg6 harg6 arg7 harg7 arg8 harg8 arg9 harg9 arg10 harg10 x0 x1 x2 x3 x4 x5 x6 x7 x8 768 (by decide))) (vC c i arg2 harg2 arg3 harg3 arg4 harg4 arg5 harg5 arg6 harg6 arg7 harg7 arg8 harg8 arg9 harg9 arg10 harg10 x0 x1 x2 x3 x4 x5 x6 x7 x8 1024 (by decide))) (vC c i arg2 harg2 arg3 harg3 arg4 harg4 arg5 harg5 arg6 harg6 arg7 harg7 arg8 harg8 arg9 harg9 arg10 harg10 x0 x1 x2 x3 x4 x5 x6 x7 x8 1280 (by decide))) (vC c i arg2 harg2 arg3 harg3 arg4 harg4 arg5 harg5 arg6 harg6 arg7 harg7 arg8 harg8 arg9 harg9 arg10 harg10 x0 x1 x2 x3 x4 x5 x6 x7 x8 1536 (by decide))) (vC c i arg2 harg2 arg3 harg3 arg4 harg4 arg5 harg5 arg6 harg6 arg7 harg7 arg8 harg8 arg9 harg9 arg10 harg10 x0 x1 x2 x3 x4 x5 x6 x7 x8 1792 (by decide))) (vC c i arg2 harg2 arg3 harg3 arg4 harg4 arg5 harg5 arg6 harg6 arg7 harg7 arg8 harg8 arg9 harg9 arg10 harg10 x0 x1 x2 x3 x4 x5 x6 x7 x8 2048 (by decide))) (vC c i arg2 harg2 arg3 harg3 arg4 harg4 arg5 harg5 arg6 harg6 arg7 harg7 arg8 harg8 arg9 harg9 arg10 harg10 x0 x1 x2 x3 x4 x5 x6 x7 x8 2304 (by decide))) (vC c i arg2 harg2 arg3 harg3 arg4 harg4 arg5 harg5 arg6 harg6 arg7 harg7 arg8 harg8 arg9 harg9 arg10 harg10 x0 x1 x2 x3 x4 x5 x6 x7 x8 2560 (by decide))) := rfl

/-- and the last chunk. -/
theorem v_last : mergeRun.sl.r_46 c i arg2 harg2 arg3 harg3 arg4 harg4 arg5 harg5 arg6 harg6 arg7 harg7 arg8 harg8 arg9 harg9 arg10 harg10 x0 x1 x2 x3 x4 x5 x6 x7 x8 = vC c i arg2 harg2 arg3 harg3 arg4 harg4 arg5 harg5 arg6 harg6 arg7 harg7 arg8 harg8 arg9 harg9 arg10 harg10 x0 x1 x2 x3 x4 x5 x6 x7 x8 2816 (by decide) := rfl

/-- The norms. -/
theorem norm_word : mergeRun.sl.r_47 c i arg2 harg2 arg3 harg3 arg4 harg4 arg5 harg5 arg6 harg6 arg7 harg7 arg8 harg8 arg9 harg9 arg10 harg10 x0 x1 x2 x3 x4 x5 x6 x7 x8 = normT (sqT (mergeRun.sl.r_45 c i arg2 harg2 arg3 harg3 arg4 harg4 arg5 harg5 arg6 harg6 arg7 harg7 arg8 harg8 arg9 harg9 arg10 harg10 x0 x1 x2 x3 x4 x5 x6 x7 x8) (mergeRun.sl.r_46 c i arg2 harg2 arg3 harg3 arg4 harg4 arg5 harg5 arg6 harg6 arg7 harg7 arg8 harg8 arg9 harg9 arg10 harg10 x0 x1 x2 x3 x4 x5 x6 x7 x8)) := rfl

/-- The factors. -/
theorem fac_word : mergeRun.sl.r_48 c i arg2 harg2 arg3 harg3 arg4 harg4 arg5 harg5 arg6 harg6 arg7 harg7 arg8 harg8 arg9 harg9 arg10 harg10 x0 x1 x2 x3 x4 x5 x6 x7 x8 = facT (mergeRun.sl.r_5 c arg5 harg5 x3) (mergeRun.sl.r_47 c i arg2 harg2 arg3 harg3 arg4 harg4 arg5 harg5 arg6 harg6 arg7 harg7 arg8 harg8 arg9 harg9 arg10 harg10 x0 x1 x2 x3 x4 x5 x6 x7 x8) := rfl

variable (arg12 : Memref sig .tc .vmem S1x256x3072 .f32)

/-- The other adapters' rows of the adapter matrix, at the columns `o … o + 255`. -/
abbrev aRest (o : ℕ) (ho : o + 256 ≤ 3072) : Vec F S1x384x256 .bf16 :=
  View.readAt (Elt F) arg10.view (Rect.unit ![0, 128, o] S1x384x256.size (inb_chunkA 128 384 (by decide) o ho) : Rect S1x512x3072).toLoadRect (harg10.unread x8)

/-- A chunk of the merged weights as the second pass stores it, from what the first pass's chunk reads back as. -/
def pW (o : ℕ) (ho : o + 256 ≤ 3072) (v : Vec F S1x256x256 .f32) : View.Piece (Elt F) S1x256x3072 .f32 :=
  ⟨colsAt o ho, shapeCast S1x256x256 (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 o ho) v) shapeCasts_S256x256_S1x256x256⟩

set_option maxHeartbeats 1000000 in
/-- What the second pass stores, over what the first did. -/
theorem pieces_second : mergeRun.sl.H10_24 c i arg2 harg2 arg3 harg3 arg4 harg4 arg5 harg5 arg6 harg6 arg7 harg7 arg8 harg8 arg9 harg9 arg10 harg10 arg12 x0 x1 x2 x3 x4 x5 x6 x7 x8 =
    pW c i arg2 harg2 arg3 harg3 arg4 harg4 arg5 harg5 arg6 harg6 arg7 harg7 arg8 harg8 arg9 harg9 arg10 harg10 x0 x1 x2 x3 x4 x5 x6 x7 x8 2816 (by decide) (mergeRun.sl.v627 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 2560 (by decide) (mergeRun.sl.v611 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 2304 (by decide) (mergeRun.sl.v595 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 2048 (by decide) (mergeRun.sl.v579 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1792 (by decide) (mergeRun.sl.v563 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1536 (by decide) (mergeRun.sl.v547 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: mergeRun.sl.H10_12 c i arg2 harg2 arg3 harg3 arg4 harg4 arg5 harg5 arg6 harg6 arg7 harg7 arg8 harg8 arg9 harg9 arg10 harg10 x0 x1 x2 x3 x4 x5 x6 x7 x8 := rfl

theorem load_0 : mergeRun.sl.v451 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_12 c i arg2 harg2 arg3 harg3 arg4 harg4 arg5 harg5 arg6 harg6 arg7 harg7 arg8 harg8 arg9 harg9 arg10 harg10 x0 x1 x2 x3 x4 x5 x6 x7 x8) (colsAt 0 (by decide)).toLoadRect := rfl

theorem load_256 : mergeRun.sl.v467 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_13 c i arg2 harg2 arg3 harg3 arg4 harg4 arg5 harg5 arg6 harg6 arg7 harg7 arg8 harg8 arg9 harg9 arg10 harg10 arg12 x0 x1 x2 x3 x4 x5 x6 x7 x8) (colsAt 256 (by decide)).toLoadRect := rfl
theorem held_256 : mergeRun.sl.H10_13 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_512 : mergeRun.sl.v483 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_14 c i arg2 harg2 arg3 harg3 arg4 harg4 arg5 harg5 arg6 harg6 arg7 harg7 arg8 harg8 arg9 harg9 arg10 harg10 arg12 x0 x1 x2 x3 x4 x5 x6 x7 x8) (colsAt 512 (by decide)).toLoadRect := rfl
theorem held_512 : mergeRun.sl.H10_14 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_768 : mergeRun.sl.v499 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_15 c i arg2 harg2 arg3 harg3 arg4 harg4 arg5 harg5 arg6 harg6 arg7 harg7 arg8 harg8 arg9 harg9 arg10 harg10 arg12 x0 x1 x2 x3 x4 x5 x6 x7 x8) (colsAt 768 (by decide)).toLoadRect := rfl
theorem held_768 : mergeRun.sl.H10_15 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_1024 : mergeRun.sl.v515 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_16 c i arg2 harg2 arg3 harg3 arg4 harg4 arg5 harg5 arg6 harg6 arg7 harg7 arg8 harg8 arg9 harg9 arg10 harg10 arg12 x0 x1 x2 x3 x4 x5 x6 x7 x8) (colsAt 1024 (by decide)).toLoadRect := rfl
theorem held_1024 : mergeRun.sl.H10_16 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_1280 : mergeRun.sl.v531 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_17 c i arg2 harg2 arg3 harg3 arg4 harg4 arg5 harg5 arg6 harg6 arg7 harg7 arg8 harg8 arg9 harg9 arg10 harg10 arg12 x0 x1 x2 x3 x4 x5 x6 x7 x8) (colsAt 1280 (by decide)).toLoadRect := rfl
theorem held_1280 : mergeRun.sl.H10_17 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_1536 : mergeRun.sl.v547 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_18 c i arg2 harg2 arg3 harg3 arg4 harg4 arg5 harg5 arg6 harg6 arg7 harg7 arg8 harg8 arg9 harg9 arg10 harg10 arg12 x0 x1 x2 x3 x4 x5 x6 x7 x8) (colsAt 1536 (by decide)).toLoadRect := rfl
theorem held_1536 : mergeRun.sl.H10_18 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_1792 : mergeRun.sl.v563 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_19 c i arg2 harg2 arg3 harg3 arg4 harg4 arg5 harg5 arg6 harg6 arg7 harg7 arg8 harg8 arg9 harg9 arg10 harg10 arg12 x0 x1 x2 x3 x4 x5 x6 x7 x8) (colsAt 1792 (by decide)).toLoadRect := rfl
theorem held_1792 : mergeRun.sl.H10_19 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 1536 (by decide) (mergeRun.sl.v547 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_2048 : mergeRun.sl.v579 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_20 c i arg2 harg2 arg3 harg3 arg4 harg4 arg5 harg5 arg6 harg6 arg7 harg7 arg8 harg8 arg9 harg9 arg10 harg10 arg12 x0 x1 x2 x3 x4 x5 x6 x7 x8) (colsAt 2048 (by decide)).toLoadRect := rfl
theorem held_2048 : mergeRun.sl.H10_20 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 1792 (by decide) (mergeRun.sl.v563 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1536 (by decide) (mergeRun.sl.v547 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_2304 : mergeRun.sl.v595 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_21 c i arg2 harg2 arg3 harg3 arg4 harg4 arg5 harg5 arg6 harg6 arg7 harg7 arg8 harg8 arg9 harg9 arg10 harg10 arg12 x0 x1 x2 x3 x4 x5 x6 x7 x8) (colsAt 2304 (by decide)).toLoadRect := rfl
theorem held_2304 : mergeRun.sl.H10_21 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 2048 (by decide) (mergeRun.sl.v579 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1792 (by decide) (mergeRun.sl.v563 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1536 (by decide) (mergeRun.sl.v547 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_2560 : mergeRun.sl.v611 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_22 c i arg2 harg2 arg3 harg3 arg4 harg4 arg5 harg5 arg6 harg6 arg7 harg7 arg8 harg8 arg9 harg9 arg10 harg10 arg12 x0 x1 x2 x3 x4 x5 x6 x7 x8) (colsAt 2560 (by decide)).toLoadRect := rfl
theorem held_2560 : mergeRun.sl.H10_22 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 2304 (by decide) (mergeRun.sl.v595 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 2048 (by decide) (mergeRun.sl.v579 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1792 (by decide) (mergeRun.sl.v563 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1536 (by decide) (mergeRun.sl.v547 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

theorem load_2816 : mergeRun.sl.v627 c i arg2 harg2 arg3 harg3 arg4 harg4 arg5 harg5 arg6 harg6 arg7 harg7 arg8 harg8 arg9 harg9 arg10 harg10 arg12 x0 x1 x2 x3 x4 x5 x6 x7 x8 = arg12.view.readCov (mergeRun.sl.H10_23 c i arg2 harg2 arg3 harg3 arg4 harg4 arg5 harg5 arg6 harg6 arg7 harg7 arg8 harg8 arg9 harg9 arg10 harg10 arg12 x0 x1 x2 x3 x4 x5 x6 x7 x8) (colsAt 2816 (by decide)).toLoadRect := rfl
theorem held_2816 : mergeRun.sl.H10_23 c i arg2 harg2 arg3 harg3 arg4 harg4 arg5 harg5 arg6 harg6 arg7 harg7 arg8 harg8 arg9 harg9 arg10 harg10 arg12 x0 x1 x2 x3 x4 x5 x6 x7 x8 = pW c i arg2 harg2 arg3 harg3 arg4 harg4 arg5 harg5 arg6 harg6 arg7 harg7 arg8 harg8 arg9 harg9 arg10 harg10 x0 x1 x2 x3 x4 x5 x6 x7 x8 2560 (by decide) (mergeRun.sl.v611 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 2304 (by decide) (mergeRun.sl.v595 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 2048 (by decide) (mergeRun.sl.v579 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1792 (by decide) (mergeRun.sl.v563 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1536 (by decide) (mergeRun.sl.v547 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8) :: pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8) :: (mergeRun.sl.H10_12 c i arg2 harg2 arg3 harg3 arg4 harg4 arg5 harg5 arg6 harg6 arg7 harg7 arg8 harg8 arg9 harg9 arg10 harg10 x0 x1 x2 x3 x4 x5 x6 x7 x8) := rfl

set_option maxHeartbeats 1000000 in
/-- The rows' greatest magnitudes, -/
theorem top_word : mergeRun.sl.r_58 c i arg2 harg2 arg3 harg3 arg4 harg4 arg5 harg5 arg6 harg6 arg7 harg7 arg8 harg8 arg9 harg9 arg10 harg10 arg12 x0 x1 x2 x3 x4 x5 x6 x7 x8 = aT (amT (amT (amT (amT (amT (amT (amT (amT (amT (amT (amT (amT k0_pay10 (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 0 (by decide)) (mergeRun.sl.v451 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 256 (by decide)) (mergeRun.sl.v467 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 512 (by decide)) (mergeRun.sl.v483 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 768 (by decide)) (mergeRun.sl.v499 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 1024 (by decide)) (mergeRun.sl.v515 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 1280 (by decide)) (mergeRun.sl.v531 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 1536 (by decide)) (mergeRun.sl.v547 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 1792 (by decide)) (mergeRun.sl.v563 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 2048 (by decide)) (mergeRun.sl.v579 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 2304 (by decide)) (mergeRun.sl.v595 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 2560 (by decide)) (mergeRun.sl.v611 c i arg2 harg2 arg3 harg3 arg4 harg4 arg5 harg5 arg6 harg6 arg7 harg7 arg8 harg8 arg9 harg9 arg10 harg10 arg12 x0 x1 x2 x3 x4 x5 x6 x7 x8))) (wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 2816 (by decide)) (mergeRun.sl.v627 c i arg2 harg2 arg3 harg3 arg4 harg4 arg5 harg5 arg6 harg6 arg7 harg7 arg8 harg8 arg9 harg9 arg10 harg10 arg12 x0 x1 x2 x3 x4 x5 x6 x7 x8))) := rfl

/-- and the scales from them. -/
theorem scale_word : mergeRun.sl.r_59 c i arg2 harg2 arg3 harg3 arg4 harg4 arg5 harg5 arg6 harg6 arg7 harg7 arg8 harg8 arg9 harg9 arg10 harg10 arg12 x0 x1 x2 x3 x4 x5 x6 x7 x8 = scT (mergeRun.sl.r_58 c i arg2 harg2 arg3 harg3 arg4 harg4 arg5 harg5 arg6 harg6 arg7 harg7 arg8 harg8 arg9 harg9 arg10 harg10 arg12 x0 x1 x2 x3 x4 x5 x6 x7 x8) := rfl

/-- A chunk of the merged weights as the third pass reads it. -/
def rW (o : ℕ) (ho : o + 256 ≤ 3072) : Vec F S1x256x256 .f32 :=
  arg12.view.readCov (mergeRun.sl.H10_24 c i arg2 harg2 arg3 harg3 arg4 harg4 arg5 harg5 arg6 harg6 arg7 harg7 arg8 harg8 arg9 harg9 arg10 harg10 arg12 x0 x1 x2 x3 x4 x5 x6 x7 x8) (colsAt o ho).toLoadRect

/-- A chunk of the codes as the third pass stores it, from what the merged weights' chunk reads back as. -/
def pQ (o : ℕ) (ho : o + 256 ≤ 3072) : View.Piece (Elt F) S1x256x3072 .fp8e4m3 :=
  ⟨colsAt o ho, k0_pay99 (mergeRun.sl.r_59 c i arg2 harg2 arg3 harg3 arg4 harg4 arg5 harg5 arg6 harg6 arg7 harg7 arg8 harg8 arg9 harg9 arg10 harg10 arg12 x0 x1 x2 x3 x4 x5 x6 x7 x8) (arg12.view.readCov (mergeRun.sl.H10_24 c i arg2 harg2 arg3 harg3 arg4 harg4 arg5 harg5 arg6 harg6 arg7 harg7 arg8 harg8 arg9 harg9 arg10 harg10 arg12 x0 x1 x2 x3 x4 x5 x6 x7 x8) (colsAt o ho).toLoadRect)⟩

variable (arg11 : Memref sig .tc .vmem S1x256x3072 .fp8e4m3) (harg11 : arg11.IsWhole) (harg12 : arg12.IsWhole) (arg13 : Memref sig .tc .vmem S1x3x256 .f32) (harg13 : arg13.IsWhole) (arg14 : Memref sig .tc .vmem S1x8x128 .f32) (harg14 : arg14.IsWhole)

set_option maxHeartbeats 1000000 in
/-- The run's pieces: the codes, -/
theorem run_codes : (mergeRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1 = [pQ c i arg2 harg2 arg3 harg3 arg4 harg4 arg5 harg5 arg6 harg6 arg7 harg7 arg8 harg8 arg9 harg9 arg10 harg10 x0 x1 x2 x3 x4 x5 x6 x7 x8 arg12 2816 (by decide), pQ c i arg2 harg2 arg3 harg3 arg4 harg4 arg5 harg5 arg6 harg6 arg7 harg7 arg8 harg8 arg9 harg9 arg10 harg10 x0 x1 x2 x3 x4 x5 x6 x7 x8 arg12 2560 (by decide), pQ c i arg2 harg2 arg3 harg3 arg4 harg4 arg5 harg5 arg6 harg6 arg7 harg7 arg8 harg8 arg9 harg9 arg10 harg10 x0 x1 x2 x3 x4 x5 x6 x7 x8 arg12 2304 (by decide), pQ c i arg2 harg2 arg3 harg3 arg4 harg4 arg5 harg5 arg6 harg6 arg7 harg7 arg8 harg8 arg9 harg9 arg10 harg10 x0 x1 x2 x3 x4 x5 x6 x7 x8 arg12 2048 (by decide), pQ c i arg2 harg2 arg3 harg3 arg4 harg4 arg5 harg5 arg6 harg6 arg7 harg7 arg8 harg8 arg9 harg9 arg10 harg10 x0 x1 x2 x3 x4 x5 x6 x7 x8 arg12 1792 (by decide), pQ c i arg2 harg2 arg3 harg3 arg4 harg4 arg5 harg5 arg6 harg6 arg7 harg7 arg8 harg8 arg9 harg9 arg10 harg10 x0 x1 x2 x3 x4 x5 x6 x7 x8 arg12 1536 (by decide), pQ c i arg2 harg2 arg3 harg3 arg4 harg4 arg5 harg5 arg6 harg6 arg7 harg7 arg8 harg8 arg9 harg9 arg10 harg10 x0 x1 x2 x3 x4 x5 x6 x7 x8 arg12 1280 (by decide), pQ c i arg2 harg2 arg3 harg3 arg4 harg4 arg5 harg5 arg6 harg6 arg7 harg7 arg8 harg8 arg9 harg9 arg10 harg10 x0 x1 x2 x3 x4 x5 x6 x7 x8 arg12 1024 (by decide), pQ c i arg2 harg2 arg3 harg3 arg4 harg4 arg5 harg5 arg6 harg6 arg7 harg7 arg8 harg8 arg9 harg9 arg10 harg10 x0 x1 x2 x3 x4 x5 x6 x7 x8 arg12 768 (by decide), pQ c i arg2 harg2 arg3 harg3 arg4 harg4 arg5 harg5 arg6 harg6 arg7 harg7 arg8 harg8 arg9 harg9 arg10 harg10 x0 x1 x2 x3 x4 x5 x6 x7 x8 arg12 512 (by decide), pQ c i arg2 harg2 arg3 harg3 arg4 harg4 arg5 harg5 arg6 harg6 arg7 harg7 arg8 harg8 arg9 harg9 arg10 harg10 x0 x1 x2 x3 x4 x5 x6 x7 x8 arg12 256 (by decide), pQ c i arg2 harg2 arg3 harg3 arg4 harg4 arg5 harg5 arg6 harg6 arg7 harg7 arg8 harg8 arg9 harg9 arg10 harg10 x0 x1 x2 x3 x4 x5 x6 x7 x8 arg12 0 (by decide)] := rfl

/-- the merged weights, -/
theorem run_weights : (mergeRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.1 = mergeRun.sl.H10_24 c i arg2 harg2 arg3 harg3 arg4 harg4 arg5 harg5 arg6 harg6 arg7 harg7 arg8 harg8 arg9 harg9 arg10 harg10 arg12 x0 x1 x2 x3 x4 x5 x6 x7 x8 := rfl

set_option maxHeartbeats 1000000 in
/-- the rows of statistics, -/
theorem run_stats : (mergeRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.1 =
    [⟨Rect.unit ![0, 2, 0] S1x1x256.size inb_S1x3x256_S1x1x256_0_2_0, errT (mergeRun.sl.r_59 c i arg2 harg2 arg3 harg3 arg4 harg4 arg5 harg5 arg6 harg6 arg7 harg7 arg8 harg8 arg9 harg9 arg10 harg10 arg12 x0 x1 x2 x3 x4 x5 x6 x7 x8) (sqT (sqT (sqT (sqT (sqT (sqT (sqT (sqT (sqT (sqT (sqT (sqT k0_pay10 (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 0 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 256 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 512 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 768 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 1024 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 1280 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 1536 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 1792 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 2048 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 2304 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 2560 (by decide)))) (dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 2816 (by decide))))⟩,
     ⟨Rect.unit ![0, 1, 0] S1x1x256.size inb_S1x3x256_S1x1x256_0_1_0, k0_pay152 (mergeRun.sl.r_59 c i arg2 harg2 arg3 harg3 arg4 harg4 arg5 harg5 arg6 harg6 arg7 harg7 arg8 harg8 arg9 harg9 arg10 harg10 arg12 x0 x1 x2 x3 x4 x5 x6 x7 x8)⟩,
     ⟨Rect.unit ![0, 0, 0] S1x1x256.size inb_S1x3x256_S1x1x256_0_0_0, k0_pay151 (mergeRun.sl.r_47 c i arg2 harg2 arg3 harg3 arg4 harg4 arg5 harg5 arg6 harg6 arg7 harg7 arg8 harg8 arg9 harg9 arg10 harg10 x0 x1 x2 x3 x4 x5 x6 x7 x8)⟩] := rfl

/-- and the running maximum, from what its buffer held. -/
theorem run_top (xo12 : Vec F S1x8x128 .f32) : (mergeRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.2.1 xo12 =
    [⟨Rect.unit ![0, 0, 0] S1x8x128.size inb_S1x8x128_S1x8x128_0_0_0,
      k0_pay1 (k0_pay154 (BitVec.ofNat 32 (i 1).val) (mergeRun.sl.r_58 c i arg2 harg2 arg3 harg3 arg4 harg4 arg5 harg5 arg6 harg6 arg7 harg7 arg8 harg8 arg9 harg9 arg10 harg10 arg12 x0 x1 x2 x3 x4 x5 x6 x7 x8)
        (View.readAt (Elt F) arg14.view (Rect.unit ![0, 0, 0] S1x8x128.size inb_S1x8x128_S1x8x128_0_0_0).toLoadRect (harg14.unread xo12)))⟩] := rfl

end words

end Cert.KernelIdeal.Merge

end
-- ==== Proof.Spec.lean ====
/- The merge of one row of weights, as plain formulas over the extended reals, from which both the kernel's results and
   the reference's are read. -/
module
public import Idealize.ShloMosaic.Lib.Pointwise
@[expose] public section
noncomputable section
open Idealize.ShloMosaic
namespace Cert.MergeSpec

/-- What one output row is computed from: the row's codes and scale, its row of the compensation's left factor with its
    scale, the right factor with the column scales, the adapters' rows (already scaled and masked), the adapters'
    matrices, and the row's magnitude. -/
structure Row where
  x : Fin 3072 → EReal
  ws : EReal
  ls : EReal
  mg : EReal
  l1 : Fin 32 → EReal
  l2 : Fin 32 → Fin 3072 → EReal
  l2s : Fin 3072 → EReal
  b : Fin 4 → Fin 128 → EReal
  a : Fin 4 → Fin 128 → Fin 3072 → EReal

/-- The adapter a row of the last three adapters' stacked matrix belongs to, -/
abbrev adapter (x : Fin 384) : Fin 4 := ⟨1 + x.val / 128, by omega⟩

/-- and the row's place in it. -/
abbrev place (x : Fin 384) : Fin 128 := ⟨x.val % 128, Nat.mod_lt _ (by decide)⟩

namespace Row

variable (R : Row)

/-- The dequantized weight plus the compensation plus the first adapter's product. -/
def v (q : Fin 3072) : EReal :=
  R.x q * R.ws + (∑ k, R.l1 k * R.l2 k q) * R.ls * R.l2s q + ∑ j, R.b 0 j * R.a 0 j q

/-- The row's norm. -/
def norm : EReal := Ideal.sqrt (∑ q, R.v q * R.v q)

/-- The merged weight: rescaled to the row's magnitude, plus the other adapters' products. -/
def w (q : Fin 3072) : EReal :=
  R.v q * Ideal.div R.mg (if R.norm = 0 then 1 else R.norm) + ∑ x : Fin 384, R.b (adapter x) (place x) * R.a (adapter x) (place x) q

/-- The row's greatest magnitude. -/
def top : EReal := Finset.fold max (Ideal.ofBits .f32 0xFF800000#32) (fun q => FloatOps.absf (F := Ideal) (φ := .f32) (R.w q)) Finset.univ

/-- The row's scale. -/
def scale : EReal := if R.top = 0 then 1 else Ideal.div R.top (Ideal.ofBits .f32 0x43E00000#32)

/-- The row's codes. -/
def code (q : Fin 3072) : EReal :=
  min (Ideal.ofBits .f32 0x43E00000#32) (max (Ideal.ofBits .f32 0xC3E00000#32) (Ideal.div (R.w q) R.scale))

/-- The row's squared error: what its codes times its scale miss of its weights. -/
def err : EReal := ∑ q, (R.w q - R.code q * R.scale) * (R.w q - R.code q * R.scale)

/-- The squared error in units of the scale, scaled back. -/
def unitErr : EReal := (∑ q, (Ideal.div (R.w q) R.scale - R.code q) * (Ideal.div (R.w q) R.scale - R.code q)) * R.scale * R.scale

end Row

/-- An entry of an adapter's row: scaled, and zero from the adapter's rank on. -/
def masked (rank : BitVec 32) (coef b : EReal) (j : Fin 128) : EReal :=
  Scalar.select (IntOp.cmpi CmpIPredicate.slt (BitVec.ofNat 32 j) rank) (b * coef) (0 : EReal)

section arrays

variable (a0 : Vec Ideal ⟨3, ![2, 21504, 3072]⟩ .fp8e4m3) (a1 : Vec Ideal ⟨2, ![2, 21504]⟩ .f32)
  (a2 : Vec Ideal ⟨3, ![2, 21504, 32]⟩ .fp8e4m3) (a3 : Vec Ideal ⟨2, ![2, 21504]⟩ .f32)
  (a4 : Vec Ideal ⟨3, ![2, 32, 3072]⟩ .fp8e4m3) (a5 : Vec Ideal ⟨2, ![2, 3072]⟩ .f32)
  (a6 : Vec Ideal ⟨4, ![2, 4, 21504, 128]⟩ .bf16) (a7 : Vec Ideal ⟨4, ![2, 4, 128, 3072]⟩ .bf16)
  (a8 : Vec Ideal ⟨2, ![2, 4]⟩ .i32) (a9 : Vec Ideal ⟨2, ![2, 4]⟩ .f32) (a10 : Vec Ideal ⟨2, ![2, 4]⟩ .f32)
  (a11 : Vec Ideal ⟨2, ![2, 21504]⟩ .f32)

/-- Row `r` of batch `b` of the arguments. -/
def row (b : Fin 2) (r : Fin 21504) : Row where
  x q := a0 (ix3 b r q)
  ws := a1 (ix2 b r)
  ls := a3 (ix2 b r)
  mg := a11 (ix2 b r)
  l1 k := a2 (ix3 b r k)
  l2 k q := a4 (ix3 b k q)
  l2s q := a5 (ix2 b q)
  b n j := masked (a8 (ix2 b n)) (Ideal.div (a10 (ix2 b n) * a9 (ix2 b n)) (FloatOps.sitofp (F := Ideal) .f32 (a8 (ix2 b n)))) (a6 (ix4 b n r j)) j
  a n j q := a7 (ix4 b n j q)

/-- The batch's scale for the second format: the greatest magnitude of all its rows over 448 times 6. -/
def tensorScale (b : Fin 2) : EReal :=
  Ideal.div (Finset.fold max (Ideal.ofBits .f32 0xFF800000#32) (fun r => (row a0 a1 a2 a3 a4 a5 a6 a7 a8 a9 a10 a11 b r).top) Finset.univ)
    (Ideal.ofBits .f32 0x45280000#32)

end arrays

end Cert.MergeSpec
end
-- ==== Proof.Lanes.lean ====
/- A sum, or a maximum, over 3072 columns taken lane by lane: each of 128 lanes first over its 24 groups of columns, then
   over the lanes. -/
module
public import proofs.«01_k».proof.Proof.Spec
@[expose] public section
noncomputable section
open Idealize.ShloMosaic
namespace Cert.MergeSpec

/-- Column `l` of group `k`. -/
abbrev lane (k : Fin 24) (l : Fin 128) : Fin 3072 := ⟨128 * k.val + l.val, by omega⟩

theorem sum_lanes (f : Fin 3072 → EReal) : ∑ l : Fin 128, ∑ k : Fin 24, f (lane k l) = ∑ q, f q := by
  rw [Finset.sum_comm, ← Fintype.sum_prod_type' (f := fun k l => f (lane k l))]
  refine Fintype.sum_equiv (finProdFinEquiv (m := 24) (n := 128)) _ _ fun x => congrArg f (Fin.ext ?_)
  show 128 * x.1.val + x.2.val = x.2.val + 128 * x.1.val
  omega

/-- A maximum from an initial value, as the least upper bound of that value and the entries. -/
theorem fold_max_le {n : ℕ} (b : EReal) (f : Fin n → EReal) (x : EReal) :
    Finset.fold max b f Finset.univ ≤ x ↔ b ≤ x ∧ ∀ q, f q ≤ x := by
  rw [Finset.fold_max_le]
  simp

theorem neg_inf : Ideal.ofBits .f32 0xFF800000#32 = ⊥ := by
  simp [Ideal.ofBits, Ideal.ieee]

/-- Where the entries are nonnegative, the lanes' maxima may start from zero. -/
theorem max_lanes (f : Fin 3072 → EReal) (hf : ∀ q, 0 ≤ f q) (g : Fin 128 → EReal) (hg : ∀ l x, g l ≤ x ↔ 0 ≤ x ∧ ∀ k : Fin 24, f (lane k l) ≤ x) :
    Finset.fold max (Ideal.ofBits .f32 0xFF800000#32) g Finset.univ = Finset.fold max (Ideal.ofBits .f32 0xFF800000#32) f Finset.univ := by
  refine eq_of_forall_ge_iff fun x => ?_
  rw [fold_max_le, fold_max_le]
  refine and_congr_right fun _ => ⟨fun h q => ?_, fun h l => (hg l x).2 ⟨(hf 0).trans (h 0), fun k => h _⟩⟩
  have e : q = lane ⟨q.val / 128, by omega⟩ ⟨q.val % 128, Nat.mod_lt _ (by decide)⟩ := Fin.ext (Nat.div_add_mod _ _).symm
  rw [e]
  exact ((hg _ x).1 (h _)).2 _

theorem absf_nonneg (x : EReal) : 0 ≤ FloatOps.absf (F := Ideal) (φ := .f32) x := by
  show 0 ≤ max x (-x)
  rcases le_total 0 x with h | h
  · exact h.trans (le_max_left _ _)
  · exact (EReal.neg_nonneg.2 h).trans (le_max_right _ _)

end Cert.MergeSpec
end
-- ==== Proof.KOps.lean ====
/- The merge kernel's loads and operations, entry by entry. -/
module
public import proofs.«01_k».proof.Proof.KWords
public import proofs.«01_k».proof.Proof.Spec
public import proofs.«01_k».proof.Proof.Lanes
public import Idealize.ShloMosaic.Lib.Pipeline.ValueKit.Tiles
@[expose] public section
set_option maxRecDepth 16384
noncomputable section
open Idealize.ShloMosaic Idealize.ShloMosaic.TcCoe Idealize.SL.Sem
namespace Cert.KernelIdeal.Merge
open Cert.KernelIdeal Cert.KernelIdeal.Gen Cert.MergeSpec

abbrev col (o : ℕ) (ho : o + 256 ≤ 3072) (u : Fin 256) : Fin 3072 := ⟨o + u.val, by omega⟩

/-- A block's row of the operands. -/
def blockRow (g : Fin 2) (x0 : Vec Ideal S2x4 .f32) (x1 : Vec Ideal S2x4 .i32) (x2 : Vec Ideal S1x256x3072 .fp8e4m3) (x3 : Vec Ideal S1x3x256 .f32)
    (x4 : Vec Ideal S1x32x256 .fp8e4m3) (x5 : Vec Ideal S1x32x3072 .fp8e4m3) (x6 : Vec Ideal S1x1x3072 .f32) (x7 : Vec Ideal S1x4x256x128 .bf16)
    (x8 : Vec Ideal S1x512x3072 .bf16) (p : Fin 256) : Row where
  x q := x2 (ix3 0 p q)
  ws := x3 (ix3 0 0 p)
  ls := x3 (ix3 0 1 p)
  mg := x3 (ix3 0 2 p)
  l1 k := x4 (ix3 0 k p)
  l2 k q := x5 (ix3 0 k q)
  l2s q := x6 (ix3 0 0 q)
  b n j := masked (x1 (ix2 g n)) (x0 (ix2 g n)) (x7 (ix4 0 n p j)) j
  a n j q := x8 (ix3 0 ⟨128 * n.val + j.val, by omega⟩ q)

/-! ## Loads -/

theorem load_chunk {φ : EltTy} {n : ℕ} (m : Memref sig .tc .vmem ⟨3, ![1, n, 3072]⟩ φ) (hm : m.IsWhole) (d : Vec Ideal ⟨3, ![1, n, 3072]⟩ φ)
    (o : ℕ) (ho : o + 256 ≤ 3072) (inb) (k : Fin n) (u : Fin 256) :
    View.readAt (Elt Ideal) m.view (Rect.unit (s := ⟨3, ![1, n, 3072]⟩) ![0, 0, o] (⟨3, ![1, n, 256]⟩ : Shape).size inb).toLoadRect (hm.unread d) (ix3 0 k u)
      = d (ix3 0 k (col o ho u)) := by
  rw [View.readAt_eq_ld, Memref.IsWhole.read_unread]
  refine View.ld_unit_apply_of _ _ _ _ _ _ fun a => ?_
  match a with
  | ⟨0, _⟩ => rfl
  | ⟨1, _⟩ => exact (Nat.zero_add _).symm
  | ⟨2, _⟩ => rfl

theorem load_chunkA {s : ℕ} (m : Memref sig .tc .vmem S1x512x3072 .bf16) (hm : m.IsWhole) (d : Vec Ideal S1x512x3072 .bf16)
    (r : ℕ) (hr : r + s ≤ 512) (o : ℕ) (ho : o + 256 ≤ 3072) (inb) (k : Fin s) (u : Fin 256) :
    View.readAt (Elt Ideal) m.view (Rect.unit (s := S1x512x3072) ![0, r, o] (⟨3, ![1, s, 256]⟩ : Shape).size inb).toLoadRect (hm.unread d) (ix3 0 k u)
      = d (ix3 0 ⟨r + k.val, by omega⟩ (col o ho u)) := by
  rw [View.readAt_eq_ld, Memref.IsWhole.read_unread]
  pointwise

theorem load_row (m : Memref sig .tc .vmem S1x3x256 .f32) (hm : m.IsWhole) (d : Vec Ideal S1x3x256 .f32) (r : Fin 3) (inb) (p : Fin 256) :
    View.readAt (Elt Ideal) m.view (Rect.unit (s := S1x3x256) ![0, r.val, 0] S1x1x256.size inb).toLoadRect (hm.unread d) (ix3 0 0 p) = d (ix3 0 r p) := by
  rw [View.readAt_eq_ld, Memref.IsWhole.read_unread]
  pointwise

theorem load_b (m : Memref sig .tc .vmem S1x4x256x128 .bf16) (hm : m.IsWhole) (d : Vec Ideal S1x4x256x128 .bf16) (n : Fin 4) (inb) (p : Fin 256) (j : Fin 128) :
    View.readAt (Elt Ideal) m.view (Rect.unit (s := S1x4x256x128) ![0, n.val, 0, 0] S1x1x256x128.size inb).toLoadRect (hm.unread d) (ix4 0 0 p j) = d (ix4 0 n p j) := by
  rw [View.readAt_eq_ld, Memref.IsWhole.read_unread]
  pointwise

theorem load_word {φ : EltTy} (m : Memref sig .tc .smem S2x4 φ) (hm : m.IsWhole) (d : Vec Ideal S2x4 φ) (off : Fin 2 → ℕ) (g : Fin 2) (n : Fin 4)
    (hoff : off = ![g.val, n.val]) (inb) (h1) :
    View.readAt (Elt Ideal) m.view (Rect.unit (s := S2x4) off S1x1.size inb).toLoadRect (hm.unread d) (Shape.Idx.first h1) = d (ix2 g n) := by
  subst hoff
  rw [View.readAt_eq_ld, Memref.IsWhole.read_unread]
  refine View.ld_unit_apply_of _ _ _ _ _ _ fun a => ?_
  match a with
  | ⟨0, _⟩ => rfl
  | ⟨1, _⟩ => rfl

theorem load_l1t (m : Memref sig .tc .vmem S1x32x256 .fp8e4m3) (hm : m.IsWhole) (d : Vec Ideal S1x32x256 .fp8e4m3) (inb) (k : Fin 32) (p : Fin 256) :
    View.readAt (Elt Ideal) m.view (Rect.unit (s := S1x32x256) ![0, 0, 0] S1x32x256.size inb).toLoadRect (hm.unread d) (ix3 0 k p) = d (ix3 0 k p) := by
  rw [View.readAt_eq_ld, Memref.IsWhole.read_unread]
  pointwise

theorem load_top (m : Memref sig .tc .vmem S1x8x128 .f32) (hm : m.IsWhole) (d : Vec Ideal S1x8x128 .f32) (inb) (y : S1x8x128.Idx) :
    View.readAt (Elt Ideal) m.view (Rect.unit (s := S1x8x128) ![0, 0, 0] S1x8x128.size inb).toLoadRect (hm.unread d) y = d y := by
  rw [View.readAt_eq_ld, Memref.IsWhole.read_unread]
  idx_vars y
  obtain rfl : y0 = 0 := Subsingleton.elim _ _
  pointwise

theorem masked_congr {r r' : BitVec 32} {c c' b b' : EReal} (hr : r = r') (hc : c = c') (hb : b = b') (j : Fin 128) : masked r c b j = masked r' c' b' j := by
  rw [hr, hc, hb]

/-! ## The operations -/

theorem pay11_at (b : FVec Ideal S256x128 .bf16) (ws ls : FVec Ideal S256x256 .f32) (l1 l2 : Vec Ideal S1x32x256 .fp8e4m3) (a : Vec Ideal S1x128x256 .bf16)
    (x : Vec Ideal S1x256x256 .fp8e4m3) (l2s : Vec Ideal S1x1x256 .f32) (p u : Fin 256) :
    k0_pay11 b ws ls l1 l2 a x l2s (ix2 p u) = x (ix3 0 p u) * ws (ix2 p u) + (∑ k, l1 (ix3 0 k p) * l2 (ix3 0 k u)) * ls (ix2 p u) * l2s (ix3 0 0 u)
      + ∑ j, b (ix2 p j) * a (ix3 0 j u) := by
  pointwise [k0_pay11]

theorem col_at (x : Vec Ideal S1x1x256 .f32) (p : Fin 256) (l : Fin 128) : k0_pay2 x (ix2 p l) = x (ix3 0 0 p) := by
  pointwise [k0_pay2]

theorem col3_at (x : Vec Ideal S1x1x256 .f32) (p : Fin 256) (l : Fin 128) : k0_pay3 x (ix2 p l) = x (ix3 0 0 p) := by
  pointwise [k0_pay3]

theorem col4_at (x : Vec Ideal S1x1x256 .f32) (p : Fin 256) (l : Fin 128) : k0_pay4 x (ix2 p l) = x (ix3 0 0 p) := by
  pointwise [k0_pay4]

theorem tile_at (x : FVec Ideal S256x128 .f32) (y : EReal) (p : Fin 256) (h : ∀ l, x (ix2 p l) = y) (u : Fin 256) : k0_pay8 x (ix2 p u) = y := by
  pointwise [k0_pay8]
  split <;> exact h _

theorem tile9_at (x : FVec Ideal S256x128 .f32) (y : EReal) (p : Fin 256) (h : ∀ l, x (ix2 p l) = y) (u : Fin 256) : k0_pay9 x (ix2 p u) = y :=
  tile_at x y p h u

theorem pay5_at (b : Vec Ideal S1x1x256x128 .bf16) (coef : Elt Ideal .f32) (rank : Elt Ideal .i32) (p : Fin 256) (j : Fin 128) :
    k0_pay5 b coef rank (ix2 p j) = masked rank coef (b (ix4 0 0 p j)) j := by
  unfold masked
  pointwise [k0_pay5]

theorem pay7_at (b1 b2 b3 : Vec Ideal S1x1x256x128 .bf16) (c1 c2 c3 : Elt Ideal .f32) (r1 r2 r3 : Elt Ideal .i32) (p : Fin 256) (B : Fin 4 → Fin 128 → EReal)
    (h1 : ∀ j, masked r1 c1 (b1 (ix4 0 0 p j)) j = B 1 j) (h2 : ∀ j, masked r2 c2 (b2 (ix4 0 0 p j)) j = B 2 j)
    (h3 : ∀ j, masked r3 c3 (b3 (ix4 0 0 p j)) j = B 3 j) (x : Fin 384) :
    k0_pay7 mergeRun.sl.v15 (k0_pay6 b1 c1) r1 b2 c2 r2 b3 c3 r3 (ix2 p x) = B (adapter x) (place x) := by
  pointwise [k0_pay7, k0_pay6, mergeRun.sl.v15]
  have e (n : Fin 4) (j : Fin 128) (h : x.val = 128 * (n.val - 1) + j.val) (hn : 1 ≤ n.val) : B n j = B (adapter x) (place x) := by
    congr 1
    · congr 1
      exact Fin.ext (show n.val = 1 + x.val / 128 by omega)
    · exact Fin.ext (show j.val = x.val % 128 by omega)
  split
  · rename_i h
    exact (h1 ⟨x.val, h⟩).trans (e 1 _ (show x.val = 128 * (1 - 1) + x.val by omega) (by decide))
  · rename_i h
    split
    · rename_i h'
      exact (h2 ⟨x.val - 128, h'⟩).trans (e 2 _ (show x.val = 128 * (2 - 1) + (x.val - 128) by omega) (by decide))
    · rename_i h'
      exact (h3 ⟨x.val - 128 - 128, by omega⟩).trans (e 3 _ (show x.val = 128 * (3 - 1) + (x.val - 128 - 128) by omega) (by decide))

theorem sqT_at (acc : FVec Ideal S256x128 .f32) (v : FVec Ideal S256x256 .f32) (p : Fin 256) (l : Fin 128) :
    sqT acc v (ix2 p l) = acc (ix2 p l) + v (ix2 p ⟨l.val, by omega⟩) * v (ix2 p ⟨l.val, by omega⟩) + v (ix2 p ⟨128 + l.val, by omega⟩) * v (ix2 p ⟨128 + l.val, by omega⟩) := by
  pointwise [sqT]

theorem amT_at (acc : FVec Ideal S256x128 .f32) (v : FVec Ideal S256x256 .f32) (p : Fin 256) (l : Fin 128) :
    amT acc v (ix2 p l) = max (max (acc (ix2 p l)) (FloatOps.absf (F := Ideal) (φ := .f32) (v (ix2 p ⟨l.val, by omega⟩)))) (FloatOps.absf (F := Ideal) (φ := .f32) (v (ix2 p ⟨128 + l.val, by omega⟩))) := by
  pointwise [amT]

theorem zero_at (p : Fin 256) (l : Fin 128) : (k0_pay10 : FVec Ideal S256x128 .f32) (ix2 p l) = 0 := by
  pointwise [k0_pay10]

theorem normT_at (acc : FVec Ideal S256x128 .f32) (p : Fin 256) : normT acc (ix2 p 0) = Ideal.sqrt (∑ l, acc (ix2 p l)) := by
  pointwise [normT]

theorem aT_at (acc : FVec Ideal S256x128 .f32) (p : Fin 256) : aT acc (ix2 p 0) = Finset.fold max (Ideal.ofBits .f32 0xFF800000#32) (fun l => acc (ix2 p l)) Finset.univ := by
  pointwise [aT]

theorem facT_at (mg : FVec Ideal S256x128 .f32) (n : FVec Ideal S256x1 .f32) (p u : Fin 256) :
    facT mg n (ix2 p u) = Ideal.div (mg (ix2 p 0)) (if n (ix2 p 0) = 0 then 1 else n (ix2 p 0)) := by
  pointwise [facT]

theorem scT_at (a : FVec Ideal S256x1 .f32) (p : Fin 256) :
    scT a (ix2 p 0) = if a (ix2 p 0) = 0 then 1 else Ideal.div (a (ix2 p 0)) (Ideal.ofBits .f32 0x43E00000#32) := by
  pointwise [scT]

theorem wC_at (fac : FVec Ideal S256x256 .f32) (br : FVec Ideal S256x384 .bf16) (a : Vec Ideal S1x384x256 .bf16) (v : Vec Ideal S1x256x256 .f32) (p u : Fin 256) :
    wC fac br a v (ix2 p u) = v (ix3 0 p u) * fac (ix2 p u) + ∑ x, br (ix2 p x) * a (ix3 0 x u) := by
  pointwise [wC]

theorem store_at {φ : FTy} (v : FVec Ideal S256x256 φ) (y : S1x256x256.Idx) : shapeCast S1x256x256 v shapeCasts_S256x256_S1x256x256 y = v (ix2 (y 1) (y 2)) := by
  idx_vars y
  pointwise

theorem pay99_at (sc : FVec Ideal S256x1 .f32) (w : Vec Ideal S1x256x256 .f32) (y : S1x256x256.Idx) :
    k0_pay99 sc w y = min (Ideal.ofBits .f32 0x43E00000#32) (max (Ideal.ofBits .f32 0xC3E00000#32) (w (ix3 0 (y 1) (y 2)) * Ideal.div 1 (sc (ix2 (y 1) 0)))) := by
  idx_vars y
  pointwise [k0_pay99, k0_pay98, k0_pay97, k0_pay96]

theorem pay151_at (x : FVec Ideal S256x1 .f32) (y : S1x1x256.Idx) : k0_pay151 x y = x (ix2 (y 2) 0) := by
  idx_vars y
  pointwise [k0_pay151]

theorem dC_at (sc : FVec Ideal S256x1 .f32) (v : Vec Ideal S1x256x256 .f32) (p u : Fin 256) :
    dC sc v (ix2 p u) = v (ix3 0 p u) * Ideal.div 1 (sc (ix2 p 0))
      - min (Ideal.ofBits .f32 0x43E00000#32) (max (Ideal.ofBits .f32 0xC3E00000#32) (v (ix3 0 p u) * Ideal.div 1 (sc (ix2 p 0)))) := by
  pointwise [dC, k0_pay98, k0_pay97, k0_pay96]

theorem errT_at (sc : FVec Ideal S256x1 .f32) (acc : FVec Ideal S256x128 .f32) (p : Fin 256) :
    errT sc acc (ix3 0 0 p) = (∑ l, acc (ix2 p l)) * sc (ix2 p 0) * sc (ix2 p 0) := by
  refine (pay151_at _ _).trans ?_
  pointwise

theorem pay152_at (x : FVec Ideal S256x1 .f32) (y : S1x1x256.Idx) : k0_pay152 x y = x (ix2 (y 2) 0) := by
  idx_vars y
  pointwise [k0_pay152]

theorem pay154_at (j : BitVec 32) (x : FVec Ideal S256x1 .f32) (z : Vec Ideal S1x8x128 .f32) (y : S1x8x128.Idx) :
    k0_pay1 (k0_pay154 j x z) y = if j = 0#32 then Finset.fold max (Ideal.ofBits .f32 0xFF800000#32) (fun p => x (ix2 p 0)) Finset.univ
      else max (z y) (Finset.fold max (Ideal.ofBits .f32 0xFF800000#32) (fun p => x (ix2 p 0)) Finset.univ) := by
  idx_vars y
  obtain rfl : y0 = 0 := Subsingleton.elim _ _
  pointwise [k0_pay154, k0_pay1]
  by_cases h : j = 0#32
  · rw [if_pos h, h]
    rfl
  · rw [if_neg h, show Scalar.cmpi CmpIPredicate.eq j 0#32 = 0#1 from by simp only [Scalar.cmpi, IntOp.cmpi, beq_eq_false_iff_ne.2 h]; rfl]
    rfl

end Cert.KernelIdeal.Merge
end
-- ==== Proof.KBlock.lean ====
/- What one run of the merge kernel stores in its output blocks, entry by entry, as the row formulas of the row it works on. -/
module
public import proofs.«01_k».proof.Proof.KOps
@[expose] public section
set_option maxRecDepth 16384
noncomputable section
open Idealize.ShloMosaic Idealize.ShloMosaic.TcCoe Idealize.SL.Sem
namespace Cert.KernelIdeal.Merge
open Cert.KernelIdeal Cert.KernelIdeal.Gen Cert.MergeSpec

/-- The batch of a grid point. -/
abbrev gB (i : grid0.Coords) : Fin 2 := ⟨(i 0).val, (i 0).isLt⟩

theorem word_nat : ∀ n : Fin 2, (Scalar.indexCast (BitVec.ofNat 32 n.val) : Index).toNat = n.val := by decide

theorem off1 (i : grid0.Coords) : k0_off1 i = ![(gB i).val, (0 : Fin 4).val] := congrArg (fun n => ![n, 0]) (word_nat (gB i))
theorem off2 (i : grid0.Coords) : k0_off2 i = ![(gB i).val, (1 : Fin 4).val] := congrArg (fun n => ![n, 1]) (word_nat (gB i))
theorem off3 (i : grid0.Coords) : k0_off3 i = ![(gB i).val, (2 : Fin 4).val] := congrArg (fun n => ![n, 2]) (word_nat (gB i))
theorem off4 (i : grid0.Coords) : k0_off4 i = ![(gB i).val, (3 : Fin 4).val] := congrArg (fun n => ![n, 3]) (word_nat (gB i))

theorem cols_emb_row (o : ℕ) (ho : o + 256 ≤ 3072) (x : S1x256x256.Idx) : ((colsAt o ho).emb x) 1 = x 1 :=
  Fin.ext ((Rect.idx_unit_val (s := S1x256x3072) ![0, 0, o] S1x256x256.size (inb_chunk o ho) x 1).trans (Nat.zero_add _))

theorem cols_emb_col (o : ℕ) (ho : o + 256 ≤ 3072) (x : S1x256x256.Idx) : ((colsAt o ho).emb x) 2 = col o ho (x 2) :=
  Fin.ext (Rect.idx_unit_val (s := S1x256x3072) ![0, 0, o] S1x256x256.size (inb_chunk o ho) x 2)

/-- Columns past a chunk are not in it. -/
theorem not_in_chunk (o o' : ℕ) (ho : o + 256 ≤ 3072) (ho' : o' + 256 ≤ 3072) (h : o + 256 ≤ o') (x : S1x256x256.Idx) :
    (colsAt o' ho').toLoadRect.idx x ∉ (colsAt o ho).set := by
  rw [Rect.mem_set_unit]
  intro hx
  have h2 := (hx 2).2
  have e : (((colsAt o' ho').toLoadRect.idx x) 2 : ℕ) = o' + (x 2).val := Rect.idx_unit_val (s := S1x256x3072) ![0, 0, o'] S1x256x256.size (inb_chunk o' ho') x 2
  rw [e] at h2
  have h3 : o' + (x 2).val < o + 256 := h2
  omega

theorem div_by_448 (a : EReal) : Ideal.div a (Ideal.ofBits .f32 0x43E00000#32) = a * ((448 : ℝ) : EReal)⁻¹ := by
  have e : Ideal.ofBits .f32 0x43E00000#32 = ((448 : ℝ) : EReal) := by
    simp [Ideal.ofBits, Ideal.ieee, -EReal.coe_mul]
    norm_num
  rw [e, Ideal.div, if_neg (by simp)]

theorem scale_ne_zero (R : Row) : R.scale ≠ 0 := by
  unfold Row.scale
  split
  · exact one_ne_zero
  · rename_i h
    rw [div_by_448, ← EReal.coe_inv]
    exact mul_ne_zero h (by simp)

theorem stats_emb (r : Fin 3) (inb) (p : Fin 256) : (Rect.unit (s := S1x3x256) ![0, r.val, 0] S1x1x256.size inb).emb (ix3 0 0 p) = ix3 0 r p :=
  funext fun a => Fin.ext (by
    refine (Rect.idx_unit_val _ _ _ (ix3 (0 : Fin 1) (0 : Fin 1) p) a).trans ?_
    match a with
    | ⟨0, _⟩ => rfl
    | ⟨1, _⟩ => rfl
    | ⟨2, _⟩ => exact Nat.zero_add _)

/-- Past a piece stored below an index, the canon is that of the earlier pieces. -/
theorem canon_past (off size : Fin 3 → ℕ) (inb) (e) (L : List (View.Piece (Elt Ideal) S1x3x256 .f32)) (y : S1x3x256.Idx) (h : (y 1).val < off 1) :
    View.canon ((⟨Rect.unit (s := S1x3x256) off size inb, e⟩ : View.Piece (Elt Ideal) S1x3x256 .f32) :: L) y = View.canon L y :=
  View.canon_cons_of_not_mem _ L fun hy => absurd (((Rect.mem_set_unit (inb := inb)).mp hy) 1).1 (Nat.not_le.mpr h)

/-- The numbers of a block stored at row zero of the statistics, -/
theorem stats_norm (e₂ e₁ e₀ : Vec Ideal S1x1x256 .f32) (p : Fin 256) :
    View.canon ([⟨Rect.unit ![0, 2, 0] S1x1x256.size inb_S1x3x256_S1x1x256_0_2_0, e₂⟩, ⟨Rect.unit ![0, 1, 0] S1x1x256.size inb_S1x3x256_S1x1x256_0_1_0, e₁⟩,
      ⟨Rect.unit ![0, 0, 0] S1x1x256.size inb_S1x3x256_S1x1x256_0_0_0, e₀⟩] : List (View.Piece (Elt Ideal) S1x3x256 .f32)) (ix3 0 0 p) = e₀ (ix3 0 0 p) :=
  (canon_past ![0, 2, 0] _ _ e₂ _ _ (show 0 < 2 by decide)).trans ((canon_past ![0, 1, 0] _ _ e₁ _ _ (show 0 < 1 by decide)).trans
    ((congrArg _ (stats_emb 0 inb_S1x3x256_S1x1x256_0_0_0 p).symm).trans (View.canon_cons_emb _ _ _ _)))

/-- at row one, -/
theorem stats_scale (e₂ e₁ e₀ : Vec Ideal S1x1x256 .f32) (p : Fin 256) :
    View.canon ([⟨Rect.unit ![0, 2, 0] S1x1x256.size inb_S1x3x256_S1x1x256_0_2_0, e₂⟩, ⟨Rect.unit ![0, 1, 0] S1x1x256.size inb_S1x3x256_S1x1x256_0_1_0, e₁⟩,
      ⟨Rect.unit ![0, 0, 0] S1x1x256.size inb_S1x3x256_S1x1x256_0_0_0, e₀⟩] : List (View.Piece (Elt Ideal) S1x3x256 .f32)) (ix3 0 1 p) = e₁ (ix3 0 0 p) :=
  (canon_past ![0, 2, 0] _ _ e₂ _ _ (show 1 < 2 by decide)).trans
    ((congrArg _ (stats_emb 1 inb_S1x3x256_S1x1x256_0_1_0 p).symm).trans (View.canon_cons_emb _ _ _ _))

/-- and at row two. -/
theorem stats_err (e₂ e₁ e₀ : Vec Ideal S1x1x256 .f32) (p : Fin 256) :
    View.canon ([⟨Rect.unit ![0, 2, 0] S1x1x256.size inb_S1x3x256_S1x1x256_0_2_0, e₂⟩, ⟨Rect.unit ![0, 1, 0] S1x1x256.size inb_S1x3x256_S1x1x256_0_1_0, e₁⟩,
      ⟨Rect.unit ![0, 0, 0] S1x1x256.size inb_S1x3x256_S1x1x256_0_0_0, e₀⟩] : List (View.Piece (Elt Ideal) S1x3x256 .f32)) (ix3 0 2 p) = e₂ (ix3 0 0 p) :=
  (congrArg _ (stats_emb 2 inb_S1x3x256_S1x1x256_0_2_0 p).symm).trans (View.canon_cons_emb _ _ _ _)

/-- A product by the reciprocal of a scale is the quotient by it. -/
theorem mul_recip (x : EReal) {s : EReal} (hs : s ≠ 0) : x * Ideal.div 1 s = Ideal.div x s := by
  rw [Ideal.div, Ideal.div, if_neg hs, if_neg hs, one_mul]

/-- The code of a column, from its weight and the scale of its row. -/
theorem code_of {R : Row} (W : Vec Ideal S1x256x256 .f32) (sc : FVec Ideal S256x1 .f32) (p u : Fin 256) (q : Fin 3072) (hW : W (ix3 0 p u) = R.w q) (hs : sc (ix2 p 0) = R.scale) :
    min (Ideal.ofBits .f32 0x43E00000#32) (max (Ideal.ofBits .f32 0xC3E00000#32) (W (ix3 0 p u) * Ideal.div 1 (sc (ix2 p 0)))) = R.code q := by
  rw [hW, hs, mul_recip _ (scale_ne_zero _)]
  rfl

/-- How far a column, over the scale of its row, lies from its code. -/
theorem miss_of {R : Row} (W : Vec Ideal S1x256x256 .f32) (sc : FVec Ideal S256x1 .f32) (p u : Fin 256) (q : Fin 3072) (hW : W (ix3 0 p u) = R.w q) (hs : sc (ix2 p 0) = R.scale) :
    dC sc W (ix2 p u) = Ideal.div (R.w q) R.scale - R.code q := by
  rw [dC_at, code_of W sc p u q hW hs, hW, hs, mul_recip _ (scale_ne_zero _)]

section words

variable (c : Dev nD) (i : grid0.Coords) (arg2 : Memref sig .tc .smem S2x4 .f32) (harg2 : arg2.IsWhole) (arg3 : Memref sig .tc .smem S2x4 .i32) (harg3 : arg3.IsWhole) (arg4 : Memref sig .tc .vmem S1x256x3072 .fp8e4m3) (harg4 : arg4.IsWhole) (arg5 : Memref sig .tc .vmem S1x3x256 .f32) (harg5 : arg5.IsWhole) (arg6 : Memref sig .tc .vmem S1x32x256 .fp8e4m3) (harg6 : arg6.IsWhole) (arg7 : Memref sig .tc .vmem S1x32x3072 .fp8e4m3) (harg7 : arg7.IsWhole) (arg8 : Memref sig .tc .vmem S1x1x3072 .f32) (harg8 : arg8.IsWhole) (arg9 : Memref sig .tc .vmem S1x4x256x128 .bf16) (harg9 : arg9.IsWhole) (arg10 : Memref sig .tc .vmem S1x512x3072 .bf16) (harg10 : arg10.IsWhole) (x0 : Vec Ideal S2x4 .f32) (x1 : Vec Ideal S2x4 .i32) (x2 : Vec Ideal S1x256x3072 .fp8e4m3) (x3 : Vec Ideal S1x3x256 .f32) (x4 : Vec Ideal S1x32x256 .fp8e4m3) (x5 : Vec Ideal S1x32x3072 .fp8e4m3) (x6 : Vec Ideal S1x1x3072 .f32) (x7 : Vec Ideal S1x4x256x128 .bf16) (x8 : Vec Ideal S1x512x3072 .bf16)

theorem b_first (p : Fin 256) (j : Fin 128) : (mergeRun.sl.r_6 c i arg2 harg2 arg3 harg3 arg9 harg9 x0 x1 x7) (ix2 p j) = (blockRow (gB i) x0 x1 x2 x3 x4 x5 x6 x7 x8 p).b 0 j :=
  (pay5_at _ _ _ p j).trans (masked_congr (load_word arg3 harg3 x1 _ (gB i) 0 (off1 i) _ _) (load_word arg2 harg2 x0 _ (gB i) 0 (off1 i) _ _)
    (load_b arg9 harg9 x7 0 _ p j) j)

theorem b_rest (p : Fin 256) (x : Fin 384) : (mergeRun.sl.r_13 c i arg2 harg2 arg3 harg3 arg9 harg9 x0 x1 x7) (ix2 p x) = (blockRow (gB i) x0 x1 x2 x3 x4 x5 x6 x7 x8 p).b (adapter x) (place x) :=
  pay7_at _ _ _ _ _ _ _ _ _ p (blockRow (gB i) x0 x1 x2 x3 x4 x5 x6 x7 x8 p).b
    (fun j => masked_congr (load_word arg3 harg3 x1 _ (gB i) 1 (off2 i) _ _) (load_word arg2 harg2 x0 _ (gB i) 1 (off2 i) _ _) (load_b arg9 harg9 x7 1 _ p j) j)
    (fun j => masked_congr (load_word arg3 harg3 x1 _ (gB i) 2 (off3 i) _ _) (load_word arg2 harg2 x0 _ (gB i) 2 (off3 i) _ _) (load_b arg9 harg9 x7 2 _ p j) j)
    (fun j => masked_congr (load_word arg3 harg3 x1 _ (gB i) 3 (off4 i) _ _) (load_word arg2 harg2 x0 _ (gB i) 3 (off4 i) _ _) (load_b arg9 harg9 x7 3 _ p j) j) x

/-- A chunk of the first pass. -/
theorem vC_at (o : ℕ) (ho : o + 256 ≤ 3072) (p u : Fin 256) : vC c i arg2 harg2 arg3 harg3 arg4 harg4 arg5 harg5 arg6 harg6 arg7 harg7 arg8 harg8 arg9 harg9 arg10 harg10 x0 x1 x2 x3 x4 x5 x6 x7 x8 o ho (ix2 p u) = (blockRow (gB i) x0 x1 x2 x3 x4 x5 x6 x7 x8 p).v (col o ho u) := by
  unfold vC
  rw [pay11_at]
  have hws : (mergeRun.sl.r_14 c arg5 harg5 x3) (ix2 p u) = x3 (ix3 0 0 p) :=
    tile_at _ _ p (fun l => (col_at _ p l).trans (load_row arg5 harg5 x3 0 _ p)) u
  have hls : (mergeRun.sl.r_15 c arg5 harg5 x3) (ix2 p u) = x3 (ix3 0 1 p) :=
    tile9_at _ _ p (fun l => (col3_at _ p l).trans (load_row arg5 harg5 x3 1 _ p)) u
  have hl1 (k : Fin 32) := load_l1t arg6 harg6 x4 inb_S1x32x256_S1x32x256_0_0_0 k p
  have hl2 (k : Fin 32) := load_chunk arg7 harg7 x5 o ho (inb_chunk o ho) k u
  have ha (k : Fin 128) := load_chunkA arg10 harg10 x8 0 (by decide) o ho (inb_chunkA 0 128 (by decide) o ho) k u
  have hx := load_chunk arg4 harg4 x2 o ho (inb_chunk o ho) p u
  have hs := load_chunk arg8 harg8 x6 o ho (inb_chunk o ho) 0 u
  unfold Row.v
  refine congr (congrArg HAdd.hAdd (congr (congrArg HAdd.hAdd (congr (congrArg HMul.hMul hx) hws))
    (congr (congrArg HMul.hMul (congr (congrArg HMul.hMul (Finset.sum_congr rfl fun k _ => congr (congrArg HMul.hMul (hl1 k)) (hl2 k))) hls)) hs))) ?_
  refine Finset.sum_congr rfl fun j _ => ?_
  rw [b_first]
  refine congrArg (HMul.hMul _) ((ha j).trans (congrArg (fun z => x8 (ix3 0 z (col o ho u))) (Fin.ext ?_)))
  show 0 + j.val = 128 * 0 + j.val
  omega

theorem pV_at (o : ℕ) (ho : o + 256 ≤ 3072) (x : S1x256x256.Idx) :
    (pV c i arg2 harg2 arg3 harg3 arg4 harg4 arg5 harg5 arg6 harg6 arg7 harg7 arg8 harg8 arg9 harg9 arg10 harg10 x0 x1 x2 x3 x4 x5 x6 x7 x8 o ho).2 x = (fun y : S1x256x3072.Idx => (blockRow (gB i) x0 x1 x2 x3 x4 x5 x6 x7 x8 (y 1)).v (y 2)) ((colsAt o ho).emb x) := by
  refine (store_at _ x).trans ((vC_at c i arg2 harg2 arg3 harg3 arg4 harg4 arg5 harg5 arg6 harg6 arg7 harg7 arg8 harg8 arg9 harg9 arg10 harg10 x0 x1 x2 x3 x4 x5 x6 x7 x8 o ho _ _).trans ?_)
  dsimp only
  rw [cols_emb_row, cols_emb_col]

/-- The first pass leaves the weights before rescaling. -/
theorem first_pass (y : S1x256x3072.Idx) : View.canon (mergeRun.sl.H10_12 c i arg2 harg2 arg3 harg3 arg4 harg4 arg5 harg5 arg6 harg6 arg7 harg7 arg8 harg8 arg9 harg9 arg10 harg10 x0 x1 x2 x3 x4 x5 x6 x7 x8) y = (blockRow (gB i) x0 x1 x2 x3 x4 x5 x6 x7 x8 (y 1)).v (y 2) := by
  have hc : ∃ pc ∈ (mergeRun.sl.H10_12 c i arg2 harg2 arg3 harg3 arg4 harg4 arg5 harg5 arg6 harg6 arg7 harg7 arg8 harg8 arg9 harg9 arg10 harg10 x0 x1 x2 x3 x4 x5 x6 x7 x8), y ∈ pc.1.set := View.cover_of_tiledL (mergeRun.sl.H10_12 c i arg2 harg2 arg3 harg3 arg4 harg4 arg5 harg5 arg6 harg6 arg7 harg7 arg8 harg8 arg9 harg9 arg10 harg10 x0 x1 x2 x3 x4 x5 x6 x7 x8) S1x256x256.size (by sl_kernel_rfl) y
  have hp : View.PiecesOf (Val := Elt Ideal) (s := S1x256x3072) (e := .f32) (fun y => (blockRow (gB i) x0 x1 x2 x3 x4 x5 x6 x7 x8 (y 1)).v (y 2)) [pV c i arg2 harg2 arg3 harg3 arg4 harg4 arg5 harg5 arg6 harg6 arg7 harg7 arg8 harg8 arg9 harg9 arg10 harg10 x0 x1 x2 x3 x4 x5 x6 x7 x8 2816 (by decide), pV c i arg2 harg2 arg3 harg3 arg4 harg4 arg5 harg5 arg6 harg6 arg7 harg7 arg8 harg8 arg9 harg9 arg10 harg10 x0 x1 x2 x3 x4 x5 x6 x7 x8 2560 (by decide), pV c i arg2 harg2 arg3 harg3 arg4 harg4 arg5 harg5 arg6 harg6 arg7 harg7 arg8 harg8 arg9 harg9 arg10 harg10 x0 x1 x2 x3 x4 x5 x6 x7 x8 2304 (by decide), pV c i arg2 harg2 arg3 harg3 arg4 harg4 arg5 harg5 arg6 harg6 arg7 harg7 arg8 harg8 arg9 harg9 arg10 harg10 x0 x1 x2 x3 x4 x5 x6 x7 x8 2048 (by decide), pV c i arg2 harg2 arg3 harg3 arg4 harg4 arg5 harg5 arg6 harg6 arg7 harg7 arg8 harg8 arg9 harg9 arg10 harg10 x0 x1 x2 x3 x4 x5 x6 x7 x8 1792 (by decide), pV c i arg2 harg2 arg3 harg3 arg4 harg4 arg5 harg5 arg6 harg6 arg7 harg7 arg8 harg8 arg9 harg9 arg10 harg10 x0 x1 x2 x3 x4 x5 x6 x7 x8 1536 (by decide), pV c i arg2 harg2 arg3 harg3 arg4 harg4 arg5 harg5 arg6 harg6 arg7 harg7 arg8 harg8 arg9 harg9 arg10 harg10 x0 x1 x2 x3 x4 x5 x6 x7 x8 1280 (by decide), pV c i arg2 harg2 arg3 harg3 arg4 harg4 arg5 harg5 arg6 harg6 arg7 harg7 arg8 harg8 arg9 harg9 arg10 harg10 x0 x1 x2 x3 x4 x5 x6 x7 x8 1024 (by decide), pV c i arg2 harg2 arg3 harg3 arg4 harg4 arg5 harg5 arg6 harg6 arg7 harg7 arg8 harg8 arg9 harg9 arg10 harg10 x0 x1 x2 x3 x4 x5 x6 x7 x8 768 (by decide), pV c i arg2 harg2 arg3 harg3 arg4 harg4 arg5 harg5 arg6 harg6 arg7 harg7 arg8 harg8 arg9 harg9 arg10 harg10 x0 x1 x2 x3 x4 x5 x6 x7 x8 512 (by decide), pV c i arg2 harg2 arg3 harg3 arg4 harg4 arg5 harg5 arg6 harg6 arg7 harg7 arg8 harg8 arg9 harg9 arg10 harg10 x0 x1 x2 x3 x4 x5 x6 x7 x8 256 (by decide), pV c i arg2 harg2 arg3 harg3 arg4 harg4 arg5 harg5 arg6 harg6 arg7 harg7 arg8 harg8 arg9 harg9 arg10 harg10 x0 x1 x2 x3 x4 x5 x6 x7 x8 0 (by decide)] :=
    ⟨pV_at c i arg2 harg2 arg3 harg3 arg4 harg4 arg5 harg5 arg6 harg6 arg7 harg7 arg8 harg8 arg9 harg9 arg10 harg10 x0 x1 x2 x3 x4 x5 x6 x7 x8 2816 (by decide), pV_at c i arg2 harg2 arg3 harg3 arg4 harg4 arg5 harg5 arg6 harg6 arg7 harg7 arg8 harg8 arg9 harg9 arg10 harg10 x0 x1 x2 x3 x4 x5 x6 x7 x8 2560 (by decide), pV_at c i arg2 harg2 arg3 harg3 arg4 harg4 arg5 harg5 arg6 harg6 arg7 harg7 arg8 harg8 arg9 harg9 arg10 harg10 x0 x1 x2 x3 x4 x5 x6 x7 x8 2304 (by decide), pV_at c i arg2 harg2 arg3 harg3 arg4 harg4 arg5 harg5 arg6 harg6 arg7 harg7 arg8 harg8 arg9 harg9 arg10 harg10 x0 x1 x2 x3 x4 x5 x6 x7 x8 2048 (by decide), pV_at c i arg2 harg2 arg3 harg3 arg4 harg4 arg5 harg5 arg6 harg6 arg7 harg7 arg8 harg8 arg9 harg9 arg10 harg10 x0 x1 x2 x3 x4 x5 x6 x7 x8 1792 (by decide), pV_at c i arg2 harg2 arg3 harg3 arg4 harg4 arg5 harg5 arg6 harg6 arg7 harg7 arg8 harg8 arg9 harg9 arg10 harg10 x0 x1 x2 x3 x4 x5 x6 x7 x8 1536 (by decide), pV_at c i arg2 harg2 arg3 harg3 arg4 harg4 arg5 harg5 arg6 harg6 arg7 harg7 arg8 harg8 arg9 harg9 arg10 harg10 x0 x1 x2 x3 x4 x5 x6 x7 x8 1280 (by decide), pV_at c i arg2 harg2 arg3 harg3 arg4 harg4 arg5 harg5 arg6 harg6 arg7 harg7 arg8 harg8 arg9 harg9 arg10 harg10 x0 x1 x2 x3 x4 x5 x6 x7 x8 1024 (by decide), pV_at c i arg2 harg2 arg3 harg3 arg4 harg4 arg5 harg5 arg6 harg6 arg7 harg7 arg8 harg8 arg9 harg9 arg10 harg10 x0 x1 x2 x3 x4 x5 x6 x7 x8 768 (by decide), pV_at c i arg2 harg2 arg3 harg3 arg4 harg4 arg5 harg5 arg6 harg6 arg7 harg7 arg8 harg8 arg9 harg9 arg10 harg10 x0 x1 x2 x3 x4 x5 x6 x7 x8 512 (by decide), pV_at c i arg2 harg2 arg3 harg3 arg4 harg4 arg5 harg5 arg6 harg6 arg7 harg7 arg8 harg8 arg9 harg9 arg10 harg10 x0 x1 x2 x3 x4 x5 x6 x7 x8 256 (by decide), pV_at c i arg2 harg2 arg3 harg3 arg4 harg4 arg5 harg5 arg6 harg6 arg7 harg7 arg8 harg8 arg9 harg9 arg10 harg10 x0 x1 x2 x3 x4 x5 x6 x7 x8 0 (by decide), trivial⟩
  rw [← pieces_first] at hp
  exact View.canon_apply_of_pieces (fun y => (blockRow (gB i) x0 x1 x2 x3 x4 x5 x6 x7 x8 (y 1)).v (y 2)) _ hp.mem y hc

theorem norm_at (p : Fin 256) : (mergeRun.sl.r_47 c i arg2 harg2 arg3 harg3 arg4 harg4 arg5 harg5 arg6 harg6 arg7 harg7 arg8 harg8 arg9 harg9 arg10 harg10 x0 x1 x2 x3 x4 x5 x6 x7 x8) (ix2 p 0) = (blockRow (gB i) x0 x1 x2 x3 x4 x5 x6 x7 x8 p).norm := by
  rw [norm_word, normT_at, v_last, sq_eleven]
  unfold Row.norm
  refine congrArg Ideal.sqrt ?_
  rw [← sum_lanes]
  refine Finset.sum_congr rfl fun l _ => ?_
  simp only [sqT_at, zero_at, vC_at c i arg2 harg2 arg3 harg3 arg4 harg4 arg5 harg5 arg6 harg6 arg7 harg7 arg8 harg8 arg9 harg9 arg10 harg10 x0 x1 x2 x3 x4 x5 x6 x7 x8, Fin.sum_univ_castSucc, Finset.univ_eq_empty, Finset.sum_empty]
  simp only [col, lane, Fin.val_castSucc, Fin.val_last, Nat.reduceMul, Nat.zero_add, ← Nat.add_assoc, Nat.reduceAdd]

theorem fac_at (p u : Fin 256) : (mergeRun.sl.r_48 c i arg2 harg2 arg3 harg3 arg4 harg4 arg5 harg5 arg6 harg6 arg7 harg7 arg8 harg8 arg9 harg9 arg10 harg10 x0 x1 x2 x3 x4 x5 x6 x7 x8) (ix2 p u) = Ideal.div (blockRow (gB i) x0 x1 x2 x3 x4 x5 x6 x7 x8 p).mg (if (blockRow (gB i) x0 x1 x2 x3 x4 x5 x6 x7 x8 p).norm = 0 then 1 else (blockRow (gB i) x0 x1 x2 x3 x4 x5 x6 x7 x8 p).norm) := by
  rw [fac_word, facT_at, norm_at]
  exact congrArg (fun z => Ideal.div z _) ((col4_at _ p 0).trans (load_row arg5 harg5 x3 2 _ p))

/-- A chunk of the second pass. -/
theorem wC_row (o : ℕ) (ho : o + 256 ≤ 3072) (v : Vec Ideal S1x256x256 .f32) (hv : ∀ p u, v (ix3 0 p u) = (blockRow (gB i) x0 x1 x2 x3 x4 x5 x6 x7 x8 p).v (col o ho u)) (p u : Fin 256) :
    wC (mergeRun.sl.r_48 c i arg2 harg2 arg3 harg3 arg4 harg4 arg5 harg5 arg6 harg6 arg7 harg7 arg8 harg8 arg9 harg9 arg10 harg10 x0 x1 x2 x3 x4 x5 x6 x7 x8) (mergeRun.sl.r_13 c i arg2 harg2 arg3 harg3 arg9 harg9 x0 x1 x7) (aRest arg10 harg10 x8 o ho) v (ix2 p u) = (blockRow (gB i) x0 x1 x2 x3 x4 x5 x6 x7 x8 p).w (col o ho u) := by
  rw [wC_at, hv, fac_at]
  unfold Row.w
  refine congrArg (HAdd.hAdd _) (Finset.sum_congr rfl fun x _ => ?_)
  rw [b_rest]
  refine congrArg (HMul.hMul _) ((load_chunkA arg10 harg10 x8 128 (by decide) o ho (inb_chunkA 128 384 (by decide) o ho) x u).trans
    (congrArg (fun z => x8 (ix3 0 z (col o ho u))) (Fin.ext ?_)))
  show 128 + x.val = 128 * (1 + x.val / 128) + x.val % 128
  omega

theorem pW_at (o : ℕ) (ho : o + 256 ≤ 3072) (v : Vec Ideal S1x256x256 .f32) (hv : ∀ p u, v (ix3 0 p u) = (blockRow (gB i) x0 x1 x2 x3 x4 x5 x6 x7 x8 p).v (col o ho u)) (x : S1x256x256.Idx) :
    (pW c i arg2 harg2 arg3 harg3 arg4 harg4 arg5 harg5 arg6 harg6 arg7 harg7 arg8 harg8 arg9 harg9 arg10 harg10 x0 x1 x2 x3 x4 x5 x6 x7 x8 o ho v).2 x = (fun y : S1x256x3072.Idx => (blockRow (gB i) x0 x1 x2 x3 x4 x5 x6 x7 x8 (y 1)).w (y 2)) ((colsAt o ho).emb x) := by
  refine (store_at _ x).trans ((wC_row c i arg2 harg2 arg3 harg3 arg4 harg4 arg5 harg5 arg6 harg6 arg7 harg7 arg8 harg8 arg9 harg9 arg10 harg10 x0 x1 x2 x3 x4 x5 x6 x7 x8 o ho v hv _ _).trans ?_)
  dsimp only
  rw [cols_emb_row, cols_emb_col]

theorem pW_skip (o o' : ℕ) (ho : o + 256 ≤ 3072) (ho' : o' + 256 ≤ 3072) (h : o + 256 ≤ o') (v : Vec Ideal S1x256x256 .f32) (L) (x : S1x256x256.Idx) :
    View.canon (pW c i arg2 harg2 arg3 harg3 arg4 harg4 arg5 harg5 arg6 harg6 arg7 harg7 arg8 harg8 arg9 harg9 arg10 harg10 x0 x1 x2 x3 x4 x5 x6 x7 x8 o ho v :: L) ((colsAt o' ho').toLoadRect.idx x) = View.canon L ((colsAt o' ho').toLoadRect.idx x) :=
  View.canon_cons_of_not_mem (pW c i arg2 harg2 arg3 harg3 arg4 harg4 arg5 harg5 arg6 harg6 arg7 harg7 arg8 harg8 arg9 harg9 arg10 harg10 x0 x1 x2 x3 x4 x5 x6 x7 x8 o ho v) L (not_in_chunk o o' ho ho' h x)

theorem first_pass_at (o : ℕ) (ho : o + 256 ≤ 3072) (p u : Fin 256) :
    View.canon (mergeRun.sl.H10_12 c i arg2 harg2 arg3 harg3 arg4 harg4 arg5 harg5 arg6 harg6 arg7 harg7 arg8 harg8 arg9 harg9 arg10 harg10 x0 x1 x2 x3 x4 x5 x6 x7 x8) ((colsAt o ho).toLoadRect.idx (ix3 0 p u)) = (blockRow (gB i) x0 x1 x2 x3 x4 x5 x6 x7 x8 p).v (col o ho u) := by
  rw [first_pass]
  exact congr (congrArg (fun z => (blockRow (gB i) x0 x1 x2 x3 x4 x5 x6 x7 x8 z).v) (cols_emb_row o ho (ix3 0 p u))) (cols_emb_col o ho (ix3 0 p u))

variable (arg12 : Memref sig .tc .vmem S1x256x3072 .f32)

theorem read_0 (p u : Fin 256) : (mergeRun.sl.v451 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 0 (by decide) u) := by
  rw [load_0, View.readCov_eq_canon']
  dsimp only
  skip
  exact first_pass_at c i arg2 harg2 arg3 harg3 arg4 harg4 arg5 harg5 arg6 harg6 arg7 harg7 arg8 harg8 arg9 harg9 arg10 harg10 x0 x1 x2 x3 x4 x5 x6 x7 x8 0 (by decide) p u

theorem read_256 (p u : Fin 256) : (mergeRun.sl.v467 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 256 (by decide) u) := by
  rw [load_256, View.readCov_eq_canon', held_256]
  dsimp only
  rw [pW_skip]
  · exact first_pass_at c i arg2 harg2 arg3 harg3 arg4 harg4 arg5 harg5 arg6 harg6 arg7 harg7 arg8 harg8 arg9 harg9 arg10 harg10 x0 x1 x2 x3 x4 x5 x6 x7 x8 256 (by decide) p u
  all_goals decide

theorem read_512 (p u : Fin 256) : (mergeRun.sl.v483 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 512 (by decide) u) := by
  rw [load_512, View.readCov_eq_canon', held_512]
  dsimp only
  rw [pW_skip, pW_skip]
  · exact first_pass_at c i arg2 harg2 arg3 harg3 arg4 harg4 arg5 harg5 arg6 harg6 arg7 harg7 arg8 harg8 arg9 harg9 arg10 harg10 x0 x1 x2 x3 x4 x5 x6 x7 x8 512 (by decide) p u
  all_goals decide

theorem read_768 (p u : Fin 256) : (mergeRun.sl.v499 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 768 (by decide) u) := by
  rw [load_768, View.readCov_eq_canon', held_768]
  dsimp only
  rw [pW_skip, pW_skip, pW_skip]
  · exact first_pass_at c i arg2 harg2 arg3 harg3 arg4 harg4 arg5 harg5 arg6 harg6 arg7 harg7 arg8 harg8 arg9 harg9 arg10 harg10 x0 x1 x2 x3 x4 x5 x6 x7 x8 768 (by decide) p u
  all_goals decide

theorem read_1024 (p u : Fin 256) : (mergeRun.sl.v515 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 1024 (by decide) u) := by
  rw [load_1024, View.readCov_eq_canon', held_1024]
  dsimp only
  rw [pW_skip, pW_skip, pW_skip, pW_skip]
  · exact first_pass_at c i arg2 harg2 arg3 harg3 arg4 harg4 arg5 harg5 arg6 harg6 arg7 harg7 arg8 harg8 arg9 harg9 arg10 harg10 x0 x1 x2 x3 x4 x5 x6 x7 x8 1024 (by decide) p u
  all_goals decide

theorem read_1280 (p u : Fin 256) : (mergeRun.sl.v531 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 1280 (by decide) u) := by
  rw [load_1280, View.readCov_eq_canon', held_1280]
  dsimp only
  rw [pW_skip, pW_skip, pW_skip, pW_skip, pW_skip]
  · exact first_pass_at c i arg2 harg2 arg3 harg3 arg4 harg4 arg5 harg5 arg6 harg6 arg7 harg7 arg8 harg8 arg9 harg9 arg10 harg10 x0 x1 x2 x3 x4 x5 x6 x7 x8 1280 (by decide) p u
  all_goals decide

theorem read_1536 (p u : Fin 256) : (mergeRun.sl.v547 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 1536 (by decide) u) := by
  rw [load_1536, View.readCov_eq_canon', held_1536]
  dsimp only
  rw [pW_skip, pW_skip, pW_skip, pW_skip, pW_skip, pW_skip]
  · exact first_pass_at c i arg2 harg2 arg3 harg3 arg4 harg4 arg5 harg5 arg6 harg6 arg7 harg7 arg8 harg8 arg9 harg9 arg10 harg10 x0 x1 x2 x3 x4 x5 x6 x7 x8 1536 (by decide) p u
  all_goals decide

theorem read_1792 (p u : Fin 256) : (mergeRun.sl.v563 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 1792 (by decide) u) := by
  rw [load_1792, View.readCov_eq_canon', held_1792]
  dsimp only
  rw [pW_skip, pW_skip, pW_skip, pW_skip, pW_skip, pW_skip, pW_skip]
  · exact first_pass_at c i arg2 harg2 arg3 harg3 arg4 harg4 arg5 harg5 arg6 harg6 arg7 harg7 arg8 harg8 arg9 harg9 arg10 harg10 x0 x1 x2 x3 x4 x5 x6 x7 x8 1792 (by decide) p u
  all_goals decide

theorem read_2048 (p u : Fin 256) : (mergeRun.sl.v579 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 2048 (by decide) u) := by
  rw [load_2048, View.readCov_eq_canon', held_2048]
  dsimp only
  rw [pW_skip, pW_skip, pW_skip, pW_skip, pW_skip, pW_skip, pW_skip, pW_skip]
  · exact first_pass_at c i arg2 harg2 arg3 harg3 arg4 harg4 arg5 harg5 arg6 harg6 arg7 harg7 arg8 harg8 arg9 harg9 arg10 harg10 x0 x1 x2 x3 x4 x5 x6 x7 x8 2048 (by decide) p u
  all_goals decide

theorem read_2304 (p u : Fin 256) : (mergeRun.sl.v595 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 2304 (by decide) u) := by
  rw [load_2304, View.readCov_eq_canon', held_2304]
  dsimp only
  rw [pW_skip, pW_skip, pW_skip, pW_skip, pW_skip, pW_skip, pW_skip, pW_skip, pW_skip]
  · exact first_pass_at c i arg2 harg2 arg3 harg3 arg4 harg4 arg5 harg5 arg6 harg6 arg7 harg7 arg8 harg8 arg9 harg9 arg10 harg10 x0 x1 x2 x3 x4 x5 x6 x7 x8 2304 (by decide) p u
  all_goals decide

theorem read_2560 (p u : Fin 256) : (mergeRun.sl.v611 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 2560 (by decide) u) := by
  rw [load_2560, View.readCov_eq_canon', held_2560]
  dsimp only
  rw [pW_skip, pW_skip, pW_skip, pW_skip, pW_skip, pW_skip, pW_skip, pW_skip, pW_skip, pW_skip]
  · exact first_pass_at c i arg2 harg2 arg3 harg3 arg4 harg4 arg5 harg5 arg6 harg6 arg7 harg7 arg8 harg8 arg9 harg9 arg10 harg10 x0 x1 x2 x3 x4 x5 x6 x7 x8 2560 (by decide) p u
  all_goals decide

theorem read_2816 (p u : Fin 256) : (mergeRun.sl.v627 c i arg2 harg2 arg3 harg3 arg4 harg4 arg5 harg5 arg6 harg6 arg7 harg7 arg8 harg8 arg9 harg9 arg10 harg10 arg12 x0 x1 x2 x3 x4 x5 x6 x7 x8) (ix3 0 p u) = (blockRow (gB i) x0 x1 x2 x3 x4 x5 x6 x7 x8 p).v (col 2816 (by decide) u) := by
  rw [load_2816, View.readCov_eq_canon', held_2816]
  dsimp only
  rw [pW_skip, pW_skip, pW_skip, pW_skip, pW_skip, pW_skip, pW_skip, pW_skip, pW_skip, pW_skip, pW_skip]
  · exact first_pass_at c i arg2 harg2 arg3 harg3 arg4 harg4 arg5 harg5 arg6 harg6 arg7 harg7 arg8 harg8 arg9 harg9 arg10 harg10 x0 x1 x2 x3 x4 x5 x6 x7 x8 2816 (by decide) p u
  all_goals decide

/-- The second pass leaves the merged weights. -/
theorem second_pass (y : S1x256x3072.Idx) : View.canon (mergeRun.sl.H10_24 c i arg2 harg2 arg3 harg3 arg4 harg4 arg5 harg5 arg6 harg6 arg7 harg7 arg8 harg8 arg9 harg9 arg10 harg10 arg12 x0 x1 x2 x3 x4 x5 x6 x7 x8) y = (blockRow (gB i) x0 x1 x2 x3 x4 x5 x6 x7 x8 (y 1)).w (y 2) := by
  have hc : ∃ pc ∈ ([pW c i arg2 harg2 arg3 harg3 arg4 harg4 arg5 harg5 arg6 harg6 arg7 harg7 arg8 harg8 arg9 harg9 arg10 harg10 x0 x1 x2 x3 x4 x5 x6 x7 x8 2816 (by decide) (mergeRun.sl.v627 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 2560 (by decide) (mergeRun.sl.v611 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 2304 (by decide) (mergeRun.sl.v595 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 2048 (by decide) (mergeRun.sl.v579 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1792 (by decide) (mergeRun.sl.v563 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1536 (by decide) (mergeRun.sl.v547 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8)] : List (View.Piece (Elt Ideal) S1x256x3072 .f32)), y ∈ pc.1.set :=
    View.cover_of_tiledL ([pW c i arg2 harg2 arg3 harg3 arg4 harg4 arg5 harg5 arg6 harg6 arg7 harg7 arg8 harg8 arg9 harg9 arg10 harg10 x0 x1 x2 x3 x4 x5 x6 x7 x8 2816 (by decide) (mergeRun.sl.v627 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 2560 (by decide) (mergeRun.sl.v611 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 2304 (by decide) (mergeRun.sl.v595 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 2048 (by decide) (mergeRun.sl.v579 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1792 (by decide) (mergeRun.sl.v563 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1536 (by decide) (mergeRun.sl.v547 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8)] : List (View.Piece (Elt Ideal) S1x256x3072 .f32)) S1x256x256.size (by sl_kernel_rfl) y
  have hp : View.PiecesOf (Val := Elt Ideal) (s := S1x256x3072) (e := .f32) (fun y => (blockRow (gB i) x0 x1 x2 x3 x4 x5 x6 x7 x8 (y 1)).w (y 2)) [pW c i arg2 harg2 arg3 harg3 arg4 harg4 arg5 harg5 arg6 harg6 arg7 harg7 arg8 harg8 arg9 harg9 arg10 harg10 x0 x1 x2 x3 x4 x5 x6 x7 x8 2816 (by decide) (mergeRun.sl.v627 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 2560 (by decide) (mergeRun.sl.v611 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 2304 (by decide) (mergeRun.sl.v595 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 2048 (by decide) (mergeRun.sl.v579 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1792 (by decide) (mergeRun.sl.v563 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1536 (by decide) (mergeRun.sl.v547 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1280 (by decide) (mergeRun.sl.v531 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 1024 (by decide) (mergeRun.sl.v515 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 768 (by decide) (mergeRun.sl.v499 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 512 (by decide) (mergeRun.sl.v483 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 256 (by decide) (mergeRun.sl.v467 c i arg2 harg2 arg3 harg3 arg4 harg4 arg5 harg5 arg6 harg6 arg7 harg7 arg8 harg8 arg9 harg9 arg10 harg10 arg12 x0 x1 x2 x3 x4 x5 x6 x7 x8), pW c i arg2 harg2 arg3 harg3 arg4 harg4 arg5 harg5 arg6 harg6 arg7 harg7 arg8 harg8 arg9 harg9 arg10 harg10 x0 x1 x2 x3 x4 x5 x6 x7 x8 0 (by decide) (mergeRun.sl.v451 c i arg2 harg2 arg3 harg3 arg4 harg4 arg5 harg5 arg6 harg6 arg7 harg7 arg8 harg8 arg9 harg9 arg10 harg10 arg12 x0 x1 x2 x3 x4 x5 x6 x7 x8)] :=
    ⟨pW_at c i arg2 harg2 arg3 harg3 arg4 harg4 arg5 harg5 arg6 harg6 arg7 harg7 arg8 harg8 arg9 harg9 arg10 harg10 x0 x1 x2 x3 x4 x5 x6 x7 x8 2816 (by decide) _ (read_2816 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 2560 (by decide) _ (read_2560 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 2304 (by decide) _ (read_2304 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 2048 (by decide) _ (read_2048 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 1792 (by decide) _ (read_1792 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 1536 (by decide) _ (read_1536 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 1280 (by decide) _ (read_1280 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 1024 (by decide) _ (read_1024 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 768 (by decide) _ (read_768 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 512 (by decide) _ (read_512 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 256 (by decide) _ (read_256 c i arg2 harg2 arg3 harg3 arg4 harg4 arg5 harg5 arg6 harg6 arg7 harg7 arg8 harg8 arg9 harg9 arg10 harg10 x0 x1 x2 x3 x4 x5 x6 x7 x8 arg12), pW_at c i arg2 harg2 arg3 harg3 arg4 harg4 arg5 harg5 arg6 harg6 arg7 harg7 arg8 harg8 arg9 harg9 arg10 harg10 x0 x1 x2 x3 x4 x5 x6 x7 x8 0 (by decide) _ (read_0 c i arg2 harg2 arg3 harg3 arg4 harg4 arg5 harg5 arg6 harg6 arg7 harg7 arg8 harg8 arg9 harg9 arg10 harg10 x0 x1 x2 x3 x4 x5 x6 x7 x8 arg12), trivial⟩
  rw [pieces_second]
  exact View.canon_append_of_piecesOf _ (mergeRun.sl.H10_12 c i arg2 harg2 arg3 harg3 arg4 harg4 arg5 harg5 arg6 harg6 arg7 harg7 arg8 harg8 arg9 harg9 arg10 harg10 x0 x1 x2 x3 x4 x5 x6 x7 x8) _ hp y hc

theorem second_pass_at (o : ℕ) (ho : o + 256 ≤ 3072) (p u : Fin 256) :
    View.canon (mergeRun.sl.H10_24 c i arg2 harg2 arg3 harg3 arg4 harg4 arg5 harg5 arg6 harg6 arg7 harg7 arg8 harg8 arg9 harg9 arg10 harg10 arg12 x0 x1 x2 x3 x4 x5 x6 x7 x8) ((colsAt o ho).toLoadRect.idx (ix3 0 p u)) = (blockRow (gB i) x0 x1 x2 x3 x4 x5 x6 x7 x8 p).w (col o ho u) := by
  rw [second_pass]
  exact congr (congrArg (fun z => (blockRow (gB i) x0 x1 x2 x3 x4 x5 x6 x7 x8 z).w) (cols_emb_row o ho (ix3 0 p u))) (cols_emb_col o ho (ix3 0 p u))

theorem top_at (p : Fin 256) : (mergeRun.sl.r_58 c i arg2 harg2 arg3 harg3 arg4 harg4 arg5 harg5 arg6 harg6 arg7 harg7 arg8 harg8 arg9 harg9 arg10 harg10 arg12 x0 x1 x2 x3 x4 x5 x6 x7 x8) (ix2 p 0) = (blockRow (gB i) x0 x1 x2 x3 x4 x5 x6 x7 x8 p).top := by
  rw [top_word, aT_at]
  unfold Row.top
  refine max_lanes _ (fun q => absf_nonneg _) _ fun l x => ?_
  simp only [amT_at, zero_at, wC_row c i arg2 harg2 arg3 harg3 arg4 harg4 arg5 harg5 arg6 harg6 arg7 harg7 arg8 harg8 arg9 harg9 arg10 harg10 x0 x1 x2 x3 x4 x5 x6 x7 x8 0 (by decide) _ (read_0 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 256 (by decide) _ (read_256 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 512 (by decide) _ (read_512 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 768 (by decide) _ (read_768 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 1024 (by decide) _ (read_1024 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 1280 (by decide) _ (read_1280 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 1536 (by decide) _ (read_1536 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 1792 (by decide) _ (read_1792 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 2048 (by decide) _ (read_2048 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 2304 (by decide) _ (read_2304 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 2560 (by decide) _ (read_2560 c i arg2 harg2 arg3 harg3 arg4 harg4 arg5 harg5 arg6 harg6 arg7 harg7 arg8 harg8 arg9 harg9 arg10 harg10 x0 x1 x2 x3 x4 x5 x6 x7 x8 arg12), wC_row c i arg2 harg2 arg3 harg3 arg4 harg4 arg5 harg5 arg6 harg6 arg7 harg7 arg8 harg8 arg9 harg9 arg10 harg10 x0 x1 x2 x3 x4 x5 x6 x7 x8 2816 (by decide) _ (read_2816 c i arg2 harg2 arg3 harg3 arg4 harg4 arg5 harg5 arg6 harg6 arg7 harg7 arg8 harg8 arg9 harg9 arg10 harg10 x0 x1 x2 x3 x4 x5 x6 x7 x8 arg12), max_le_iff, and_assoc]
  simp only [Fin.forall_fin_succ, IsEmpty.forall_iff, and_true, lane, col, Fin.val_succ, Fin.val_zero, Nat.reduceMul, Nat.zero_add, ← Nat.add_assoc, Nat.reduceAdd]

theorem scale_at (p : Fin 256) : (mergeRun.sl.r_59 c i arg2 harg2 arg3 harg3 arg4 harg4 arg5 harg5 arg6 harg6 arg7 harg7 arg8 harg8 arg9 harg9 arg10 harg10 arg12 x0 x1 x2 x3 x4 x5 x6 x7 x8) (ix2 p 0) = (blockRow (gB i) x0 x1 x2 x3 x4 x5 x6 x7 x8 p).scale := by
  rw [scale_word, scT_at, top_at]
  rfl

theorem rW_at (o : ℕ) (ho : o + 256 ≤ 3072) (p u : Fin 256) :
    rW c i arg2 harg2 arg3 harg3 arg4 harg4 arg5 harg5 arg6 harg6 arg7 harg7 arg8 harg8 arg9 harg9 arg10 harg10 x0 x1 x2 x3 x4 x5 x6 x7 x8 arg12 o ho (ix3 0 p u) = (blockRow (gB i) x0 x1 x2 x3 x4 x5 x6 x7 x8 p).w (col o ho u) := by
  unfold rW
  rw [View.readCov_eq_canon']
  exact second_pass_at c i arg2 harg2 arg3 harg3 arg4 harg4 arg5 harg5 arg6 harg6 arg7 harg7 arg8 harg8 arg9 harg9 arg10 harg10 x0 x1 x2 x3 x4 x5 x6 x7 x8 arg12 o ho p u

theorem dC_row (o : ℕ) (ho : o + 256 ≤ 3072) (p u : Fin 256) :
    dC (mergeRun.sl.r_59 c i arg2 harg2 arg3 harg3 arg4 harg4 arg5 harg5 arg6 harg6 arg7 harg7 arg8 harg8 arg9 harg9 arg10 harg10 arg12 x0 x1 x2 x3 x4 x5 x6 x7 x8) (rW c i arg2 harg2 arg3 harg3 arg4 harg4 arg5 harg5 arg6 harg6 arg7 harg7 arg8 harg8 arg9 harg9 arg10 harg10 x0 x1 x2 x3 x4 x5 x6 x7 x8 arg12 o ho) (ix2 p u) = Ideal.div ((blockRow (gB i) x0 x1 x2 x3 x4 x5 x6 x7 x8 p).w (col o ho u)) (blockRow (gB i) x0 x1 x2 x3 x4 x5 x6 x7 x8 p).scale - (blockRow (gB i) x0 x1 x2 x3 x4 x5 x6 x7 x8 p).code (col o ho u) :=
  miss_of _ _ p u _ (rW_at c i arg2 harg2 arg3 harg3 arg4 harg4 arg5 harg5 arg6 harg6 arg7 harg7 arg8 harg8 arg9 harg9 arg10 harg10 x0 x1 x2 x3 x4 x5 x6 x7 x8 arg12 o ho p u) (scale_at c i arg2 harg2 arg3 harg3 arg4 harg4 arg5 harg5 arg6 harg6 arg7 harg7 arg8 harg8 arg9 harg9 arg10 harg10 x0 x1 x2 x3 x4 x5 x6 x7 x8 arg12 p)

theorem pQ_at (o : ℕ) (ho : o + 256 ≤ 3072) (x : S1x256x256.Idx) :
    (pQ c i arg2 harg2 arg3 harg3 arg4 harg4 arg5 harg5 arg6 harg6 arg7 harg7 arg8 harg8 arg9 harg9 arg10 harg10 x0 x1 x2 x3 x4 x5 x6 x7 x8 arg12 o ho).2 x = (fun y : S1x256x3072.Idx => (blockRow (gB i) x0 x1 x2 x3 x4 x5 x6 x7 x8 (y 1)).code (y 2)) ((colsAt o ho).emb x) := by
  refine ((pay99_at _ _ x).trans (code_of _ _ _ _ _ (rW_at c i arg2 harg2 arg3 harg3 arg4 harg4 arg5 harg5 arg6 harg6 arg7 harg7 arg8 harg8 arg9 harg9 arg10 harg10 x0 x1 x2 x3 x4 x5 x6 x7 x8 arg12 o ho (x 1) (x 2)) (scale_at c i arg2 harg2 arg3 harg3 arg4 harg4 arg5 harg5 arg6 harg6 arg7 harg7 arg8 harg8 arg9 harg9 arg10 harg10 x0 x1 x2 x3 x4 x5 x6 x7 x8 arg12 (x 1)))).trans ?_
  dsimp only
  rw [cols_emb_row, cols_emb_col]

variable (arg11 : Memref sig .tc .vmem S1x256x3072 .fp8e4m3) (harg11 : arg11.IsWhole) (harg12 : arg12.IsWhole) (arg13 : Memref sig .tc .vmem S1x3x256 .f32) (harg13 : arg13.IsWhole) (arg14 : Memref sig .tc .vmem S1x8x128 .f32) (harg14 : arg14.IsWhole)

/-- The block of codes a run leaves, -/
theorem run_codes_at (y : S1x256x3072.Idx) : View.canon (mergeRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1 y = (blockRow (gB i) x0 x1 x2 x3 x4 x5 x6 x7 x8 (y 1)).code (y 2) := by
  have hc : ∃ pc ∈ ([pQ c i arg2 harg2 arg3 harg3 arg4 harg4 arg5 harg5 arg6 harg6 arg7 harg7 arg8 harg8 arg9 harg9 arg10 harg10 x0 x1 x2 x3 x4 x5 x6 x7 x8 arg12 2816 (by decide), pQ c i arg2 harg2 arg3 harg3 arg4 harg4 arg5 harg5 arg6 harg6 arg7 harg7 arg8 harg8 arg9 harg9 arg10 harg10 x0 x1 x2 x3 x4 x5 x6 x7 x8 arg12 2560 (by decide), pQ c i arg2 harg2 arg3 harg3 arg4 harg4 arg5 harg5 arg6 harg6 arg7 harg7 arg8 harg8 arg9 harg9 arg10 harg10 x0 x1 x2 x3 x4 x5 x6 x7 x8 arg12 2304 (by decide), pQ c i arg2 harg2 arg3 harg3 arg4 harg4 arg5 harg5 arg6 harg6 arg7 harg7 arg8 harg8 arg9 harg9 arg10 harg10 x0 x1 x2 x3 x4 x5 x6 x7 x8 arg12 2048 (by decide), pQ c i arg2 harg2 arg3 harg3 arg4 harg4 arg5 harg5 arg6 harg6 arg7 harg7 arg8 harg8 arg9 harg9 arg10 harg10 x0 x1 x2 x3 x4 x5 x6 x7 x8 arg12 1792 (by decide), pQ c i arg2 harg2 arg3 harg3 arg4 harg4 arg5 harg5 arg6 harg6 arg7 harg7 arg8 harg8 arg9 harg9 arg10 harg10 x0 x1 x2 x3 x4 x5 x6 x7 x8 arg12 1536 (by decide), pQ c i arg2 harg2 arg3 harg3 arg4 harg4 arg5 harg5 arg6 harg6 arg7 harg7 arg8 harg8 arg9 harg9 arg10 harg10 x0 x1 x2 x3 x4 x5 x6 x7 x8 arg12 1280 (by decide), pQ c i arg2 harg2 arg3 harg3 arg4 harg4 arg5 harg5 arg6 harg6 arg7 harg7 arg8 harg8 arg9 harg9 arg10 harg10 x0 x1 x2 x3 x4 x5 x6 x7 x8 arg12 1024 (by decide), pQ c i arg2 harg2 arg3 harg3 arg4 harg4 arg5 harg5 arg6 harg6 arg7 harg7 arg8 harg8 arg9 harg9 arg10 harg10 x0 x1 x2 x3 x4 x5 x6 x7 x8 arg12 768 (by decide), pQ c i arg2 harg2 arg3 harg3 arg4 harg4 arg5 harg5 arg6 harg6 arg7 harg7 arg8 harg8 arg9 harg9 arg10 harg10 x0 x1 x2 x3 x4 x5 x6 x7 x8 arg12 512 (by decide), pQ c i arg2 harg2 arg3 harg3 arg4 harg4 arg5 harg5 arg6 harg6 arg7 harg7 arg8 harg8 arg9 harg9 arg10 harg10 x0 x1 x2 x3 x4 x5 x6 x7 x8 arg12 256 (by decide), pQ c i arg2 harg2 arg3 harg3 arg4 harg4 arg5 harg5 arg6 harg6 arg7 harg7 arg8 harg8 arg9 harg9 arg10 harg10 x0 x1 x2 x3 x4 x5 x6 x7 x8 arg12 0 (by decide)] : List (View.Piece (Elt Ideal) S1x256x3072 .fp8e4m3)), y ∈ pc.1.set :=
    View.cover_of_tiledL ([pQ c i arg2 harg2 arg3 harg3 arg4 harg4 arg5 harg5 arg6 harg6 arg7 harg7 arg8 harg8 arg9 harg9 arg10 harg10 x0 x1 x2 x3 x4 x5 x6 x7 x8 arg12 2816 (by decide), pQ c i arg2 harg2 arg3 harg3 arg4 harg4 arg5 harg5 arg6 harg6 arg7 harg7 arg8 harg8 arg9 harg9 arg10 harg10 x0 x1 x2 x3 x4 x5 x6 x7 x8 arg12 2560 (by decide), pQ c i arg2 harg2 arg3 harg3 arg4 harg4 arg5 harg5 arg6 harg6 arg7 harg7 arg8 harg8 arg9 harg9 arg10 harg10 x0 x1 x2 x3 x4 x5 x6 x7 x8 arg12 2304 (by decide), pQ c i arg2 harg2 arg3 harg3 arg4 harg4 arg5 harg5 arg6 harg6 arg7 harg7 arg8 harg8 arg9 harg9 arg10 harg10 x0 x1 x2 x3 x4 x5 x6 x7 x8 arg12 2048 (by decide), pQ c i arg2 harg2 arg3 harg3 arg4 harg4 arg5 harg5 arg6 harg6 arg7 harg7 arg8 harg8 arg9 harg9 arg10 harg10 x0 x1 x2 x3 x4 x5 x6 x7 x8 arg12 1792 (by decide), pQ c i arg2 harg2 arg3 harg3 arg4 harg4 arg5 harg5 arg6 harg6 arg7 harg7 arg8 harg8 arg9 harg9 arg10 harg10 x0 x1 x2 x3 x4 x5 x6 x7 x8 arg12 1536 (by decide), pQ c i arg2 harg2 arg3 harg3 arg4 harg4 arg5 harg5 arg6 harg6 arg7 harg7 arg8 harg8 arg9 harg9 arg10 harg10 x0 x1 x2 x3 x4 x5 x6 x7 x8 arg12 1280 (by decide), pQ c i arg2 harg2 arg3 harg3 arg4 harg4 arg5 harg5 arg6 harg6 arg7 harg7 arg8 harg8 arg9 harg9 arg10 harg10 x0 x1 x2 x3 x4 x5 x6 x7 x8 arg12 1024 (by decide), pQ c i arg2 harg2 arg3 harg3 arg4 harg4 arg5 harg5 arg6 harg6 arg7 harg7 arg8 harg8 arg9 harg9 arg10 harg10 x0 x1 x2 x3 x4 x5 x6 x7 x8 arg12 768 (by decide), pQ c i arg2 harg2 arg3 harg3 arg4 harg4 arg5 harg5 arg6 harg6 arg7 harg7 arg8 harg8 arg9 harg9 arg10 harg10 x0 x1 x2 x3 x4 x5 x6 x7 x8 arg12 512 (by decide), pQ c i arg2 harg2 arg3 harg3 arg4 harg4 arg5 harg5 arg6 harg6 arg7 harg7 arg8 harg8 arg9 harg9 arg10 harg10 x0 x1 x2 x3 x4 x5 x6 x7 x8 arg12 256 (by decide), pQ c i arg2 harg2 arg3 harg3 arg4 harg4 arg5 harg5 arg6 harg6 arg7 harg7 arg8 harg8 arg9 harg9 arg10 harg10 x0 x1 x2 x3 x4 x5 x6 x7 x8 arg12 0 (by decide)] : List (View.Piece (Elt Ideal) S1x256x3072 .fp8e4m3)) S1x256x256.size (by sl_kernel_rfl) y
  have hp : View.PiecesOf (Val := Elt Ideal) (s := S1x256x3072) (e := .fp8e4m3) (fun y => (blockRow (gB i) x0 x1 x2 x3 x4 x5 x6 x7 x8 (y 1)).code (y 2)) [pQ c i arg2 harg2 arg3 harg3 arg4 harg4 arg5 harg5 arg6 harg6 arg7 harg7 arg8 harg8 arg9 harg9 arg10 harg10 x0 x1 x2 x3 x4 x5 x6 x7 x8 arg12 2816 (by decide), pQ c i arg2 harg2 arg3 harg3 arg4 harg4 arg5 harg5 arg6 harg6 arg7 harg7 arg8 harg8 arg9 harg9 arg10 harg10 x0 x1 x2 x3 x4 x5 x6 x7 x8 arg12 2560 (by decide), pQ c i arg2 harg2 arg3 harg3 arg4 harg4 arg5 harg5 arg6 harg6 arg7 harg7 arg8 harg8 arg9 harg9 arg10 harg10 x0 x1 x2 x3 x4 x5 x6 x7 x8 arg12 2304 (by decide), pQ c i arg2 harg2 arg3 harg3 arg4 harg4 arg5 harg5 arg6 harg6 arg7 harg7 arg8 harg8 arg9 harg9 arg10 harg10 x0 x1 x2 x3 x4 x5 x6 x7 x8 arg12 2048 (by decide), pQ c i arg2 harg2 arg3 harg3 arg4 harg4 arg5 harg5 arg6 harg6 arg7 harg7 arg8 harg8 arg9 harg9 arg10 harg10 x0 x1 x2 x3 x4 x5 x6 x7 x8 arg12 1792 (by decide), pQ c i arg2 harg2 arg3 harg3 arg4 harg4 arg5 harg5 arg6 harg6 arg7 harg7 arg8 harg8 arg9 harg9 arg10 harg10 x0 x1 x2 x3 x4 x5 x6 x7 x8 arg12 1536 (by decide), pQ c i arg2 harg2 arg3 harg3 arg4 harg4 arg5 harg5 arg6 harg6 arg7 harg7 arg8 harg8 arg9 harg9 arg10 harg10 x0 x1 x2 x3 x4 x5 x6 x7 x8 arg12 1280 (by decide), pQ c i arg2 harg2 arg3 harg3 arg4 harg4 arg5 harg5 arg6 harg6 arg7 harg7 arg8 harg8 arg9 harg9 arg10 harg10 x0 x1 x2 x3 x4 x5 x6 x7 x8 arg12 1024 (by decide), pQ c i arg2 harg2 arg3 harg3 arg4 harg4 arg5 harg5 arg6 harg6 arg7 harg7 arg8 harg8 arg9 harg9 arg10 harg10 x0 x1 x2 x3 x4 x5 x6 x7 x8 arg12 768 (by decide), pQ c i arg2 harg2 arg3 harg3 arg4 harg4 arg5 harg5 arg6 harg6 arg7 harg7 arg8 harg8 arg9 harg9 arg10 harg10 x0 x1 x2 x3 x4 x5 x6 x7 x8 arg12 512 (by decide), pQ c i arg2 harg2 arg3 harg3 arg4 harg4 arg5 harg5 arg6 harg6 arg7 harg7 arg8 harg8 arg9 harg9 arg10 harg10 x0 x1 x2 x3 x4 x5 x6 x7 x8 arg12 256 (by decide), pQ c i arg2 harg2 arg3 harg3 arg4 harg4 arg5 harg5 arg6 harg6 arg7 harg7 arg8 harg8 arg9 harg9 arg10 harg10 x0 x1 x2 x3 x4 x5 x6 x7 x8 arg12 0 (by decide)] :=
    ⟨pQ_at c i arg2 harg2 arg3 harg3 arg4 harg4 arg5 harg5 arg6 harg6 arg7 harg7 arg8 harg8 arg9 harg9 arg10 harg10 x0 x1 x2 x3 x4 x5 x6 x7 x8 arg12 2816 (by decide), pQ_at c i arg2 harg2 arg3 harg3 arg4 harg4 arg5 harg5 arg6 harg6 arg7 harg7 arg8 harg8 arg9 harg9 arg10 harg10 x0 x1 x2 x3 x4 x5 x6 x7 x8 arg12 2560 (by decide), pQ_at c i arg2 harg2 arg3 harg3 arg4 harg4 arg5 harg5 arg6 harg6 arg7 harg7 arg8 harg8 arg9 harg9 arg10 harg10 x0 x1 x2 x3 x4 x5 x6 x7 x8 arg12 2304 (by decide), pQ_at c i arg2 harg2 arg3 harg3 arg4 harg4 arg5 harg5 arg6 harg6 arg7 harg7 arg8 harg8 arg9 harg9 arg10 harg10 x0 x1 x2 x3 x4 x5 x6 x7 x8 arg12 2048 (by decide), pQ_at c i arg2 harg2 arg3 harg3 arg4 harg4 arg5 harg5 arg6 harg6 arg7 harg7 arg8 harg8 arg9 harg9 arg10 harg10 x0 x1 x2 x3 x4 x5 x6 x7 x8 arg12 1792 (by decide), pQ_at c i arg2 harg2 arg3 harg3 arg4 harg4 arg5 harg5 arg6 harg6 arg7 harg7 arg8 harg8 arg9 harg9 arg10 harg10 x0 x1 x2 x3 x4 x5 x6 x7 x8 arg12 1536 (by decide), pQ_at c i arg2 harg2 arg3 harg3 arg4 harg4 arg5 harg5 arg6 harg6 arg7 harg7 arg8 harg8 arg9 harg9 arg10 harg10 x0 x1 x2 x3 x4 x5 x6 x7 x8 arg12 1280 (by decide), pQ_at c i arg2 harg2 arg3 harg3 arg4 harg4 arg5 harg5 arg6 harg6 arg7 harg7 arg8 harg8 arg9 harg9 arg10 harg10 x0 x1 x2 x3 x4 x5 x6 x7 x8 arg12 1024 (by decide), pQ_at c i arg2 harg2 arg3 harg3 arg4 harg4 arg5 harg5 arg6 harg6 arg7 harg7 arg8 harg8 arg9 harg9 arg10 harg10 x0 x1 x2 x3 x4 x5 x6 x7 x8 arg12 768 (by decide), pQ_at c i arg2 harg2 arg3 harg3 arg4 harg4 arg5 harg5 arg6 harg6 arg7 harg7 arg8 harg8 arg9 harg9 arg10 harg10 x0 x1 x2 x3 x4 x5 x6 x7 x8 arg12 512 (by decide), pQ_at c i arg2 harg2 arg3 harg3 arg4 harg4 arg5 harg5 arg6 harg6 arg7 harg7 arg8 harg8 arg9 harg9 arg10 harg10 x0 x1 x2 x3 x4 x5 x6 x7 x8 arg12 256 (by decide), pQ_at c i arg2 harg2 arg3 harg3 arg4 harg4 arg5 harg5 arg6 harg6 arg7 harg7 arg8 harg8 arg9 harg9 arg10 harg10 x0 x1 x2 x3 x4 x5 x6 x7 x8 arg12 0 (by decide), trivial⟩
  rw [run_codes]
  exact View.canon_apply_of_pieces (fun y : S1x256x3072.Idx => (blockRow (gB i) x0 x1 x2 x3 x4 x5 x6 x7 x8 (y 1)).code (y 2)) _ hp.mem y hc

/-- the merged weights, -/
theorem run_weights_at (y : S1x256x3072.Idx) : View.canon (mergeRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.1 y = (blockRow (gB i) x0 x1 x2 x3 x4 x5 x6 x7 x8 (y 1)).w (y 2) := by
  rw [run_weights]
  exact second_pass c i arg2 harg2 arg3 harg3 arg4 harg4 arg5 harg5 arg6 harg6 arg7 harg7 arg8 harg8 arg9 harg9 arg10 harg10 x0 x1 x2 x3 x4 x5 x6 x7 x8 arg12 y

/-- the norms -/
theorem run_norm_at (p : Fin 256) : View.canon (mergeRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.1 (ix3 0 0 p) = (blockRow (gB i) x0 x1 x2 x3 x4 x5 x6 x7 x8 p).norm := by
  rw [run_stats c i arg2 harg2 arg3 harg3 arg4 harg4 arg5 harg5 arg6 harg6 arg7 harg7 arg8 harg8 arg9 harg9 arg10 harg10 x0 x1 x2 x3 x4 x5 x6 x7 x8 arg12 arg11 harg11 harg12 arg13 harg13 arg14 harg14]
  exact (stats_norm _ _ _ p).trans ((pay151_at _ _).trans (norm_at c i arg2 harg2 arg3 harg3 arg4 harg4 arg5 harg5 arg6 harg6 arg7 harg7 arg8 harg8 arg9 harg9 arg10 harg10 x0 x1 x2 x3 x4 x5 x6 x7 x8 p))

/-- and scales in the statistics, -/
theorem run_scale_at (p : Fin 256) : View.canon (mergeRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.1 (ix3 0 1 p) = (blockRow (gB i) x0 x1 x2 x3 x4 x5 x6 x7 x8 p).scale := by
  rw [run_stats c i arg2 harg2 arg3 harg3 arg4 harg4 arg5 harg5 arg6 harg6 arg7 harg7 arg8 harg8 arg9 harg9 arg10 harg10 x0 x1 x2 x3 x4 x5 x6 x7 x8 arg12 arg11 harg11 harg12 arg13 harg13 arg14 harg14]
  exact (stats_scale _ _ _ p).trans ((pay152_at _ _).trans (scale_at c i arg2 harg2 arg3 harg3 arg4 harg4 arg5 harg5 arg6 harg6 arg7 harg7 arg8 harg8 arg9 harg9 arg10 harg10 x0 x1 x2 x3 x4 x5 x6 x7 x8 arg12 p))

/-- and squared errors. -/
theorem run_err_at (p : Fin 256) : View.canon (mergeRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.1 (ix3 0 2 p) = (blockRow (gB i) x0 x1 x2 x3 x4 x5 x6 x7 x8 p).unitErr := by
  rw [run_stats c i arg2 harg2 arg3 harg3 arg4 harg4 arg5 harg5 arg6 harg6 arg7 harg7 arg8 harg8 arg9 harg9 arg10 harg10 x0 x1 x2 x3 x4 x5 x6 x7 x8 arg12 arg11 harg11 harg12 arg13 harg13 arg14 harg14]
  refine (stats_err _ _ _ p).trans ((errT_at _ _ p).trans ?_)
  rw [scale_at c i arg2 harg2 arg3 harg3 arg4 harg4 arg5 harg5 arg6 harg6 arg7 harg7 arg8 harg8 arg9 harg9 arg10 harg10 x0 x1 x2 x3 x4 x5 x6 x7 x8 arg12 p]
  unfold Row.unitErr
  refine congrArg (fun z => z * (blockRow (gB i) x0 x1 x2 x3 x4 x5 x6 x7 x8 p).scale * (blockRow (gB i) x0 x1 x2 x3 x4 x5 x6 x7 x8 p).scale) ?_
  rw [← sum_lanes]
  refine Finset.sum_congr rfl fun l _ => ?_
  simp only [sqT_at, zero_at, dC_row c i arg2 harg2 arg3 harg3 arg4 harg4 arg5 harg5 arg6 harg6 arg7 harg7 arg8 harg8 arg9 harg9 arg10 harg10 x0 x1 x2 x3 x4 x5 x6 x7 x8 arg12, Fin.sum_univ_castSucc, Finset.univ_eq_empty, Finset.sum_empty]
  simp only [col, lane, Fin.val_castSucc, Fin.val_last, Nat.reduceMul, Nat.zero_add, ← Nat.add_assoc, Nat.reduceAdd]

/-- The greatest magnitude of a block's rows. -/
def blockTop : EReal := Finset.fold max (Ideal.ofBits .f32 0xFF800000#32) (fun p => (blockRow (gB i) x0 x1 x2 x3 x4 x5 x6 x7 x8 p).top) Finset.univ

/-- and the running maximum. -/
theorem run_top_at (xo12 : Vec Ideal S1x8x128 .f32) (y : S1x8x128.Idx) : View.canon ((mergeRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.2.1 xo12) y
    = if BitVec.ofNat 32 (i 1).val = 0#32 then blockTop i x0 x1 x2 x3 x4 x5 x6 x7 x8 else max (xo12 y) (blockTop i x0 x1 x2 x3 x4 x5 x6 x7 x8) := by
  rw [run_top, View.canon_cons_unit_zero (S := S1x8x128) (by funext a; fin_cases a <;> rfl), pay154_at, load_top]
  simp only [top_at]
  rfl

end words

end Cert.KernelIdeal.Merge
end
-- ==== Proof.KFrame.lean ====
/- The frame of the idealized merge kernel with what its output buffers hold at every grid point. The body reads the
   running-maximum buffer before it writes it; at the first tile of a batch the value it writes does not depend on what it
   read, so the buffer's contents are determined from there on (`topAt`). -/
module

public import proofs.«01_k».proof.Proof.KRun
public import proofs.«01_k».proof.Proof.Gen.KernelIdeal.Launch
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VO0_9 : View sig .tc .vmem S1x256x3072 .fp8e4m3 := (Memref.whole cc0_stg9_0 : Memref sig .tc .vmem S1x256x3072 .fp8e4m3).view
abbrev VO0_10 : View sig .tc .vmem S1x256x3072 .f32 := (Memref.whole cc0_stg10_0 : Memref sig .tc .vmem S1x256x3072 .f32).view
abbrev VO0_11 : View sig .tc .vmem S1x3x256 .f32 := (Memref.whole cc0_stg11_0 : Memref sig .tc .vmem S1x3x256 .f32).view
abbrev VO0_12 : View sig .tc .vmem S1x8x128 .f32 := (Memref.whole cc0_stg12_0 : Memref sig .tc .vmem S1x8x128 .f32).view
abbrev ms0_0 (t : Fin cfg0.N) : Memref sig .tc .smem S2x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x3072 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x3072 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x3072 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x256x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x3072 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x3072 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x3072 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x3x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x128 .f32 := win0_12.stage (cfg0.slots t 12)
abbrev hs0_12 (t : Fin cfg0.N) : (ms0_12 t).IsWhole := hstage0_12 ((cfg0.slots t 12).cast nbuf0_12)

/-- The run at grid point `t`, on the point's staging buffers and input blocks. -/
abbrev runAt (c : Dev nD) (t : Fin cfg0.N) :=
  mergeRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t)

/-- The pieces stored into the codes window cover its block. -/
theorem cover9 (c : Dev nD) (t : Fin cfg0.N) (y : S1x256x3072.Idx) :
    ∃ pc ∈ (runAt m c t).1, y ∈ pc.1.set :=
  View.cover_of_tiledL ((runAt m c t).1) S1x256x256.size (by sl_kernel_rfl) y

/-- What the point leaves in the codes window. -/
def out9 (c : Dev nD) (t : Fin cfg0.N) : Vec F S1x256x3072 .fp8e4m3 :=
  VO0_9.read (Elt F) (VO0_9.writes (Elt F) VO0_9.junk ((runAt m c t).1))

/-- The pieces stored into the merged weights window cover its block. -/
theorem cover10 (c : Dev nD) (t : Fin cfg0.N) (y : S1x256x3072.Idx) :
    ∃ pc ∈ (runAt m c t).2.1, y ∈ pc.1.set :=
  View.cover_of_tiledL ((runAt m c t).2.1) S1x256x256.size (by sl_kernel_rfl) y

/-- What the point leaves in the merged weights window. -/
def out10 (c : Dev nD) (t : Fin cfg0.N) : Vec F S1x256x3072 .f32 :=
  VO0_10.read (Elt F) (VO0_10.writes (Elt F) VO0_10.junk ((runAt m c t).2.1))

/-- The pieces stored into the row statistics window cover its block. -/
theorem cover11 (c : Dev nD) (t : Fin cfg0.N) (y : S1x3x256.Idx) :
    ∃ pc ∈ (runAt m c t).2.2.1, y ∈ pc.1.set :=
  View.cover_of_tiledL ((runAt m c t).2.2.1) S1x1x256.size (by sl_kernel_rfl) y

/-- What the point leaves in the row statistics window. -/
def out11 (c : Dev nD) (t : Fin cfg0.N) : Vec F S1x3x256 .f32 :=
  VO0_11.read (Elt F) (VO0_11.writes (Elt F) VO0_11.junk ((runAt m c t).2.2.1))

/-- The pieces stored into the running maximum window cover its block. -/
theorem cover12 (c : Dev nD) (t : Fin cfg0.N) (x : Vec F S1x8x128 .f32) (y : S1x8x128.Idx) :
    ∃ pc ∈ (runAt m c t).2.2.2.1 x, y ∈ pc.1.set :=
  View.cover_of_tiledL ((runAt m c t).2.2.2.1 x) S1x8x128.size (by sl_kernel_rfl) y

/-- What the point leaves in the running maximum window. -/
def out12 (c : Dev nD) (t : Fin cfg0.N) (x : Vec F S1x8x128 .f32) : Vec F S1x8x128 .f32 :=
  VO0_12.read (Elt F) (VO0_12.writes (Elt F) VO0_12.junk ((runAt m c t).2.2.2.1 x))

/-- The word the last store selects on, at a point: one exactly at the first tile of a batch. -/
theorem first_iff (t : Fin cfg0.N) (h : t.val % 84 = 0) : BitVec.ofNat 32 (grid0.coords t 1).val = 0#32 := by
  have e1 : (grid0.coords t 1).val = t.val / 1 % 84 := Pipeline.Grid.coords_val t 1 (by decide) rfl
  rw [e1, Nat.div_one, h]

/-- At the first tile of a batch the selected value does not depend on what was read. -/
theorem pay154_first (b : BitVec 32) (hb : b = 0#32) (v : FVec F S256x1 .f32) (x y : Vec F S1x8x128 .f32) :
    k0_pay154 b v x = k0_pay154 b v y := by
  subst hb; rfl

/-- At the first tile of a batch the running maximum left does not depend on what the buffer held. -/
theorem out12_first (c : Dev nD) (t : Fin cfg0.N) (h : t.val % 84 = 0) (x y : Vec F S1x8x128 .f32) :
    out12 m c t x = out12 m c t y := by
  have e : (runAt m c t).2.2.2.1 x = (runAt m c t).2.2.2.1 y :=
    congrArg (fun z => [(⟨Rect.unit ![0, 0, 0] S1x8x128.size inb_S1x8x128_S1x8x128_0_0_0, k0_pay1 z⟩ : View.Piece (Elt F) S1x8x128 .f32)])
      (pay154_first _ (first_iff t h) _ _ _)
  unfold out12
  rw [e]

/-- The running maximum's buffer after the body at position `n`. -/
def topAt (c : Dev nD) : (n : ℕ) → n < cfg0.N → Vec F S1x8x128 .f32
  | 0, hn => out12 m c ⟨0, hn⟩ (VO0_12.read (Elt F) VO0_12.junk)
  | n + 1, hn => out12 m c ⟨n + 1, hn⟩ (topAt c n (Nat.lt_of_succ_lt hn))

/-- The pipeline's proof data: the arrays as the region finds them; after the body each input buffer at its block, each
    output buffer at what the point leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => out10 m c t
    | ⟨11, _⟩ => out11 m c t
    | ⟨12, _⟩ => topAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 m c t := by dsimp only [dats]
theorem after_10 (c : Dev nD) (t : Fin cfg0.N) : (dats m 0 c).after 10 t = out10 m c t := by dsimp only [dats]
theorem after_11 (c : Dev nD) (t : Fin cfg0.N) : (dats m 0 c).after 11 t = out11 m c t := by dsimp only [dats]
theorem after_12 (c : Dev nD) (t : Fin cfg0.N) : (dats m 0 c).after 12 t = topAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- No window is idle anywhere. -/
theorem live (w : Fin cfg0.W) (t : Fin cfg0.N) : cfg0.idle w (grid0.coords t) = false := by
  fin_cases w <;> rfl

/-- Whether the running maximum's buffer is fresh (written back since it was last stored into): at the first tile of
    a batch only. -/
def freshTab (n : ℕ) : Bool := n % 84 == 0
theorem freshTab_step : ∀ t : Fin cfg0.N,
    freshTab (t.val + 1) = ((cfg0.win 12).flush t || (cfg0.idle 12 (cfg0.grid.coords t) && freshTab t.val)) := by decide +kernel
theorem fresh_eq (t : Fin cfg0.N) : cfg0.fresh 12 t.val = freshTab t.val :=
  Pipeline.Cfg.fresh_tab cfg0 12 freshTab rfl freshTab_step t.val (Nat.le_of_lt t.isLt)

/-- Past the first tile of a batch the running maximum's buffer holds what the point before left. -/
theorem before_12 (c : Dev nD) (t : Fin cfg0.N) (h : t.val % 84 ≠ 0) (d) :
    (dats m 0 c).before 12 t d = topAt m c (t.val - 1) (Nat.lt_of_le_of_lt (Nat.sub_le _ _) t.isLt) := by
  rw [Dat.before_out_traj _ 12 rfl (fun _ _ => rfl)
    (fun t _ hi _ => absurd hi (by rw [live]; exact Bool.false_ne_true)) t.val t rfl d, if_neg ?_]
  · dsimp only [dats]
  · rw [fresh_eq t]; simp [freshTab, h]

/-- What the point leaves in the running maximum's buffer, whatever value of the buffer the pipeline hands over. -/
theorem topAt_before (c : Dev nD) (t : Fin cfg0.N) (d) :
    out12 m c t ((dats m 0 c).before 12 t d) = topAt m c t.val t.isLt := by
  obtain ⟨n, hn⟩ := t
  cases n with
  | zero => exact out12_first m c ⟨0, hn⟩ rfl _ _
  | succ n =>
    by_cases h : (n + 1) % 84 = 0
    · exact out12_first m c ⟨n + 1, hn⟩ h _ _
    · rw [before_12 m c ⟨n + 1, hn⟩ h d]; rfl

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 2400000 in
/-- The body at any point: the run applies to the point's blocks; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live 0 t], after_0]
  rw [show (dats m 0 c).leavesExact 1 t = owns (c : Thread nD τ) (ms0_1 t) fullShare ((dats m 0 c).after 1 t) from by
    unfold Dat.leavesExact; rw [live 1 t], after_1]
  rw [show (dats m 0 c).leavesExact 2 t = owns (c : Thread nD τ) (ms0_2 t) fullShare ((dats m 0 c).after 2 t) from by
    unfold Dat.leavesExact; rw [live 2 t], after_2]
  rw [show (dats m 0 c).leavesExact 3 t = owns (c : Thread nD τ) (ms0_3 t) fullShare ((dats m 0 c).after 3 t) from by
    unfold Dat.leavesExact; rw [live 3 t], after_3]
  rw [show (dats m 0 c).leavesExact 4 t = owns (c : Thread nD τ) (ms0_4 t) fullShare ((dats m 0 c).after 4 t) from by
    unfold Dat.leavesExact; rw [live 4 t], after_4]
  rw [show (dats m 0 c).leavesExact 5 t = owns (c : Thread nD τ) (ms0_5 t) fullShare ((dats m 0 c).after 5 t) from by
    unfold Dat.leavesExact; rw [live 5 t], after_5]
  rw [show (dats m 0 c).leavesExact 6 t = owns (c : Thread nD τ) (ms0_6 t) fullShare ((dats m 0 c).after 6 t) from by
    unfold Dat.leavesExact; rw [live 6 t], after_6]
  rw [show (dats m 0 c).leavesExact 7 t = owns (c : Thread nD τ) (ms0_7 t) fullShare ((dats m 0 c).after 7 t) from by
    unfold Dat.leavesExact; rw [live 7 t], after_7]
  rw [show (dats m 0 c).leavesExact 8 t = owns (c : Thread nD τ) (ms0_8 t) fullShare ((dats m 0 c).after 8 t) from by
    unfold Dat.leavesExact; rw [live 8 t], after_8]
  rw [show (dats m 0 c).leavesExact 9 t = owns (c : Thread nD τ) (ms0_9 t) fullShare ((dats m 0 c).after 9 t) from by
    unfold Dat.leavesExact; rw [live 9 t], after_9]
  rw [show (dats m 0 c).leavesExact 10 t = owns (c : Thread nD τ) (ms0_10 t) fullShare ((dats m 0 c).after 10 t) from by
    unfold Dat.leavesExact; rw [live 10 t], after_10]
  rw [show (dats m 0 c).leavesExact 11 t = owns (c : Thread nD τ) (ms0_11 t) fullShare ((dats m 0 c).after 11 t) from by
    unfold Dat.leavesExact; rw [live 11 t], after_11]
  rw [show (dats m 0 c).leavesExact 12 t = owns (c : Thread nD τ) (ms0_12 t) fullShare ((dats m 0 c).after 12 t) from by
    unfold Dat.leavesExact; rw [live 12 t], after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runAt m c t).2.2.2.2 ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  iintro ⟨H0, H1, H2, H3, H4, H5, H6, H7, H8, ⟨%e9, H9⟩, ⟨%e10, H10⟩, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover9 m c t)
  isplitl [H10]
  · unfold owns; iexists _; isplitr
    swap; · iexact H10
    ipureintro; exact View.read_writes_of_cover _ _ _ _ _ (cover10 m c t)
  isplitl [H11]
  · unfold owns; iexists _; isplitr
    swap; · iexact H11
    ipureintro; exact View.read_writes_of_cover _ _ _ _ _ (cover11 m c t)
  unfold owns; iexists _; isplitr
  swap; · iexact H12
  ipureintro
  rw [← topAt_before m c t d12]
  exact View.read_writes_of_cover _ _ _ _ _ (cover12 m c t _)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends with the pipeline's arrays at what the proof data says, and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.KernelIdeal.Merge

end
-- ==== Proof.KHost.lean ====
/- The operands the host prepares for the merge kernel, entry by entry. -/
module
public import proofs.«01_k».proof.Proof.KBlock
public import proofs.«01_k».proof.Proof.KFrame
public import Idealize.ShloMosaic.Lib.StableHlo.RunClose
@[expose] public section
set_option maxRecDepth 16384
noncomputable section
open Idealize.ShloMosaic Idealize.ShloMosaic.TcCoe Idealize.SL.Sem
namespace Cert.KernelIdeal.Merge
open Cert.KernelIdeal Cert.KernelIdeal.Gen Cert.MergeSpec

/-! ## The operations -/

theorem host_coef (a10 a9 : Vec Ideal S2x4 .f32) (a8 : Vec Ideal S2x4 .i32) (b : Fin 2) (n : Fin 4) :
    (Host.divf (mulf a10 a9) (sitofp .f32 a8) : FVec Ideal S2x4 .f32) (ix2 b n) = Ideal.div (a10 (ix2 b n) * a9 (ix2 b n)) (FloatOps.sitofp (F := Ideal) .f32 (a8 (ix2 b n))) := by
  pointwise

theorem host_spread (a : Vec Ideal S2x21504 .f32) (b : Fin 2) (r : Fin 21504) :
    (broadcastInDim S2x1x21504 ![0, 2] bcast_S2x21504_S2x1x21504_0_2 a) (ix3 b 0 r) = a (ix2 b r) := by
  pointwise

theorem host_l1t (a : Vec Ideal S2x21504x32 .fp8e4m3) (b : Fin 2) (k : Fin 32) (r : Fin 21504) :
    transpose S2x32x21504 [0, 2, 1] a transposes_S2x21504x32_S2x32x21504_0_2_1 (ix3 b k r) = a (ix3 b r k) := by
  pointwise

theorem host_l2s (a : Vec Ideal S2x3072 .f32) (b : Fin 2) (q : Fin 3072) :
    (broadcastInDim S2x1x3072 ![0, 2] bcast_S2x3072_S2x1x3072_0_2 a) (ix3 b 0 q) = a (ix2 b q) := by
  pointwise

theorem host_a (a : Vec Ideal S2x4x128x3072 .bf16) (b : Fin 2) (n : Fin 4) (j : Fin 128) (q : Fin 3072) :
    shapeCast S2x512x3072 a shapeCasts_S2x4x128x3072_S2x512x3072 (ix3 b ⟨128 * n.val + j.val, by omega⟩ q) = a (ix4 b n j q) := by
  pointwise

theorem host_rows (x y z : Vec Ideal S2x1x21504 .f32) (b : Fin 2) (r : Fin 21504) (k : Fin 3) :
    concatenate S2x3x21504 1 [⟨S2x1x21504, x⟩, ⟨S2x1x21504, y⟩, ⟨S2x1x21504, z⟩] concatenates_S2x1x21504_S2x1x21504_S2x1x21504_S2x3x21504_d1 (ix3 b k r)
      = (![x, y, z] : Fin 3 → Vec Ideal S2x1x21504 .f32) k (ix3 b 0 r) := by
  fin_cases k <;> pointwise

variable (m : (ℓ : Loc nD τ sig) → Buf (Elt Ideal) ℓ)

theorem V_2 (c : Dev nD) : V m c main_v2 = (Host.divf (mulf (m ((c : Thread nD τ).loc main_arg10) : FVec Ideal S2x4 .f32) (m ((c : Thread nD τ).loc main_arg9) : FVec Ideal S2x4 .f32)) (sitofp .f32 (m ((c : Thread nD τ).loc main_arg8) : Vec Ideal S2x4 .i32) : FVec Ideal S2x4 .f32) : FVec Ideal S2x4 .f32) := by
  show StableHlo.after (List.flatten [hostOps0]) _ _ = _
  simp only [List.flatten_cons, List.flatten_nil, List.append_nil]
  after_results

theorem V_7 (c : Dev nD) : V m c main_v7 = (transpose S2x32x21504 [0, 2, 1] (m ((c : Thread nD τ).loc main_arg2) : Vec Ideal S2x21504x32 .fp8e4m3) transposes_S2x21504x32_S2x32x21504_0_2_1) := by
  show StableHlo.after (List.flatten [hostOps0]) _ _ = _
  simp only [List.flatten_cons, List.flatten_nil, List.append_nil]
  after_results

theorem V_9 (c : Dev nD) : V m c main_v9 = (broadcastInDim S2x1x3072 ![0, 2] bcast_S2x3072_S2x1x3072_0_2 (m ((c : Thread nD τ).loc main_arg5) : Vec Ideal S2x3072 .f32)) := by
  show StableHlo.after (List.flatten [hostOps0]) _ _ = _
  simp only [List.flatten_cons, List.flatten_nil, List.append_nil]
  after_results

theorem V_8 (c : Dev nD) : V m c main_v8 = (shapeCast S2x512x3072 (m ((c : Thread nD τ).loc main_arg7) : Vec Ideal S2x4x128x3072 .bf16) shapeCasts_S2x4x128x3072_S2x512x3072) := by
  show StableHlo.after (List.flatten [hostOps0]) _ _ = _
  simp only [List.flatten_cons, List.flatten_nil, List.append_nil]
  after_results
  rfl

theorem V_6 (c : Dev nD) : V m c main_v6 = concatenate S2x3x21504 1
    [⟨S2x1x21504, broadcastInDim S2x1x21504 ![0, 2] bcast_S2x21504_S2x1x21504_0_2 (m ((c : Thread nD τ).loc main_arg1) : Vec Ideal S2x21504 .f32)⟩,
     ⟨S2x1x21504, broadcastInDim S2x1x21504 ![0, 2] bcast_S2x21504_S2x1x21504_0_2 (m ((c : Thread nD τ).loc main_arg3) : Vec Ideal S2x21504 .f32)⟩,
     ⟨S2x1x21504, broadcastInDim S2x1x21504 ![0, 2] bcast_S2x21504_S2x1x21504_0_2 (m ((c : Thread nD τ).loc main_arg11) : Vec Ideal S2x21504 .f32)⟩]
    concatenates_S2x1x21504_S2x1x21504_S2x1x21504_S2x3x21504_d1 := by
  show StableHlo.after (List.flatten [hostOps0]) _ _ = _
  simp only [List.flatten_cons, List.flatten_nil, List.append_nil]
  after_results_entrywise []

end Cert.KernelIdeal.Merge
end
-- ==== Proof.KRows.lean ====
/- The kernel's input blocks at a grid point, entry by entry, and the row of the arguments each row of a block is
   computed from: row `p` of tile `j` is row `256 * j + p` of the batch. -/
module
public import proofs.«01_k».proof.Proof.KHost
public import Idealize.ShloMosaic.Lib.Pipeline.ValueKit.Geometry
@[expose] public section
set_option maxRecDepth 16384
noncomputable section
open Idealize.ShloMosaic Idealize.ShloMosaic.TcCoe Idealize.SL.Sem
namespace Cert.KernelIdeal.Merge
open Cert.KernelIdeal Cert.KernelIdeal.Gen Cert.MergeSpec

variable (m : (ℓ : Loc nD τ sig) → Buf (Elt Ideal) ℓ)

/-! ## The windows' block indices -/

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, (grid0.coords t 1).val, 0] := (by decide +kernel : ∀ t : Fin grid0.N, _)
theorem index_3 : ∀ t : Fin cfg0.N, win0_3.index t = ![(grid0.coords t 0).val, 0, (grid0.coords t 1).val] := (by decide +kernel : ∀ t : Fin grid0.N, _)
theorem index_4 : ∀ t : Fin cfg0.N, win0_4.index t = ![(grid0.coords t 0).val, 0, (grid0.coords t 1).val] := (by decide +kernel : ∀ t : Fin grid0.N, _)
theorem index_5 : ∀ t : Fin cfg0.N, win0_5.index t = ![(grid0.coords t 0).val, 0, 0] := (by decide +kernel : ∀ t : Fin grid0.N, _)
theorem index_6 : ∀ t : Fin cfg0.N, win0_6.index t = ![(grid0.coords t 0).val, 0, 0] := (by decide +kernel : ∀ t : Fin grid0.N, _)
theorem index_7 : ∀ t : Fin cfg0.N, win0_7.index t = ![(grid0.coords t 0).val, 0, (grid0.coords t 1).val, 0] := (by decide +kernel : ∀ t : Fin grid0.N, _)
theorem index_8 : ∀ t : Fin cfg0.N, win0_8.index t = ![(grid0.coords t 0).val, 0, 0] := (by decide +kernel : ∀ t : Fin grid0.N, _)
theorem index_9 : ∀ t : Fin cfg0.N, win0_9.index t = ![(grid0.coords t 0).val, (grid0.coords t 1).val, 0] := (by decide +kernel : ∀ t : Fin grid0.N, _)
theorem index_10 : ∀ t : Fin cfg0.N, win0_10.index t = ![(grid0.coords t 0).val, (grid0.coords t 1).val, 0] := (by decide +kernel : ∀ t : Fin grid0.N, _)
theorem index_11 : ∀ t : Fin cfg0.N, win0_11.index t = ![(grid0.coords t 0).val, 0, (grid0.coords t 1).val] := (by decide +kernel : ∀ t : Fin grid0.N, _)
theorem index_12 : ∀ t : Fin cfg0.N, win0_12.index t = ![(grid0.coords t 0).val, 0, 0] := (by decide +kernel : ∀ t : Fin grid0.N, _)

/-! ## Rows -/

/-- The batch of a grid point, -/
abbrev batch (t : Fin cfg0.N) : Fin 2 := gB (grid0.coords t)

theorem coord0 (t : Fin cfg0.N) : (grid0.coords t 0).val = t.val / 84 := by
  have e : (grid0.coords t 0).val = t.val / 84 % 2 := Pipeline.Grid.coords_val t 0 (by decide) rfl
  have : t.val < 168 := lt_of_lt_of_eq t.isLt N_0
  omega

theorem coord1 (t : Fin cfg0.N) : (grid0.coords t 1).val = t.val % 84 := by
  have e : (grid0.coords t 1).val = t.val / 1 % 84 := Pipeline.Grid.coords_val t 1 (by decide) rfl
  rw [e, Nat.div_one]

/-- and the row of the batch at row `p` of its tile. -/
abbrev rowOf (t : Fin cfg0.N) (p : Fin 256) : Fin 21504 :=
  ⟨256 * (grid0.coords t 1).val + p.val, by rw [coord1]; omega⟩

/-! ## The blocks -/

theorem block_0 (c : Dev nD) (t : Fin cfg0.N) (b : Fin 2) (n : Fin 4) :
    (iblk m c 0 t : Vec Ideal S2x4 .f32) (ix2 b n) = (V m c main_v2 : Vec Ideal S2x4 .f32) (ix2 b n) := by
  blk_simp [iblk]
  refine congrArg _ ?_
  blk_ext [index_0]

theorem block_1 (c : Dev nD) (t : Fin cfg0.N) (b : Fin 2) (n : Fin 4) :
    (iblk m c 1 t : Vec Ideal S2x4 .i32) (ix2 b n) = (V m c main_arg8 : Vec Ideal S2x4 .i32) (ix2 b n) := by
  blk_simp [iblk]
  refine congrArg _ ?_
  blk_ext [index_1]

theorem block_2 (c : Dev nD) (t : Fin cfg0.N) (p : Fin 256) (q : Fin 3072) :
    (iblk m c 2 t : Vec Ideal S1x256x3072 .fp8e4m3) (ix3 0 p q) = (V m c main_arg0 : Vec Ideal S2x21504x3072 .fp8e4m3) (ix3 (batch t) (rowOf t p) q) := by
  blk_simp [iblk]
  refine congrArg _ ?_
  blk_ext [index_2]

theorem block_3 (c : Dev nD) (t : Fin cfg0.N) (k : Fin 3) (p : Fin 256) :
    (iblk m c 3 t : Vec Ideal S1x3x256 .f32) (ix3 0 k p) = (V m c main_v6 : Vec Ideal S2x3x21504 .f32) (ix3 (batch t) k (rowOf t p)) := by
  blk_simp [iblk]
  refine congrArg _ ?_
  blk_ext [index_3]

theorem block_4 (c : Dev nD) (t : Fin cfg0.N) (k : Fin 32) (p : Fin 256) :
    (iblk m c 4 t : Vec Ideal S1x32x256 .fp8e4m3) (ix3 0 k p) = (V m c main_v7 : Vec Ideal S2x32x21504 .fp8e4m3) (ix3 (batch t) k (rowOf t p)) := by
  blk_simp [iblk]
  refine congrArg _ ?_
  blk_ext [index_4]

theorem block_5 (c : Dev nD) (t : Fin cfg0.N) (k : Fin 32) (q : Fin 3072) :
    (iblk m c 5 t : Vec Ideal S1x32x3072 .fp8e4m3) (ix3 0 k q) = (V m c main_arg4 : Vec Ideal S2x32x3072 .fp8e4m3) (ix3 (batch t) k q) := by
  blk_simp [iblk]
  refine congrArg _ ?_
  blk_ext [index_5]

theorem block_6 (c : Dev nD) (t : Fin cfg0.N) (q : Fin 3072) :
    (iblk m c 6 t : Vec Ideal S1x1x3072 .f32) (ix3 0 0 q) = (V m c main_v9 : Vec Ideal S2x1x3072 .f32) (ix3 (batch t) 0 q) := by
  blk_simp [iblk]
  refine congrArg _ ?_
  blk_ext [index_6]

theorem block_7 (c : Dev nD) (t : Fin cfg0.N) (n : Fin 4) (p : Fin 256) (j : Fin 128) :
    (iblk m c 7 t : Vec Ideal S1x4x256x128 .bf16) (ix4 0 n p j) = (V m c main_arg6 : Vec Ideal S2x4x21504x128 .bf16) (ix4 (batch t) n (rowOf t p) j) := by
  blk_simp [iblk]
  refine congrArg _ ?_
  blk_ext [index_7]

theorem block_8 (c : Dev nD) (t : Fin cfg0.N) (x : Fin 512) (q : Fin 3072) :
    (iblk m c 8 t : Vec Ideal S1x512x3072 .bf16) (ix3 0 x q) = (V m c main_v8 : Vec Ideal S2x512x3072 .bf16) (ix3 (batch t) x q) := by
  blk_simp [iblk]
  refine congrArg _ ?_
  blk_ext [index_8]

/-! ## A block's rows -/

/-- Row `r` of batch `b` of the arguments in memory. -/
def argRow (c : Dev nD) (b : Fin 2) (r : Fin 21504) : Row :=
  row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b r

theorem row_ext {R S : Row} (h1 : ∀ q, R.x q = S.x q) (h2 : R.ws = S.ws) (h3 : R.ls = S.ls) (h4 : R.mg = S.mg) (h5 : ∀ k, R.l1 k = S.l1 k)
    (h6 : ∀ k q, R.l2 k q = S.l2 k q) (h7 : ∀ q, R.l2s q = S.l2s q) (h8 : ∀ n j, R.b n j = S.b n j) (h9 : ∀ n j q, R.a n j q = S.a n j q) : R = S := by
  obtain ⟨x, ws, ls, mg, l1, l2, l2s, b, a⟩ := R
  obtain ⟨x', ws', ls', mg', l1', l2', l2s', b', a'⟩ := S
  obtain rfl : x = x' := funext h1
  obtain rfl : ws = ws' := h2
  obtain rfl : ls = ls' := h3
  obtain rfl : mg = mg' := h4
  obtain rfl : l1 = l1' := funext h5
  obtain rfl : l2 = l2' := funext fun k => funext (h6 k)
  obtain rfl : l2s = l2s' := funext h7
  obtain rfl : b = b' := funext fun n => funext (h8 n)
  obtain rfl : a = a' := funext fun n => funext fun j => funext (h9 n j)
  rfl

theorem masked_of {r r' : BitVec 32} {x x' b b' : EReal} (hr : r = r') (hx : x = x') (hb : b = b') (j : Fin 128) :
    masked r x b j = masked r' x' b' j := by
  rw [hr, hx, hb]

/-- An adapter's coefficient. -/
def coefOf (a10 a9 : FVec Ideal S2x4 .f32) (a8 : Vec Ideal S2x4 .i32) (b : Fin 2) (n : Fin 4) : EReal :=
  Ideal.div (a10 (ix2 b n) * a9 (ix2 b n)) (FloatOps.sitofp (F := Ideal) .f32 (a8 (ix2 b n)))

theorem coef_at (c : Dev nD) (t : Fin cfg0.N) (b : Fin 2) (n : Fin 4) : (iblk m c 0 t : Vec Ideal S2x4 .f32) (ix2 b n)
    = coefOf (m ((c : Thread nD τ).loc main_arg10)) (m ((c : Thread nD τ).loc main_arg9)) (m ((c : Thread nD τ).loc main_arg8)) b n :=
  (block_0 m c t b n).trans ((congrFun (V_2 m c) _).trans (host_coef _ _ _ b n))

theorem ws_at (c : Dev nD) (t : Fin cfg0.N) (p : Fin 256) : (iblk m c 3 t : Vec Ideal S1x3x256 .f32) (ix3 0 0 p)
    = (m ((c : Thread nD τ).loc main_arg1) : Vec Ideal S2x21504 .f32) (ix2 (batch t) (rowOf t p)) :=
  (block_3 m c t 0 p).trans ((congrFun (V_6 m c) _).trans ((host_rows _ _ _ (batch t) (rowOf t p) 0).trans (host_spread _ (batch t) (rowOf t p))))

theorem ls_at (c : Dev nD) (t : Fin cfg0.N) (p : Fin 256) : (iblk m c 3 t : Vec Ideal S1x3x256 .f32) (ix3 0 1 p)
    = (m ((c : Thread nD τ).loc main_arg3) : Vec Ideal S2x21504 .f32) (ix2 (batch t) (rowOf t p)) :=
  (block_3 m c t 1 p).trans ((congrFun (V_6 m c) _).trans ((host_rows _ _ _ (batch t) (rowOf t p) 1).trans (host_spread _ (batch t) (rowOf t p))))

theorem mg_at (c : Dev nD) (t : Fin cfg0.N) (p : Fin 256) : (iblk m c 3 t : Vec Ideal S1x3x256 .f32) (ix3 0 2 p)
    = (m ((c : Thread nD τ).loc main_arg11) : Vec Ideal S2x21504 .f32) (ix2 (batch t) (rowOf t p)) :=
  (block_3 m c t 2 p).trans ((congrFun (V_6 m c) _).trans ((host_rows _ _ _ (batch t) (rowOf t p) 2).trans (host_spread _ (batch t) (rowOf t p))))

theorem blockRow_of (g : Fin 2) (x0 : Vec Ideal S2x4 .f32) (x1 : Vec Ideal S2x4 .i32) (x2 : Vec Ideal S1x256x3072 .fp8e4m3) (x3 : Vec Ideal S1x3x256 .f32)
    (x4 : Vec Ideal S1x32x256 .fp8e4m3) (x5 : Vec Ideal S1x32x3072 .fp8e4m3) (x6 : Vec Ideal S1x1x3072 .f32) (x7 : Vec Ideal S1x4x256x128 .bf16)
    (x8 : Vec Ideal S1x512x3072 .bf16) (p : Fin 256)
    (a0 : Vec Ideal S2x21504x3072 .fp8e4m3) (a1 : Vec Ideal S2x21504 .f32)
    (a2 : Vec Ideal S2x21504x32 .fp8e4m3) (a3 : Vec Ideal S2x21504 .f32)
    (a4 : Vec Ideal S2x32x3072 .fp8e4m3) (a5 : Vec Ideal S2x3072 .f32)
    (a6 : Vec Ideal S2x4x21504x128 .bf16) (a7 : Vec Ideal S2x4x128x3072 .bf16)
    (a8 : Vec Ideal S2x4 .i32) (a9 : Vec Ideal S2x4 .f32) (a10 : Vec Ideal S2x4 .f32)
    (a11 : Vec Ideal S2x21504 .f32) (r : Fin 21504)
    (h0 : ∀ n, x0 (ix2 g n) = Ideal.div ((a10 (ix2 g n) : EReal) * (a9 (ix2 g n) : EReal)) (FloatOps.sitofp (F := Ideal) .f32 (a8 (ix2 g n))))
    (h1 : ∀ n, x1 (ix2 g n) = a8 (ix2 g n))
    (h2 : ∀ q, x2 (ix3 0 p q) = a0 (ix3 g r q))
    (h3 : x3 (ix3 0 0 p) = a1 (ix2 g r)) (h3' : x3 (ix3 0 1 p) = a3 (ix2 g r)) (h3'' : x3 (ix3 0 2 p) = a11 (ix2 g r))
    (h4 : ∀ k, x4 (ix3 0 k p) = a2 (ix3 g r k))
    (h5 : ∀ k q, x5 (ix3 0 k q) = a4 (ix3 g k q))
    (h6 : ∀ q, x6 (ix3 0 0 q) = a5 (ix2 g q))
    (h7 : ∀ n j, x7 (ix4 0 n p j) = a6 (ix4 g n r j))
    (h8 : ∀ (n : Fin 4) (j : Fin 128) q, x8 (ix3 0 ⟨128 * n.val + j.val, by omega⟩ q) = a7 (ix4 g n j q)) :
    blockRow g x0 x1 x2 x3 x4 x5 x6 x7 x8 p = row a0 a1 a2 a3 a4 a5 a6 a7 a8 a9 a10 a11 g r :=
  row_ext h2 h3 h3' h3'' h4 h5 h6 (fun n j => masked_of (h1 n) (h0 n) (h7 n j) j) h8

/-- Row `p` of the blocks at a grid point is the arguments' row. -/
theorem blockRow_eq (c : Dev nD) (t : Fin cfg0.N) (p : Fin 256) :
    blockRow (batch t) (iblk m c 0 t) (iblk m c 1 t) (iblk m c 2 t) (iblk m c 3 t) (iblk m c 4 t) (iblk m c 5 t) (iblk m c 6 t) (iblk m c 7 t) (iblk m c 8 t) p
      = argRow m c (batch t) (rowOf t p) := by
  unfold argRow
  apply blockRow_of
  · exact fun n => coef_at m c t (batch t) n
  · exact fun n => (block_1 m c t (batch t) n).trans (congrFun (V_main_arg8 m c) _)
  · exact fun q => (block_2 m c t p q).trans (congrFun (V_main_arg0 m c) _)
  · exact ws_at m c t p
  · exact ls_at m c t p
  · exact mg_at m c t p
  · exact fun k => (block_4 m c t k p).trans ((congrFun (V_7 m c) _).trans (host_l1t _ (batch t) k (rowOf t p)))
  · exact fun k q => (block_5 m c t k q).trans (congrFun (V_main_arg4 m c) _)
  · exact fun q => (block_6 m c t q).trans ((congrFun (V_9 m c) _).trans (host_l2s _ (batch t) q))
  · exact fun n j => (block_7 m c t n p j).trans (congrFun (V_main_arg6 m c) _)
  · exact fun n j q => (block_8 m c t _ q).trans ((congrFun (V_8 m c) _).trans (host_a _ (batch t) n j q))

end Cert.KernelIdeal.Merge
end
-- ==== Proof.KValue.lean ====
/- The merge kernel's output arrays after the run: every row's codes, merged weights, norm, scale and squared error, and every batch's
   greatest magnitude. -/
module
public import proofs.«01_k».proof.Proof.KRows
public import proofs.«01_k».proof.Proof.Lanes
@[expose] public section
set_option maxRecDepth 16384
noncomputable section
open Idealize.ShloMosaic Idealize.ShloMosaic.TcCoe Idealize.SL.Sem
namespace Cert.KernelIdeal.Merge
open Cert.KernelIdeal Cert.KernelIdeal.Gen Cert.MergeSpec
open Idealize.ShloMosaic.Pipeline (Dat Cfg Window)

variable (m : (ℓ : Loc nD τ sig) → Buf (Elt Ideal) ℓ)

/-! ## What a grid point leaves in its output blocks -/

theorem out9_at (c : Dev nD) (t : Fin cfg0.N) (y : S1x256x3072.Idx) :
    out9 m c t y = (argRow m c (batch t) (rowOf t (y 1))).code (y 2) := by
  unfold out9
  rw [View.read_writes_junk_eq_canon]
  exact (run_codes_at (y := y) ..).trans (congrArg (fun R : Row => R.code (y 2)) (blockRow_eq m c t (y 1)))

theorem out10_at (c : Dev nD) (t : Fin cfg0.N) (y : S1x256x3072.Idx) :
    out10 m c t y = (argRow m c (batch t) (rowOf t (y 1))).w (y 2) := by
  unfold out10
  rw [View.read_writes_junk_eq_canon]
  exact (run_weights_at (y := y) ..).trans (congrArg (fun R : Row => R.w (y 2)) (blockRow_eq m c t (y 1)))

theorem out11_norm (c : Dev nD) (t : Fin cfg0.N) (p : Fin 256) :
    out11 m c t (ix3 0 0 p) = (argRow m c (batch t) (rowOf t p)).norm := by
  unfold out11
  rw [View.read_writes_junk_eq_canon]
  refine (run_norm_at (p := p) ..).trans ?_
  rw [blockRow_eq]

theorem out11_scale (c : Dev nD) (t : Fin cfg0.N) (p : Fin 256) :
    out11 m c t (ix3 0 1 p) = (argRow m c (batch t) (rowOf t p)).scale := by
  unfold out11
  rw [View.read_writes_junk_eq_canon]
  refine (run_scale_at (p := p) ..).trans ?_
  rw [blockRow_eq]

theorem out11_err (c : Dev nD) (t : Fin cfg0.N) (p : Fin 256) :
    out11 m c t (ix3 0 2 p) = (argRow m c (batch t) (rowOf t p)).unitErr := by
  unfold out11
  rw [View.read_writes_junk_eq_canon]
  refine (run_err_at (p := p) ..).trans ?_
  rw [blockRow_eq]

/-- The greatest magnitude of a tile's rows. -/
def tileTop (c : Dev nD) (t : Fin cfg0.N) : EReal :=
  Finset.fold max (Ideal.ofBits .f32 0xFF800000#32) (fun p => (argRow m c (batch t) (rowOf t p)).top) Finset.univ

theorem blockTop_eq (c : Dev nD) (t : Fin cfg0.N) :
    blockTop (grid0.coords t) (iblk m c 0 t) (iblk m c 1 t) (iblk m c 2 t) (iblk m c 3 t) (iblk m c 4 t) (iblk m c 5 t) (iblk m c 6 t) (iblk m c 7 t) (iblk m c 8 t)
      = tileTop m c t := by
  unfold blockTop tileTop
  exact congrArg (fun f => Finset.fold max (Ideal.ofBits .f32 0xFF800000#32) f Finset.univ) (funext fun p => congrArg Row.top (blockRow_eq m c t p))

theorem first_word (t : Fin cfg0.N) : BitVec.ofNat 32 (grid0.coords t 1).val = 0#32 ↔ t.val % 84 = 0 := by
  refine ⟨fun h => ?_, first_iff t⟩
  have := congrArg BitVec.toNat h
  rw [coord1, BitVec.toNat_ofNat] at this
  have e : (0#32).toNat = 0 := rfl
  omega

theorem out12_at (c : Dev nD) (t : Fin cfg0.N) (x : Vec Ideal S1x8x128 .f32) (y : S1x8x128.Idx) :
    (out12 m c t x y : EReal) = if t.val % 84 = 0 then tileTop m c t else max (x y : EReal) (tileTop m c t) := by
  unfold out12
  rw [View.read_writes_junk_eq_canon]
  refine (run_top_at (xo12 := x) (y := y) ..).trans ?_
  rw [blockTop_eq]
  exact if_congr (first_word t) rfl rfl

/-! ## The running maximum -/

/-- The greatest magnitude of a batch's rows. -/
def batchTop (c : Dev nD) (b : Fin 2) : EReal :=
  Finset.fold max (Ideal.ofBits .f32 0xFF800000#32) (fun r => (argRow m c b r).top) Finset.univ

theorem tileTop_le (c : Dev nD) (t : Fin cfg0.N) (z : EReal) :
    tileTop m c t ≤ z ↔ Ideal.ofBits .f32 0xFF800000#32 ≤ z ∧ ∀ r : Fin 21504, r.val / 256 = t.val % 84 → (argRow m c (batch t) r).top ≤ z := by
  unfold tileTop
  rw [fold_max_le]
  refine and_congr_right fun _ => ⟨fun h r hr => ?_, fun h p => h _ ?_⟩
  · have e : r = rowOf t ⟨r.val % 256, Nat.mod_lt _ (by decide)⟩ := by
      refine Fin.ext ?_
      show r.val = 256 * (grid0.coords t 1).val + r.val % 256
      rw [coord1]; omega
    rw [e]; exact h _
  · show (256 * (grid0.coords t 1).val + p.val) / 256 = t.val % 84
    rw [coord1]; omega

/-- After the body at position `n` the buffer holds the greatest magnitude of the batch's rows so far. -/
theorem topAt_le (c : Dev nD) (y : S1x8x128.Idx) (z : EReal) : ∀ (n : ℕ) (hn : n < cfg0.N),
    (topAt m c n hn y : EReal) ≤ z ↔ Ideal.ofBits .f32 0xFF800000#32 ≤ z ∧ ∀ r : Fin 21504, r.val / 256 ≤ n % 84 → (argRow m c (batch ⟨n, hn⟩) r).top ≤ z
  | 0, hn => by
    show (out12 m c ⟨0, hn⟩ _ y : EReal) ≤ z ↔ _
    rw [out12_at, if_pos (show (⟨0, hn⟩ : Fin cfg0.N).val % 84 = 0 from rfl), tileTop_le]
    refine and_congr_right fun _ => forall_congr' fun r => ?_
    show (r.val / 256 = 0 % 84 → _) ↔ _
    rw [Nat.zero_mod, Nat.le_zero]
  | n + 1, hn => by
    show (out12 m c ⟨n + 1, hn⟩ _ y : EReal) ≤ z ↔ _
    rw [out12_at]
    by_cases h : (n + 1) % 84 = 0
    · rw [if_pos h, tileTop_le]
      refine and_congr_right fun _ => forall_congr' fun r => ?_
      show (r.val / 256 = (n + 1) % 84 → _) ↔ _
      rw [h, Nat.le_zero]
    · have hb : batch (⟨n, Nat.lt_of_succ_lt hn⟩ : Fin cfg0.N) = batch ⟨n + 1, hn⟩ := by
        refine Fin.ext ?_
        show (grid0.coords _ 0).val = (grid0.coords _ 0).val
        rw [coord0, coord0]
        show n / 84 = (n + 1) / 84
        omega
      rw [if_neg h, max_le_iff, topAt_le c y z n, tileTop_le, hb]
      constructor
      · rintro ⟨⟨h0, h1⟩, -, h2⟩
        refine ⟨h0, fun r hr => ?_⟩
        by_cases e : r.val / 256 = (n + 1) % 84
        · exact h2 r e
        · exact h1 r (by omega)
      · rintro ⟨h0, h1⟩
        exact ⟨⟨h0, fun r hr => h1 r (by omega)⟩, h0, fun r hr => h1 r (le_of_eq hr)⟩

theorem topAt_last (c : Dev nD) (t : Fin cfg0.N) (h : t.val % 84 = 83) (y : S1x8x128.Idx) :
    (topAt m c t.val t.isLt y : EReal) = batchTop m c (batch t) := by
  refine eq_of_forall_ge_iff fun z => ?_
  unfold batchTop
  rw [topAt_le, fold_max_le]
  refine and_congr_right fun _ => forall_congr' fun r => ⟨fun k => k ?_, fun k _ => k⟩
  rw [h]; omega

/-! ## The arrays -/

theorem covers_9 : (cfg0.win 9).Covers := by decide +kernel
theorem covers_10 : (cfg0.win 10).Covers := by decide +kernel
theorem covers_11 : (cfg0.win 11).Covers := by decide +kernel
theorem covers_12 : (cfg0.win 12).Covers := by decide +kernel

theorem emb_9 (t : Fin cfg0.N) (y : S1x256x3072.Idx) : (((cfg0.win 9).blk t).view.emb y : S2x21504x3072.Idx) = ix3 (batch t) (rowOf t (y 1)) (y 2) := by
  idx_bounds y
  blk_ext [index_9]

theorem emb_10 (t : Fin cfg0.N) (y : S1x256x3072.Idx) : (((cfg0.win 10).blk t).view.emb y : S2x21504x3072.Idx) = ix3 (batch t) (rowOf t (y 1)) (y 2) := by
  idx_bounds y
  blk_ext [index_10]

theorem emb_11 (t : Fin cfg0.N) (y : S1x3x256.Idx) : (((cfg0.win 11).blk t).view.emb y : S2x3x21504.Idx) = ix3 (batch t) (y 1) (rowOf t (y 2)) := by
  idx_bounds y
  blk_ext [index_11]

theorem emb_12 (t : Fin cfg0.N) (y : S1x8x128.Idx) : (((cfg0.win 12).blk t).view.emb y : S2x8x128.Idx) = ix3 (batch t) (y 1) (y 2) := by
  idx_bounds y
  blk_ext [index_12]

/-- The codes, -/
def codes (c : Dev nD) : Vec Ideal S2x21504x3072 .fp8e4m3 := fun i => (argRow m c (i 0) (i 1)).code (i 2)
/-- the merged weights, -/
def weights (c : Dev nD) : Vec Ideal S2x21504x3072 .f32 := fun i => (argRow m c (i 0) (i 1)).w (i 2)
/-- and the greatest magnitudes. -/
def tops (c : Dev nD) : Vec Ideal S2x8x128 .f32 := fun i => batchTop m c (i 0)

theorem out9_of (c : Dev nD) (t : Fin cfg0.N) (y : S1x256x3072.Idx) (i : S2x21504x3072.Idx) (h : i = ix3 (batch t) (rowOf t (y 1)) (y 2)) :
    out9 m c t y = codes m c i := by
  rw [h]; exact out9_at m c t y

theorem final_9 (c : Dev nD) : (dats m 0 c).arrAt 9 cfg0.N = codes m c := by
  refine (dats m 0 c).arrAt_eq_of_covers 9 (codes m c) covers_9 (fun t hf y => ?_) (Memref.isWhole_whole _)
  blk_simp
  rw [after_9]
  exact out9_of m c t y _ (emb_9 t y)

theorem out10_of (c : Dev nD) (t : Fin cfg0.N) (y : S1x256x3072.Idx) (i : S2x21504x3072.Idx) (h : i = ix3 (batch t) (rowOf t (y 1)) (y 2)) :
    out10 m c t y = weights m c i := by
  rw [h]; exact out10_at m c t y

theorem final_10 (c : Dev nD) : (dats m 0 c).arrAt 10 cfg0.N = weights m c := by
  refine (dats m 0 c).arrAt_eq_of_covers 10 (weights m c) covers_10 (fun t hf y => ?_) (Memref.isWhole_whole _)
  blk_simp
  rw [after_10]
  exact out10_of m c t y _ (emb_10 t y)

theorem top_of (c : Dev nD) (t : Fin cfg0.N) (hf : (cfg0.win 12).flush t = true) (y : S1x8x128.Idx) (i : S2x8x128.Idx) (h : i = ix3 (batch t) (y 1) (y 2)) :
    topAt m c t.val t.isLt y = tops m c i := by
  rw [h]; exact topAt_last m c t ((flush0_12 t).1 hf) y

theorem final_12 (c : Dev nD) : (dats m 0 c).arrAt 12 cfg0.N = tops m c := by
  refine (dats m 0 c).arrAt_eq_of_covers 12 (tops m c) covers_12 (fun t hf y => ?_) (Memref.isWhole_whole _)
  blk_simp
  rw [after_12]
  exact top_of m c t hf y _ (emb_12 t y)

/-- What the statistics array holds at an index: a norm in its first row, a scale in its second, a squared error in its third. -/
def StatAt (c : Dev nD) (i : S2x3x21504.Idx) (v : EReal) : Prop :=
  ((i 1).val = 0 → v = (argRow m c (i 0) (i 2)).norm) ∧ ((i 1).val = 1 → v = (argRow m c (i 0) (i 2)).scale) ∧ ((i 1).val = 2 → v = (argRow m c (i 0) (i 2)).unitErr)

theorem out11_of (c : Dev nD) (t : Fin cfg0.N) (y : S1x3x256.Idx) (i : S2x3x21504.Idx) (h : i = ix3 (batch t) (y 1) (rowOf t (y 2))) :
    StatAt m c i (out11 m c t y) := by
  rw [h]
  have hy : ∀ k : Fin 3, (y 1).val = k.val → y = (ix3 0 k (y 2) : S1x3x256.Idx) := fun k hk => by
    idx_bounds y
    funext a
    fin_cases a
    · refine Fin.ext ?_
      show (y 0).val = 0
      omega
    · exact Fin.ext hk
    · rfl
  refine ⟨fun h => ?_, fun h => ?_, fun h => ?_⟩
  · exact (congrArg (out11 m c t) (hy 0 h)).trans (out11_norm m c t (y 2))
  · exact (congrArg (out11 m c t) (hy 1 h)).trans (out11_scale m c t (y 2))
  · exact (congrArg (out11 m c t) (hy 2 h)).trans (out11_err m c t (y 2))

theorem final_11 (c : Dev nD) (i : S2x3x21504.Idx) : StatAt m c i ((dats m 0 c).arrAt 11 cfg0.N i) := by
  refine (dats m 0 c).arrAt_forall_of_covers 11 (StatAt m c) covers_11 (fun t hf y => ?_) i (Memref.isWhole_whole _)
  blk_simp
  rw [after_11]
  exact out11_of m c t y _ (emb_11 t y)

end Cert.KernelIdeal.Merge
end
-- ==== Proof.KTail.lean ====
/- The results the host cuts out of the kernel's arrays after the call. -/
module
public import proofs.«01_k».proof.Proof.KFrame
public import Idealize.ShloMosaic.Lib.StableHlo.RunClose
public import Idealize.ShloMosaic.Lib.Pointwise
@[expose] public section
set_option maxRecDepth 16384
noncomputable section
open Idealize.ShloMosaic Idealize.ShloMosaic.TcCoe Idealize.SL.Sem
namespace Cert.KernelIdeal.Merge
open Cert.KernelIdeal Cert.KernelIdeal.Gen

/-! ## The operations -/

theorem cut_first (x : Vec Ideal S2x3x21504 .f32) (b : Fin 2) (r : Fin 21504) :
    shapeCast S2x21504 (extractStridedSlice S2x1x21504 ![0, 0, 0] x slices_S2x3x21504_S2x1x21504_0_0_0) shapeCasts_S2x1x21504_S2x21504 (ix2 b r)
      = x (ix3 b 0 r) := by
  pointwise

theorem cut_second (x : Vec Ideal S2x3x21504 .f32) (b : Fin 2) (r : Fin 21504) :
    shapeCast S2x21504 (extractStridedSlice S2x1x21504 ![0, 1, 0] x slices_S2x3x21504_S2x1x21504_0_1_0) shapeCasts_S2x1x21504_S2x21504 (ix2 b r)
      = x (ix3 b 1 r) := by
  pointwise

theorem cut_third (x : Vec Ideal S2x3x21504 .f32) (b : Fin 2) (r : Fin 21504) :
    shapeCast S2x21504 (extractStridedSlice S2x1x21504 ![0, 2, 0] x slices_S2x3x21504_S2x1x21504_0_2_0) shapeCasts_S2x1x21504_S2x21504 (ix2 b r)
      = x (ix3 b 2 r) := by
  pointwise

theorem cut_top (x : Vec Ideal S2x8x128 .f32) (b : Fin 2) :
    (Host.divf (shapeCast S2 (extractStridedSlice S2x1x1 ![0, 0, 0] x slices_S2x8x128_S2x1x1_0_0_0) shapeCasts_S2x1x1_S2 : FVec Ideal S2 .f32)
      (broadcastInDim S2 ![] bcast_S_S2 (constant S_ .f32 0x45280000#32) : FVec Ideal S2 .f32) : FVec Ideal S2 .f32) (ix1 b)
      = Ideal.div (x (ix3 b 0 0)) (Ideal.ofBits .f32 0x45280000#32) := by
  pointwise

variable (m : (ℓ : Loc nD τ sig) → Buf (Elt Ideal) ℓ)

/-! The call's arrays as the operations after it find them. -/

theorem found_stats (c : Dev nD) : Pipeline.withArrays (cfgs 0).spec c (V0 m c) (fun w => (dats m 0 c).arrAt w (cfgs 0).N) (Proc.devRef .tc main_v10_2) = (dats m 0 c).arrAt 11 cfg0.N :=
  Pipeline.withArrays_arr spec0 winFacts0.arr_inj c (V0 m c) (fun w => (dats m 0 c).arrAt w (cfgs 0).N) 11

theorem found_top (c : Dev nD) : Pipeline.withArrays (cfgs 0).spec c (V0 m c) (fun w => (dats m 0 c).arrAt w (cfgs 0).N) (Proc.devRef .tc main_v10_3) = (dats m 0 c).arrAt 12 cfg0.N :=
  Pipeline.withArrays_arr spec0 winFacts0.arr_inj c (V0 m c) (fun w => (dats m 0 c).arrAt w (cfgs 0).N) 12

theorem tail_16 (c : Dev nD) : Pipeline.afterTail₀ cfgs (dats m) 0 (V0 m) [hostOps1] c main_v16
    = shapeCast S2x21504 (extractStridedSlice S2x1x21504 ![0, 0, 0] ((dats m 0 c).arrAt 11 cfg0.N : Vec Ideal S2x3x21504 .f32) slices_S2x3x21504_S2x1x21504_0_0_0) shapeCasts_S2x1x21504_S2x21504 := by
  unfold Pipeline.afterTail₀
  simp only [List.flatten_cons, List.flatten_nil, List.append_nil]
  after_results
  rw [found_stats]
  rfl

theorem tail_18 (c : Dev nD) : Pipeline.afterTail₀ cfgs (dats m) 0 (V0 m) [hostOps1] c main_v18
    = shapeCast S2x21504 (extractStridedSlice S2x1x21504 ![0, 1, 0] ((dats m 0 c).arrAt 11 cfg0.N : Vec Ideal S2x3x21504 .f32) slices_S2x3x21504_S2x1x21504_0_1_0) shapeCasts_S2x1x21504_S2x21504 := by
  unfold Pipeline.afterTail₀
  simp only [List.flatten_cons, List.flatten_nil, List.append_nil]
  after_results
  rw [found_stats]
  rfl

theorem tail_20 (c : Dev nD) : Pipeline.afterTail₀ cfgs (dats m) 0 (V0 m) [hostOps1] c main_v20
    = shapeCast S2x21504 (extractStridedSlice S2x1x21504 ![0, 2, 0] ((dats m 0 c).arrAt 11 cfg0.N : Vec Ideal S2x3x21504 .f32) slices_S2x3x21504_S2x1x21504_0_2_0) shapeCasts_S2x1x21504_S2x21504 := by
  unfold Pipeline.afterTail₀
  simp only [List.flatten_cons, List.flatten_nil, List.append_nil]
  after_results
  rw [found_stats]
  rfl

theorem tail_14 (c : Dev nD) : Pipeline.afterTail₀ cfgs (dats m) 0 (V0 m) [hostOps1] c main_v14
    = (Host.divf (shapeCast S2 (extractStridedSlice S2x1x1 ![0, 0, 0] ((dats m 0 c).arrAt 12 cfg0.N : Vec Ideal S2x8x128 .f32) slices_S2x8x128_S2x1x1_0_0_0) shapeCasts_S2x1x1_S2 : FVec Ideal S2 .f32)
      (broadcastInDim S2 ![] bcast_S_S2 (constant S_ .f32 0x45280000#32) : FVec Ideal S2 .f32) : FVec Ideal S2 .f32) := by
  unfold Pipeline.afterTail₀
  simp only [List.flatten_cons, List.flatten_nil, List.append_nil]
  after_results
  rw [found_top]
  rfl

end Cert.KernelIdeal.Merge
end
-- ==== Proof.RefAt.lean ====
/- The reference's results, entry by entry, as the row formulas. -/
module
public import proofs.«01_k».proof.Proof.Gen.ReferenceIdeal.Value
public import proofs.«01_k».proof.Proof.Spec
@[expose] public section
set_option maxRecDepth 16384
noncomputable section
open Idealize.ShloMosaic Idealize.SL.Sem
namespace Cert.ReferenceIdeal.RefAt
open Cert.ReferenceIdeal Cert.ReferenceIdeal.Gen Cert.ReferenceIdeal.Value Cert.MergeSpec

section payloads

variable (X Y : FVec Ideal S2x21504x3072 .f32) (B : IVec S2x4x1x128 1) (C D : FVec Ideal S2x4x21504x128 .f32)
  (a7 : Vec Ideal S2x4x128x3072 .bf16) (a11 : Vec Ideal S2x21504 .f32)

theorem deq_at (a0 : Vec Ideal S2x21504x3072 .fp8e4m3) (a1 : Vec Ideal S2x21504 .f32) (b : Fin 2) (r : Fin 21504) (q : Fin 3072) :
    k0_pay5 a0 a1 (ix3 b r q) = a0 (ix3 b r q) * a1 (ix2 b r) := by
  pointwise [k0_pay5]

theorem comp_at (a2 : Vec Ideal S2x21504x32 .fp8e4m3) (a4 : Vec Ideal S2x32x3072 .fp8e4m3) (a3 : Vec Ideal S2x21504 .f32) (a5 : Vec Ideal S2x3072 .f32)
    (b : Fin 2) (r : Fin 21504) (q : Fin 3072) :
    k0_pay6 a2 a4 a3 a5 (ix3 b r q) = (∑ x, a2 (ix3 b r x) * a4 (ix3 b x q)) * a3 (ix2 b r) * a5 (ix2 b q) := by
  pointwise [k0_pay6]

theorem b_at (a6 : Vec Ideal S2x4x21504x128 .bf16) (a8 : Vec Ideal S2x4 .i32) (a9 a10 : Vec Ideal S2x4 .f32)
    (b : Fin 2) (n : Fin 4) (r : Fin 21504) (j : Fin 128) :
    k0_pay10 (k0_pay7 a8) (k0_pay8 a6) (k0_pay9 a10 a9 a8) (ix4 b n r j)
      = masked (a8 (ix2 b n)) (Ideal.div (a10 (ix2 b n) * a9 (ix2 b n)) (FloatOps.sitofp (F := Ideal) .f32 (a8 (ix2 b n)))) (a6 (ix4 b n r j)) j := by
  unfold masked
  pointwise [k0_pay10, k0_pay7, k0_pay8, k0_pay9]

theorem v_at (b : Fin 2) (r : Fin 21504) (q : Fin 3072) :
    k0_pay11 X Y B C D a7 (ix3 b r q) = X (ix3 b r q) + Y (ix3 b r q) + ∑ x, k0_pay10 B C D (ix4 b 0 r x) * a7 (ix4 b 0 x q) := by
  pointwise [k0_pay11]

theorem norm_at (b : Fin 2) (r : Fin 21504) :
    k0_pay12 X Y B C D a7 (ix2 b r) = Ideal.sqrt (∑ x, k0_pay11 X Y B C D a7 (ix3 b r x) * k0_pay11 X Y B C D a7 (ix3 b r x)) := by
  pointwise [k0_pay12]

theorem w_at (b : Fin 2) (r : Fin 21504) (q : Fin 3072) :
    k0_pay13 X Y B C D a7 a7 a11 (ix3 b r q) = k0_pay11 X Y B C D a7 (ix3 b r q) *
        Ideal.div (a11 (ix2 b r)) (if k0_pay12 X Y B C D a7 (ix2 b r) = 0 then 1 else k0_pay12 X Y B C D a7 (ix2 b r)) +
      ∑ x : Fin 384, k0_pay10 B C D (ix4 b (adapter x) r (place x)) * a7 (ix4 b (adapter x) (place x) q) := by
  pointwise [k0_pay13]

theorem top_at (b : Fin 2) (r : Fin 21504) :
    k0_pay14 X Y B C D a7 a7 a11 (ix2 b r)
      = Finset.fold max (Ideal.ofBits .f32 0xFF800000#32) (fun x => FloatOps.absf (F := Ideal) (φ := .f32) (k0_pay13 X Y B C D a7 a7 a11 (ix3 b r x))) Finset.univ := by
  pointwise [k0_pay14]

theorem pick_at (M : IVec S2x21504 1) (S : FVec Ideal S2x21504 .f32) (b : Fin 2) (r : Fin 21504) :
    k0_pay1 M S (Scalar.ofBits .f32 0x3F800000#32) (ix2 b r) = Scalar.select (M (ix2 b r)) (1 : EReal) (S (ix2 b r)) := by
  pointwise [k0_pay1]

theorem code_at (M : IVec S2x21504 1) (S : FVec Ideal S2x21504 .f32) (c : Ideal .f32) (b : Fin 2) (r : Fin 21504) (q : Fin 3072) :
    k0_pay2 X M S c (ix3 b r q) = min (Ideal.ofBits .f32 0x43E00000#32) (max (Ideal.ofBits .f32 0xC3E00000#32) (Ideal.div (X (ix3 b r q)) (k0_pay1 M S c (ix2 b r)))) := by
  pointwise [k0_pay2]

theorem err_at (M : IVec S2x21504 1) (S : FVec Ideal S2x21504 .f32) (c : Ideal .f32) (b : Fin 2) (r : Fin 21504) :
    k0_pay3 X M S c (ix2 b r) = ∑ q, (X (ix3 b r q) - k0_pay2 X M S c (ix3 b r q) * k0_pay1 M S c (ix2 b r)) * (X (ix3 b r q) - k0_pay2 X M S c (ix3 b r q) * k0_pay1 M S c (ix2 b r)) := by
  pointwise [k0_pay3]

theorem ts_at (T : FVec Ideal S2x21504 .f32) (b : Fin 2) :
    k0_pay4 T (ix1 b) = Ideal.div (Finset.fold max (Ideal.ofBits .f32 0xFF800000#32) (fun r => T (ix2 b r)) Finset.univ) (Ideal.ofBits .f32 0x45280000#32) := by
  pointwise [k0_pay4]

theorem scale_of (T : FVec Ideal S2x21504 .f32) (b : Fin 2) (r : Fin 21504) :
    select (cmpf .oeq T (broadcast S2x21504 (Scalar.ofBits .f32 0x00000000#32 : Ideal .f32))) (broadcast S2x21504 (Scalar.ofBits .f32 0x3F800000#32 : Ideal .f32))
        (divf T (broadcast S2x21504 (Scalar.ofBits .f32 0x43E00000#32 : Ideal .f32))) (ix2 b r)
      = if T (ix2 b r) = 0 then 1 else Ideal.div (T (ix2 b r)) (Ideal.ofBits .f32 0x43E00000#32) := by
  pointwise

theorem scale_at (b : Fin 2) (r : Fin 21504) :
    k0_pay1 (k0_pay15 X Y B C D a7 a7 a11) (k0_pay16 X Y B C D a7 a7 a11) (Scalar.ofBits .f32 0x3F800000#32) (ix2 b r)
      = if k0_pay14 X Y B C D a7 a7 a11 (ix2 b r) = 0 then 1 else Ideal.div (k0_pay14 X Y B C D a7 a7 a11 (ix2 b r)) (Ideal.ofBits .f32 0x43E00000#32) := by
  unfold k0_pay1 k0_pay15 k0_pay16
  exact scale_of (k0_pay14 X Y B C D a7 a7 a11) b r

end payloads

section results

variable (a0 : Vec Ideal S2x21504x3072 .fp8e4m3) (a1 : Vec Ideal S2x21504 .f32) (a2 : Vec Ideal S2x21504x32 .fp8e4m3) (a3 : Vec Ideal S2x21504 .f32)
  (a4 : Vec Ideal S2x32x3072 .fp8e4m3) (a5 : Vec Ideal S2x3072 .f32) (a6 : Vec Ideal S2x4x21504x128 .bf16) (a7 : Vec Ideal S2x4x128x3072 .bf16)
  (a8 : Vec Ideal S2x4 .i32) (a9 a10 : Vec Ideal S2x4 .f32) (a11 : Vec Ideal S2x21504 .f32)

theorem ld17 : k0_pay17 a0 a1 a2 a3 a4 a5 a6 a7 a8 a9 a10 a11 = k0_pay5 a0 a1 := by
  unfold k0_pay17
  rw [View.ld_unit_zero (S := S2x21504x3072) hz0, View.ld_unit_zero (S := S2x21504) hz1]

theorem ld18 : k0_pay18 a0 a1 a2 a3 a4 a5 a6 a7 a8 a9 a10 a11 = k0_pay6 a2 a4 a3 a5 := by
  unfold k0_pay18
  rw [View.ld_unit_zero (S := S2x21504x32) hz2, View.ld_unit_zero (S := S2x32x3072) hz2, View.ld_unit_zero (S := S2x21504) hz1, View.ld_unit_zero (S := S2x3072) hz1]

theorem ld19 : k0_pay19 a0 a1 a2 a3 a4 a5 a6 a7 a8 a9 a10 a11 = k0_pay7 a8 := by
  unfold k0_pay19
  rw [View.ld_unit_zero (S := S2x4) hz1]

theorem ld20 : k0_pay20 a0 a1 a2 a3 a4 a5 a6 a7 a8 a9 a10 a11 = k0_pay8 a6 := by
  unfold k0_pay20
  rw [View.ld_unit_zero (S := S2x4x21504x128) hz6]

theorem ld21 : k0_pay21 a0 a1 a2 a3 a4 a5 a6 a7 a8 a9 a10 a11 = k0_pay9 a10 a9 a8 := by
  unfold k0_pay21
  rw [View.ld_unit_zero (S := S2x4) hz1, View.ld_unit_zero (S := S2x4) hz1, View.ld_unit_zero (S := S2x4) hz1]

theorem ldw : k0_pay22 a0 a1 a2 a3 a4 a5 a6 a7 a8 a9 a10 a11
    = k0_pay13 (k0_pay5 a0 a1) (k0_pay6 a2 a4 a3 a5) (k0_pay7 a8) (k0_pay8 a6) (k0_pay9 a10 a9 a8) a7 a7 a11 := by
  unfold k0_pay22
  rw [ld17, ld18, ld19, ld20, ld21, View.ld_unit_zero (S := S2x4x128x3072) hz6, View.ld_unit_zero (S := S2x21504) hz1]

theorem ldz : k0_pay23 a0 a1 a2 a3 a4 a5 a6 a7 a8 a9 a10 a11
    = k0_pay15 (k0_pay5 a0 a1) (k0_pay6 a2 a4 a3 a5) (k0_pay7 a8) (k0_pay8 a6) (k0_pay9 a10 a9 a8) a7 a7 a11 := by
  unfold k0_pay23
  rw [ld17, ld18, ld19, ld20, ld21, View.ld_unit_zero (S := S2x4x128x3072) hz6, View.ld_unit_zero (S := S2x21504) hz1]

theorem lds : k0_pay24 a0 a1 a2 a3 a4 a5 a6 a7 a8 a9 a10 a11
    = k0_pay16 (k0_pay5 a0 a1) (k0_pay6 a2 a4 a3 a5) (k0_pay7 a8) (k0_pay8 a6) (k0_pay9 a10 a9 a8) a7 a7 a11 := by
  unfold k0_pay24
  rw [ld17, ld18, ld19, ld20, ld21, View.ld_unit_zero (S := S2x4x128x3072) hz6, View.ld_unit_zero (S := S2x21504) hz1]

theorem v_row (b : Fin 2) (r : Fin 21504) (q : Fin 3072) :
    k0_pay11 (k0_pay5 a0 a1) (k0_pay6 a2 a4 a3 a5) (k0_pay7 a8) (k0_pay8 a6) (k0_pay9 a10 a9 a8) a7 (ix3 b r q) = (row a0 a1 a2 a3 a4 a5 a6 a7 a8 a9 a10 a11 b r).v q := by
  rw [v_at, deq_at, comp_at]
  simp only [b_at]
  rfl

theorem norm_row (b : Fin 2) (r : Fin 21504) :
    k0_pay12 (k0_pay5 a0 a1) (k0_pay6 a2 a4 a3 a5) (k0_pay7 a8) (k0_pay8 a6) (k0_pay9 a10 a9 a8) a7 (ix2 b r) = (row a0 a1 a2 a3 a4 a5 a6 a7 a8 a9 a10 a11 b r).norm := by
  rw [norm_at]
  simp only [v_row a0 a1 a2 a3 a4 a5 a6 a7 a8 a9 a10 a11]
  rfl

theorem w_row (b : Fin 2) (r : Fin 21504) (q : Fin 3072) :
    k0_pay13 (k0_pay5 a0 a1) (k0_pay6 a2 a4 a3 a5) (k0_pay7 a8) (k0_pay8 a6) (k0_pay9 a10 a9 a8) a7 a7 a11 (ix3 b r q) = (row a0 a1 a2 a3 a4 a5 a6 a7 a8 a9 a10 a11 b r).w q := by
  rw [w_at, v_row a0 a1 a2 a3 a4 a5 a6 a7 a8 a9 a10 a11, norm_row a0 a1 a2 a3 a4 a5 a6 a7 a8 a9 a10 a11]
  simp only [b_at]
  rfl

theorem top_row (b : Fin 2) (r : Fin 21504) :
    k0_pay14 (k0_pay5 a0 a1) (k0_pay6 a2 a4 a3 a5) (k0_pay7 a8) (k0_pay8 a6) (k0_pay9 a10 a9 a8) a7 a7 a11 (ix2 b r) = (row a0 a1 a2 a3 a4 a5 a6 a7 a8 a9 a10 a11 b r).top := by
  rw [top_at]
  simp only [w_row a0 a1 a2 a3 a4 a5 a6 a7 a8 a9 a10 a11]
  rfl

/-- The norms, -/
theorem G12_row (b : Fin 2) (r : Fin 21504) :
    G12 a0 a1 a2 a3 a4 a5 a6 a7 a8 a9 a10 a11 (ix2 b r) = (row a0 a1 a2 a3 a4 a5 a6 a7 a8 a9 a10 a11 b r).norm := by
  rw [← norm_row]
  unfold G12
  rw [ld17, ld18, ld19, ld20, ld21]

/-- the scales, -/
theorem G14_row (b : Fin 2) (r : Fin 21504) :
    G14 a0 a1 a2 a3 a4 a5 a6 a7 a8 a9 a10 a11 (ix2 b r) = (row a0 a1 a2 a3 a4 a5 a6 a7 a8 a9 a10 a11 b r).scale := by
  unfold G14
  rw [ldz, lds, scale_at, top_row]
  rfl

/-- the codes, -/
theorem G13_row (b : Fin 2) (r : Fin 21504) (q : Fin 3072) :
    G13 a0 a1 a2 a3 a4 a5 a6 a7 a8 a9 a10 a11 (ix3 b r q) = (row a0 a1 a2 a3 a4 a5 a6 a7 a8 a9 a10 a11 b r).code q := by
  unfold G13
  rw [ldw, ldz, lds, code_at, w_row, scale_at, top_row]
  rfl

/-- the squared errors, -/
theorem G17_row (b : Fin 2) (r : Fin 21504) :
    G17 a0 a1 a2 a3 a4 a5 a6 a7 a8 a9 a10 a11 (ix2 b r) = (row a0 a1 a2 a3 a4 a5 a6 a7 a8 a9 a10 a11 b r).err := by
  unfold G17
  rw [ldw, ldz, lds, err_at]
  simp only [code_at, w_row, scale_at, top_row]
  rfl

/-- the second format's scale, -/
theorem G15_row (b : Fin 2) :
    G15 a0 a1 a2 a3 a4 a5 a6 a7 a8 a9 a10 a11 (ix1 b) = tensorScale a0 a1 a2 a3 a4 a5 a6 a7 a8 a9 a10 a11 b := by
  unfold G15
  rw [ld17, ld18, ld19, ld20, ld21, ts_at]
  simp only [top_row]
  rfl

/-- and the merged weights. -/
theorem G16_row (b : Fin 2) (r : Fin 21504) (q : Fin 3072) :
    G16 a0 a1 a2 a3 a4 a5 a6 a7 a8 a9 a10 a11 (ix3 b r q) = (row a0 a1 a2 a3 a4 a5 a6 a7 a8 a9 a10 a11 b r).w q := by
  unfold G16
  rw [ldw, w_row]

end results

end Cert.ReferenceIdeal.RefAt
end
-- ==== Proof.KResult.lean ====
/- The merge kernel's results and the reference's are the same functions of the arguments: the row formulas. -/
module
public import proofs.«01_k».proof.Proof.KValue
public import proofs.«01_k».proof.Proof.KTail
public import proofs.«01_k».proof.Proof.RefAt
@[expose] public section
set_option maxRecDepth 16384
noncomputable section
open Idealize.ShloMosaic Idealize.ShloMosaic.TcCoe Idealize.SL.Sem Cert.MergeSpec

/-! ## The reference -/

namespace Cert.ReferenceIdeal.RefAt
open Cert.ReferenceIdeal Cert.ReferenceIdeal.Gen Cert.ReferenceIdeal.Value

variable (a0 : Vec Ideal S2x21504x3072 .fp8e4m3) (a1 : Vec Ideal S2x21504 .f32) (a2 : Vec Ideal S2x21504x32 .fp8e4m3) (a3 : Vec Ideal S2x21504 .f32)
  (a4 : Vec Ideal S2x32x3072 .fp8e4m3) (a5 : Vec Ideal S2x3072 .f32) (a6 : Vec Ideal S2x4x21504x128 .bf16) (a7 : Vec Ideal S2x4x128x3072 .bf16)
  (a8 : Vec Ideal S2x4 .i32) (a9 a10 : Vec Ideal S2x4 .f32) (a11 : Vec Ideal S2x21504 .f32)

theorem norms_eq : G12 a0 a1 a2 a3 a4 a5 a6 a7 a8 a9 a10 a11 = fun i : S2x21504.Idx => (row a0 a1 a2 a3 a4 a5 a6 a7 a8 a9 a10 a11 (i 0) (i 1)).norm :=
  funext fun i => by idx_vars i; exact G12_row ..

theorem codes_eq : G13 a0 a1 a2 a3 a4 a5 a6 a7 a8 a9 a10 a11 = fun i : S2x21504x3072.Idx => (row a0 a1 a2 a3 a4 a5 a6 a7 a8 a9 a10 a11 (i 0) (i 1)).code (i 2) :=
  funext fun i => by idx_vars i; exact G13_row ..

theorem scales_eq : G14 a0 a1 a2 a3 a4 a5 a6 a7 a8 a9 a10 a11 = fun i : S2x21504.Idx => (row a0 a1 a2 a3 a4 a5 a6 a7 a8 a9 a10 a11 (i 0) (i 1)).scale :=
  funext fun i => by idx_vars i; exact G14_row ..

theorem errs_eq : G17 a0 a1 a2 a3 a4 a5 a6 a7 a8 a9 a10 a11 = fun i : S2x21504.Idx => (row a0 a1 a2 a3 a4 a5 a6 a7 a8 a9 a10 a11 (i 0) (i 1)).err :=
  funext fun i => by idx_vars i; exact G17_row ..

theorem tensorScales_eq : G15 a0 a1 a2 a3 a4 a5 a6 a7 a8 a9 a10 a11 = fun i : S2.Idx => tensorScale a0 a1 a2 a3 a4 a5 a6 a7 a8 a9 a10 a11 (i 0) :=
  funext fun i => by idx_vars i; exact G15_row ..

theorem weights_eq : G16 a0 a1 a2 a3 a4 a5 a6 a7 a8 a9 a10 a11 = fun i : S2x21504x3072.Idx => (row a0 a1 a2 a3 a4 a5 a6 a7 a8 a9 a10 a11 (i 0) (i 1)).w (i 2) :=
  funext fun i => by idx_vars i; exact G16_row ..

end Cert.ReferenceIdeal.RefAt

/-! ## The kernel -/

namespace Cert.KernelIdeal.Merge
open Cert.KernelIdeal Cert.KernelIdeal.Gen

variable (m : (ℓ : Loc nD τ sig) → Buf (Elt Ideal) ℓ)

/-- The norms, -/
def norms (c : Dev nD) : Vec Ideal S2x21504 .f32 := fun i => (argRow m c (i 0) (i 1)).norm
/-- the rows' scales, -/
def scales (c : Dev nD) : Vec Ideal S2x21504 .f32 := fun i => (argRow m c (i 0) (i 1)).scale
/-- their squared errors, summed in units of the scale, -/
def errs (c : Dev nD) : Vec Ideal S2x21504 .f32 := fun i => (argRow m c (i 0) (i 1)).unitErr
/-- and the batches' scales. -/
def tensorScales (c : Dev nD) : Vec Ideal S2 .f32 := fun i => Ideal.div (batchTop m c (i 0)) (Ideal.ofBits .f32 0x45280000#32)

theorem norms_of (c : Dev nD) (x : Vec Ideal S2x3x21504 .f32) (h : ∀ i, StatAt m c i (x i)) :
    shapeCast S2x21504 (extractStridedSlice S2x1x21504 ![0, 0, 0] x slices_S2x3x21504_S2x1x21504_0_0_0) shapeCasts_S2x1x21504_S2x21504 = norms m c :=
  funext fun i => by idx_vars i; exact (cut_first x _ _).trans ((h _).1 rfl)

theorem scales_of (c : Dev nD) (x : Vec Ideal S2x3x21504 .f32) (h : ∀ i, StatAt m c i (x i)) :
    shapeCast S2x21504 (extractStridedSlice S2x1x21504 ![0, 1, 0] x slices_S2x3x21504_S2x1x21504_0_1_0) shapeCasts_S2x1x21504_S2x21504 = scales m c :=
  funext fun i => by idx_vars i; exact (cut_second x _ _).trans ((h _).2.1 rfl)

theorem errs_of (c : Dev nD) (x : Vec Ideal S2x3x21504 .f32) (h : ∀ i, StatAt m c i (x i)) :
    shapeCast S2x21504 (extractStridedSlice S2x1x21504 ![0, 2, 0] x slices_S2x3x21504_S2x1x21504_0_2_0) shapeCasts_S2x1x21504_S2x21504 = errs m c :=
  funext fun i => by idx_vars i; exact (cut_third x _ _).trans ((h _).2.2 rfl)

theorem tensorScales_of (c : Dev nD) (x : Vec Ideal S2x8x128 .f32) (h : x = tops m c) :
    (Host.divf (shapeCast S2 (extractStridedSlice S2x1x1 ![0, 0, 0] x slices_S2x8x128_S2x1x1_0_0_0) shapeCasts_S2x1x1_S2 : FVec Ideal S2 .f32)
      (broadcastInDim S2 ![] bcast_S_S2 (constant S_ .f32 0x45280000#32) : FVec Ideal S2 .f32) : FVec Ideal S2 .f32) = tensorScales m c :=
  funext fun i => by
    idx_vars i
    refine (cut_top x _).trans ?_
    rw [h]
    rfl

/-- What the run leaves in the result arrays. -/
theorem results (ρ : Dev nD → PrngReg) : θ_run defs (onTc (τ := τ) (main (F := Ideal))) ⟨m, fun _ => 0, ρ⟩ (fun r => ∀ c : Dev nD,
      r.2.mem ((c.tc : Thread nD τ).loc main_v16) = norms m c
      ∧ r.2.mem ((c.tc : Thread nD τ).loc main_v10_0) = codes m c
      ∧ r.2.mem ((c.tc : Thread nD τ).loc main_v18) = scales m c
      ∧ r.2.mem ((c.tc : Thread nD τ).loc main_v14) = tensorScales m c
      ∧ r.2.mem ((c.tc : Thread nD τ).loc main_v10_1) = weights m c
      ∧ r.2.mem ((c.tc : Thread nD τ).loc main_v20) = errs m c) :=
  (θ_run defs _ _).mono (fun r h c =>
    ⟨((h c).2 main_v16 (Pipeline.mem_restRefs_of main_v16 (by decide) (by decide))).trans ((tail_16 m c).trans (norms_of m c _ (final_11 m c))),
      ((h c).1 9).trans (final_9 m c),
      ((h c).2 main_v18 (Pipeline.mem_restRefs_of main_v18 (by decide) (by decide))).trans ((tail_18 m c).trans (scales_of m c _ (final_11 m c))),
      ((h c).2 main_v14 (Pipeline.mem_restRefs_of main_v14 (by decide) (by decide))).trans ((tail_14 m c).trans (tensorScales_of m c _ (final_12 m c))),
      ((h c).1 10).trans (final_10 m c),
      ((h c).2 main_v20 (Pipeline.mem_restRefs_of main_v20 (by decide) (by decide))).trans ((tail_20 m c).trans (errs_of m c _ (final_11 m c)))⟩) (run_main m ρ)

end Cert.KernelIdeal.Merge
end
-- ==== Proof.Finite.lean ====
/- Where a row's weights are finite, its squared error may be summed in units of the scale; and they are finite where the
   row's magnitude and the last three adapters are. -/
module
public import proofs.«01_k».proof.Proof.Lanes
@[expose] public section
noncomputable section
open Idealize.ShloMosaic
namespace Cert.MergeSpec

/-- A value that is neither infinity. -/
def Finite (x : EReal) : Prop := ∃ r : ℝ, x = r

theorem Finite.add {x y : EReal} (hx : Finite x) (hy : Finite y) : Finite (x + y) := by
  obtain ⟨r, rfl⟩ := hx
  obtain ⟨s, rfl⟩ := hy
  exact ⟨r + s, (EReal.coe_add r s).symm⟩

theorem Finite.mul {x y : EReal} (hx : Finite x) (hy : Finite y) : Finite (x * y) := by
  obtain ⟨r, rfl⟩ := hx
  obtain ⟨s, rfl⟩ := hy
  exact ⟨r * s, (EReal.coe_mul r s).symm⟩

theorem div_coe (x y : ℝ) (hy : y ≠ 0) : Ideal.div x y = ((x / y : ℝ) : EReal) := by
  rw [Ideal.div, if_neg (EReal.coe_ne_zero.2 hy), ← EReal.coe_inv, ← EReal.coe_mul, div_eq_mul_inv]

theorem Finite.div {x y : EReal} (hx : Finite x) (hy : Finite y) (h : y ≠ 0) : Finite (Ideal.div x y) := by
  obtain ⟨r, rfl⟩ := hx
  obtain ⟨s, rfl⟩ := hy
  exact ⟨r / s, div_coe r s (EReal.coe_ne_zero.1 h)⟩

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Finite.sum {ι : Type} (s : Finset ι) (f : ι → EReal) (hf : ∀ i, Finite (f i)) : Finite (∑ i ∈ s, f i) := by
  choose g hg using hf
  exact ⟨∑ i ∈ s, g i, (Finset.sum_congr rfl fun i _ => hg i).trans (sum_coe s g)⟩

theorem finite_of_ne {x : EReal} (ht : x ≠ ⊤) (hb : x ≠ ⊥) : Finite x := ⟨x.toReal, (EReal.coe_toReal ht hb).symm⟩

theorem mul_self_nonneg' (x : EReal) : 0 ≤ x * x := by
  rcases le_total 0 x with h | h
  · exact mul_nonneg h h
  · rw [← neg_mul_neg]
    exact mul_nonneg (EReal.neg_nonneg.2 h) (EReal.neg_nonneg.2 h)

theorem max_code : Ideal.ofBits .f32 0x43E00000#32 = ((448 : ℝ) : EReal) := by
  simp [Ideal.ofBits, Ideal.ieee, -EReal.coe_mul]
  norm_num

theorem min_code : Ideal.ofBits .f32 0xC3E00000#32 = ((-448 : ℝ) : EReal) := by
  simp [Ideal.ofBits, Ideal.ieee, -EReal.coe_mul, -EReal.coe_neg]
  norm_num

namespace Row

variable (R : Row)

theorem top_finite (hw : ∀ q, Finite (R.w q)) : Finite R.top := by
  refine finite_of_ne (ne_of_lt ?_) (ne_of_gt ?_)
  · unfold top
    rw [Finset.fold_max_lt, neg_inf]
    refine ⟨bot_lt_top, fun q _ => ?_⟩
    obtain ⟨r, hr⟩ := hw q
    show max (R.w q) (-R.w q) < ⊤
    rw [hr, ← EReal.coe_neg]
    exact max_lt (EReal.coe_lt_top _) (EReal.coe_lt_top _)
  · exact lt_of_lt_of_le (EReal.bot_lt_zero) ((absf_nonneg (R.w 0)).trans (((fold_max_le _ _ _).1 (le_refl R.top)).2 0))

theorem scale_finite (hw : ∀ q, Finite (R.w q)) : Finite R.scale := by
  unfold scale
  split
  · exact ⟨1, EReal.coe_one.symm⟩
  · exact (R.top_finite hw).div ⟨_, max_code⟩ (by rw [max_code]; exact EReal.coe_ne_zero.2 (by norm_num))

/-- The squared error of a row of finite weights, summed in units of the scale. -/
theorem unitErr_eq (hs : R.scale ≠ 0) (hw : ∀ q, Finite (R.w q)) : R.unitErr = R.err := by
  obtain ⟨s, es⟩ := R.scale_finite hw
  choose W hW using hw
  have s0 : s ≠ 0 := fun h => hs (by rw [es, h, EReal.coe_zero])
  have hc (q : Fin 3072) : R.code q = ((min 448 (max (-448) (W q / s)) : ℝ) : EReal) := by
    rw [code, hW, es, div_coe _ _ s0, max_code, min_code, ← EReal.coe_strictMono.monotone.map_max, ← EReal.coe_strictMono.monotone.map_min]
  unfold unitErr err
  simp only [hc, hW, es, div_coe _ _ s0, ← EReal.coe_sub, ← EReal.coe_mul, sum_coe]
  refine congrArg _ ?_
  rw [Finset.sum_mul, Finset.sum_mul]
  refine Finset.sum_congr rfl fun q _ => ?_
  have e : W q / s * s = W q := div_mul_cancel₀ _ s0
  generalize min 448 (max (-448) (W q / s)) = C
  rw [show W q - C * s = (W q / s - C) * s from by rw [sub_mul, e]]
  ring

theorem norm_finite (hv : ∀ q, Finite (R.v q)) : Finite R.norm := by
  choose V hV using hv
  unfold norm
  simp only [hV, ← EReal.coe_mul, sum_coe]
  show Finite (if _ < _ then _ else _)
  rw [if_neg (not_lt.2 (Finset.sum_nonneg fun q _ => mul_self_nonneg (V q)))]
  exact ⟨_, rfl⟩

theorem norm_infinite (q : Fin 3072) (hq : ¬ Finite (R.v q)) : R.norm = ⊤ := by
  have h1 : R.v q * R.v q = ⊤ := by
    by_cases ht : R.v q = ⊤
    · rw [ht, EReal.top_mul_top]
    · by_cases hb : R.v q = ⊥
      · rw [hb, EReal.bot_mul_bot]
      · exact absurd (finite_of_ne ht hb) hq
  have h2 : ∑ q, R.v q * R.v q = ⊤ := top_le_iff.1 (h1.symm.le.trans
    (Finset.single_le_sum (f := fun q => R.v q * R.v q) (fun q _ => mul_self_nonneg' _) (Finset.mem_univ q)))
  rw [norm, h2]
  rfl

/-- A row of finite magnitude whose last three adapters are finite has finite weights, whatever the rest of it holds: an
    infinity in the rest makes the norm infinite and so the factor zero. -/
theorem w_finite (hm : Finite R.mg) (hb : ∀ x : Fin 384, Finite (R.b (adapter x) (place x))) (ha : ∀ (x : Fin 384) q, Finite (R.a (adapter x) (place x) q))
    (q : Fin 3072) : Finite (R.w q) := by
  refine Finite.add ?_ (Finite.sum _ _ fun x => (hb x).mul (ha x q))
  by_cases hv : ∀ q, Finite (R.v q)
  · refine (hv q).mul (hm.div ?_ ?_)
    · split
      · exact ⟨1, EReal.coe_one.symm⟩
      · exact R.norm_finite hv
    · split
      · exact one_ne_zero
      · assumption
  · obtain ⟨p, hp⟩ := not_forall.1 hv
    rw [R.norm_infinite p hp, if_neg EReal.top_ne_zero, Ideal.div, if_neg EReal.top_ne_zero, EReal.inv_top, mul_zero, mul_zero]
    exact ⟨0, EReal.coe_zero.symm⟩

end Row

/-- An entry of an adapter's row is finite: where the rank is zero every entry is masked. -/
theorem masked_finite (rank : BitVec 32) (s a b : EReal) (hs : Finite s) (ha : Finite a) (hb : Finite b) (j : Fin 128) :
    Finite (masked rank (Ideal.div (s * a) (FloatOps.sitofp (F := Ideal) .f32 rank)) b j) := by
  unfold masked
  by_cases h : rank = 0#32
  · rw [h, show IntOp.cmpi CmpIPredicate.slt (BitVec.ofNat 32 j) 0#32 = 0#1 from by revert j; decide]
    exact ⟨0, EReal.coe_zero.symm⟩
  · have h1 : Finite (b * Ideal.div (s * a) (FloatOps.sitofp (F := Ideal) .f32 rank)) :=
      hb.mul ((hs.mul ha).div ⟨(rank.toInt : ℝ), rfl⟩ (EReal.coe_ne_zero.2 (Int.cast_ne_zero.2 fun e => h (BitVec.eq_of_toInt_eq (e.trans rfl)))))
    unfold Scalar.select
    split
    · exact h1
    · exact ⟨0, EReal.coe_zero.symm⟩

end Cert.MergeSpec
end
-- ==== Proof.Mask.lean ====
/- What the selection of the squared errors says of the arguments: where it is one, the row's magnitude and the last three
   adapters are finite; and the shapes it names fit. -/
module
public import proofs.«01_k».proof.On_everything_but_err_at_infinities
public import proofs.«01_k».proof.Proof.Finite
public import Idealize.ShloMosaic.Lib.ReduceAll
public import Idealize.ShloMosaic.Lib.Pointwise
@[expose] public section
set_option maxRecDepth 16384
noncomputable section
open Idealize.ShloMosaic
namespace Cert.On_everything_but_err_at_infinities
open Cert.MergeSpec

instance facts : Facts where
  slices_S2x4_S2x3_0_1 := by decide
  bcast_S_S2x3 := by decide
  reducesTo_S2x3_S2_d1 := by decide
  h_S_ := by decide
  slices_S2x4x128x3072_S2x3x128x3072_0_1_0_0 := by decide
  bitsLt_bf16_f32 := by decide
  bcast_S_S2x3x128x3072 := by decide
  reducesTo_S2x3x128x3072_S2_d1_2_3 := by decide
  bcast_S_S2x21504 := by decide
  slices_S2x4x21504x128_S2x3x21504x128_0_1_0_0 := by decide
  bcast_S_S2x3x21504x128 := by decide
  reducesTo_S2x3x21504x128_S2x21504_d1_3 := by decide
  bcast_S_S2x21504x3072 := by decide
  bcast_S_S2 := by decide
  bcast_S2_S2x1_0 := by decide
  bcast_S2x1_S2x21504_0_1 := by decide

/-- A magnitude under infinity. -/
theorem finite_of_lt {s : Shape} (h : S_.BroadcastsInDim s (![] : Fin 0 → Fin s.rank)) (x : FVec Ideal s .f32) (i : s.Idx)
    (e : cmpf .olt (Host.absf x) (broadcastInDim s ![] h (constant S_ .f32 0x7F800000#32 : FVec Ideal S_ .f32)) i = 1#1) : Finite (x i) := by
  have e' : Ideal.cmp .olt (max (x i) (-(x i))) (Ideal.ofBits .f32 0x7F800000#32) = 1#1 := e
  have h7 : Ideal.ofBits .f32 0x7F800000#32 = ⊤ := by simp [Ideal.ofBits, Ideal.ieee]
  have h8 : max (x i) (-(x i)) < ⊤ := by
    rw [h7] at e'
    by_contra hn
    rw [Ideal.cmp, decide_eq_false hn] at e'
    exact absurd e' (by decide)
  refine finite_of_ne (fun ht => ?_) (fun hb => ?_)
  · rw [ht] at h8
    exact absurd (max_lt_iff.1 h8).1 (lt_irrefl _)
  · rw [hb, EReal.neg_bot] at h8
    exact absurd (max_lt_iff.1 h8).2 (lt_irrefl _)

theorem and_at (x y : IVec S2x21504 1) (z : IVec S2 1) (b : Fin 2) (r : Fin 21504) :
    andi (andi x y) (broadcastInDim S2x21504 ![0, 1] Facts.bcast_S2x1_S2x21504_0_1 (broadcastInDim S2x1 ![0] Facts.bcast_S2_S2x1_0 z)) (ix2 b r)
      = IntOp.andi (IntOp.andi (x (ix2 b r)) (y (ix2 b r))) (z (ix1 b)) := by
  pointwise

theorem last3_words {α : Type} (x : S2x4.Idx → α) (b : Fin 2) (n : Fin 3) :
    extractStridedSlice S2x3 ![0, 1] x Facts.slices_S2x4_S2x3_0_1 (ix2 b n) = x (ix2 b n.succ) := by
  pointwise
  exact congrArg (fun k => x (ix2 b k)) (Fin.ext (Nat.add_comm 1 n.val))

theorem last3_a {α : Type} (x : S2x4x128x3072.Idx → α) (b : Fin 2) (n : Fin 3) (j : Fin 128) (q : Fin 3072) :
    extractStridedSlice S2x3x128x3072 ![0, 1, 0, 0] x Facts.slices_S2x4x128x3072_S2x3x128x3072_0_1_0_0 (ix4 b n j q) = x (ix4 b n.succ j q) := by
  pointwise
  exact congrArg (fun k => x (ix4 b k j q)) (Fin.ext (Nat.add_comm 1 n.val))

theorem last3_b {α : Type} (x : S2x4x21504x128.Idx → α) (b : Fin 2) (n : Fin 3) (r : Fin 21504) (j : Fin 128) :
    extractStridedSlice S2x3x21504x128 ![0, 1, 0, 0] x Facts.slices_S2x4x21504x128_S2x3x21504x128_0_1_0_0 (ix4 b n r j) = x (ix4 b n.succ r j) := by
  pointwise
  exact congrArg (fun k => x (ix4 b k r j)) (Fin.ext (Nat.add_comm 1 n.val))

theorem drop_words (b : Fin 2) (n : Fin 3) : Facts.reducesTo_S2x3_S2_d1.drop (ix2 b n) = ix1 b :=
  funext fun | 0 => Fin.ext (Shape.ReducesTo.drop_apply_val Facts.reducesTo_S2x3_S2_d1 (ix2 b n) 0)

theorem drop_a (b : Fin 2) (n : Fin 3) (j : Fin 128) (q : Fin 3072) : Facts.reducesTo_S2x3x128x3072_S2_d1_2_3.drop (ix4 b n j q) = ix1 b :=
  funext fun | 0 => Fin.ext (Shape.ReducesTo.drop_apply_val Facts.reducesTo_S2x3x128x3072_S2_d1_2_3 (ix4 b n j q) 0)

theorem drop_b (b : Fin 2) (n : Fin 3) (r : Fin 21504) (j : Fin 128) : Facts.reducesTo_S2x3x21504x128_S2x21504_d1_3.drop (ix4 b n r j) = ix2 b r :=
  funext fun
    | 0 => Fin.ext (Shape.ReducesTo.drop_apply_val Facts.reducesTo_S2x3x21504x128_S2x21504_d1_3 (ix4 b n r j) 0)
    | 1 => Fin.ext (Shape.ReducesTo.drop_apply_val Facts.reducesTo_S2x3x21504x128_S2x21504_d1_3 (ix4 b n r j) 1)

variable (a0 : Vec Ideal S2x21504x3072 .fp8e4m3) (a1 : Vec Ideal S2x21504 .f32) (a2 : Vec Ideal S2x21504x32 .fp8e4m3) (a3 : Vec Ideal S2x21504 .f32)
  (a4 : Vec Ideal S2x32x3072 .fp8e4m3) (a5 : Vec Ideal S2x3072 .f32) (a6 : Vec Ideal S2x4x21504x128 .bf16) (a7 : Vec Ideal S2x4x128x3072 .bf16)
  (a8 : Vec Ideal S2x4 .i32) (a9 a10 : Vec Ideal S2x4 .f32) (a11 : Vec Ideal S2x21504 .f32)

theorem finite_of_mask (b : Fin 2) (r : Fin 21504) (h : (fn (F := Ideal) a0 a1 a2 a3 a4 a5 a6 a7 a8 a9 a10 a11).2.2.2.2.2 (ix2 b r) = 1#1) :
    Finite (a11 (ix2 b r)) ∧ (∀ n : Fin 3, Finite (a9 (ix2 b n.succ)) ∧ Finite (a10 (ix2 b n.succ))) ∧ (∀ (n : Fin 3) j, Finite (a6 (ix4 b n.succ r j)))
      ∧ ∀ (n : Fin 3) j q, Finite (a7 (ix4 b n.succ j q)) := by
  have h' := (and_at _ _ _ b r).symm.trans h
  obtain ⟨h1, h2⟩ := IntOp.andi_eq_one.1 h'
  obtain ⟨hm, hb⟩ := IntOp.andi_eq_one.1 h1
  obtain ⟨hw, ha⟩ := IntOp.andi_eq_one.1 h2
  refine ⟨finite_of_lt _ _ _ hm, fun n => ?_, fun n j => ?_, fun n j q => ?_⟩
  · obtain ⟨u, v⟩ := IntOp.andi_eq_one.1 (Host.reduce_andi_eq_one _ _ _ _ _ hw (ix2 b n) (drop_words b n))
    exact ⟨(last3_words a9 b n) ▸ finite_of_lt _ _ _ u, (last3_words a10 b n) ▸ finite_of_lt _ _ _ v⟩
  · have u := finite_of_lt _ _ _ (Host.reduce_andi_eq_one _ _ _ _ _ hb (ix4 b n r j) (drop_b b n r j))
    exact (last3_b a6 b n r j) ▸ u
  · have u := finite_of_lt _ _ _ (Host.reduce_andi_eq_one _ _ _ _ _ ha (ix4 b n j q) (drop_a b n j q))
    exact (last3_a a7 b n j q) ▸ u

/-- Where it selects a row, the row's squared error summed in units of the scale is its squared error. -/
theorem err_of_mask (b : Fin 2) (r : Fin 21504) (h0 : (row a0 a1 a2 a3 a4 a5 a6 a7 a8 a9 a10 a11 b r).scale ≠ 0)
    (h : (fn (F := Ideal) a0 a1 a2 a3 a4 a5 a6 a7 a8 a9 a10 a11).2.2.2.2.2 (ix2 b r) = 1#1) :
    (row a0 a1 a2 a3 a4 a5 a6 a7 a8 a9 a10 a11 b r).unitErr = (row a0 a1 a2 a3 a4 a5 a6 a7 a8 a9 a10 a11 b r).err := by
  obtain ⟨hm, hw, hb, ha⟩ := finite_of_mask a0 a1 a2 a3 a4 a5 a6 a7 a8 a9 a10 a11 b r h
  have e (x : Fin 384) : adapter x = (⟨x.val / 128, by omega⟩ : Fin 3).succ := Fin.ext (by show 1 + x.val / 128 = x.val / 128 + 1; omega)
  refine Row.unitErr_eq _ h0 (Row.w_finite _ hm (fun x => ?_) (fun x q => ?_))
  · rw [e]
    exact masked_finite _ _ _ _ (hw _).2 (hw _).1 (hb _ _) _
  · rw [e]
    exact ha _ _ q

end Cert.On_everything_but_err_at_infinities
end
-- ==== Proof.NSpec.lean ====
/- The quantisation of sixteen weights that share a scale, as plain formulas over the extended reals, from which both the
   second call's results and its reference's are read. -/
module
public import proofs.«01_k».proof.Proof.Finite
@[expose] public section
noncomputable section
open Idealize.ShloMosaic
namespace Cert.BlockSpec
open Cert.MergeSpec

abbrev half : EReal := Ideal.ofBits .f32 0x3F000000#32
abbrev two : EReal := Ideal.ofBits .f32 0x40000000#32
abbrev four : EReal := Ideal.ofBits .f32 0x40800000#32
abbrev six : EReal := Ideal.ofBits .f32 0x40C00000#32

/-- A magnitude. -/
abbrev mg (x : EReal) : EReal := FloatOps.absf (F := Ideal) (φ := .f32) x

section block

variable (t : EReal) (x : Fin 16 → EReal)

/-- The block's greatest magnitude, a little enlarged, over six. -/
def raw : EReal :=
  Ideal.div (Finset.fold max (Ideal.ofBits .f32 0xFF800000#32) (fun e => mg (x e)) Finset.univ * Ideal.ofBits .f32 0x3F800800#32) six

/-- The block's scale in units of the tensor's scale `t`, between 0 and 448. -/
def scale : EReal := min (Ideal.ofBits .f32 0x43E00000#32) (max 0 (Ideal.div (raw x) t))

/-- What a code stands for a multiple of. -/
def eff : EReal := if scale t x * t = 0 then 1 else scale t x * t

end block

/-- The magnitude nearest to `u` among 0, 1/2, 1, 3/2, 2, 3, 4 and 6. -/
def near (u : EReal) : EReal :=
  Ideal.liftRound Ideal.roundHalfEven (u * if u < two then two else if u < four then 1 else half) * if u < two then half else if u < four then 1 else two

/-- The value among those, with either sign, nearest to `y`. -/
def value (y : EReal) : EReal := if y < 0 then 0 - near (min (mg y) six) else near (min (mg y) six)

/-- A block's squared error. -/
def err (t : EReal) (x : Fin 16 → EReal) : EReal :=
  ∑ e, (x e - value (Ideal.div (x e) (eff t x)) * eff t x) * (x e - value (Ideal.div (x e) (eff t x)) * eff t x)

theorem half_eq : half = ((1 / 2 : ℝ) : EReal) := by
  simp [half, Ideal.ofBits, Ideal.ieee, -EReal.coe_mul]
  norm_num
theorem two_eq : two = ((2 : ℝ) : EReal) := by
  simp [two, Ideal.ofBits, Ideal.ieee, -EReal.coe_mul]
  norm_num
theorem four_eq : four = ((4 : ℝ) : EReal) := by
  simp [four, Ideal.ofBits, Ideal.ieee, -EReal.coe_mul]
  norm_num
theorem six_eq : six = ((6 : ℝ) : EReal) := by
  simp [six, Ideal.ofBits, Ideal.ieee, -EReal.coe_mul]
  norm_num
theorem negSix_eq : Ideal.ofBits .f32 0xC0C00000#32 = ((-6 : ℝ) : EReal) := by
  simp [Ideal.ofBits, Ideal.ieee, -EReal.coe_mul, -EReal.coe_neg]
  norm_num
theorem enlarge_nonneg : 0 ≤ Ideal.ofBits .f32 0x3F800800#32 := by
  have : Ideal.ofBits .f32 0x3F800800#32 = ((4097 / 4096 : ℝ) : EReal) := by
    simp [Ideal.ofBits, Ideal.ieee, -EReal.coe_mul]
    norm_num
  rw [this]
  exact EReal.coe_nonneg.2 (by norm_num)

/-! ## The scale -/

theorem div_nonneg' {a : EReal} (ha : 0 ≤ a) {s : ℝ} (hs : 0 < s) : 0 ≤ Ideal.div a s := by
  rw [Ideal.div, if_neg (EReal.coe_ne_zero.2 hs.ne'), ← EReal.coe_inv]
  exact mul_nonneg ha (EReal.coe_nonneg.2 (inv_nonneg.2 hs.le))

theorem raw_nonneg (x : Fin 16 → EReal) : 0 ≤ raw x := by
  unfold raw
  rw [six_eq]
  refine div_nonneg' (mul_nonneg ?_ enlarge_nonneg) (by norm_num)
  exact (absf_nonneg (x 0)).trans (((fold_max_le (Ideal.ofBits .f32 0xFF800000#32) (fun e => mg (x e)) _).1 le_rfl).2 0)

/-- Dividing a nonnegative number, and clipping below at zero, is multiplying by the reciprocal and clipping: also by zero. -/
theorem clip_recip {a : EReal} (ha : 0 ≤ a) (t : EReal) : max 0 (a * Ideal.div 1 t) = max 0 (Ideal.div a t) := by
  by_cases ht : t = 0
  · subst ht
    rcases ha.eq_or_lt with h | h
    · subst h
      simp [Ideal.div]
    · simp [Ideal.div, h, EReal.mul_top_of_pos h]
  · rw [Ideal.div, Ideal.div, if_neg ht, if_neg ht, one_mul]

theorem scale_recip (t : EReal) (x : Fin 16 → EReal) :
    min (Ideal.ofBits .f32 0x43E00000#32) (max 0 (raw x * Ideal.div 1 t)) = scale t x := by
  rw [clip_recip (raw_nonneg x), scale]

theorem scale_finite (t : EReal) (x : Fin 16 → EReal) : Finite (scale t x) := by
  unfold scale
  rw [max_code]
  refine finite_of_ne (ne_of_lt ((min_le_left _ _).trans_lt (EReal.coe_lt_top _))) (ne_of_gt ?_)
  exact lt_min (EReal.bot_lt_coe _) (EReal.bot_lt_zero.trans_le (le_max_left _ _))

theorem scale_infinite (t : EReal) (ht : ¬ Finite t) (x : Fin 16 → EReal) : scale t x = 0 := by
  have h0 : t ≠ 0 := fun h => ht ⟨0, h.trans EReal.coe_zero.symm⟩
  have hi : t⁻¹ = 0 := by
    by_cases h1 : t = ⊤
    · rw [h1, EReal.inv_top]
    · by_cases h2 : t = ⊥
      · rw [h2, EReal.inv_bot]
      · exact absurd (finite_of_ne h1 h2) ht
  rw [scale, Ideal.div, if_neg h0, hi, mul_zero, max_self, max_code]
  exact min_eq_right (EReal.coe_nonneg.2 (by norm_num))

/-- What a code stands for a multiple of is a real number other than zero, whatever the weights and the tensor's scale. -/
theorem eff_real (t : EReal) (x : Fin 16 → EReal) : ∃ s : ℝ, s ≠ 0 ∧ eff t x = s := by
  by_cases h : scale t x * t = 0
  · exact ⟨1, one_ne_zero, by rw [eff, if_pos h, EReal.coe_one]⟩
  · have ht : Finite t := by
      by_contra hn
      exact h (by rw [scale_infinite t hn, zero_mul])
    obtain ⟨s, hs⟩ := (scale_finite t x).mul ht
    exact ⟨s, fun e => h (by rw [hs, e, EReal.coe_zero]), by rw [eff, if_neg h, hs]⟩

/-! ## The rounding -/

/-- The eight magnitudes. -/
def mags : Fin 8 → ℝ := ![0, 1 / 2, 1, 3 / 2, 2, 3, 4, 6]

theorem round_le {r : ℝ} {n : ℤ} (h : r ≤ n) : Ideal.roundHalfEven r ≤ n := by
  have hf : ⌊r⌋ ≤ n := Int.floor_le_iff.2 (by linarith)
  unfold Ideal.roundHalfEven
  dsimp only
  by_cases e : ⌊r⌋ = n
  · have : r - ⌊r⌋ < 1 / 2 := by
      have : r ≤ ⌊r⌋ := by rw [e]; exact h
      linarith
    rw [if_pos this]; exact hf
  · split_ifs <;> omega

theorem le_round {r : ℝ} {n : ℤ} (h : (n : ℝ) ≤ r) : n ≤ Ideal.roundHalfEven r := by
  have hf : n ≤ ⌊r⌋ := Int.le_floor.2 h
  unfold Ideal.roundHalfEven
  dsimp only
  split_ifs <;> omega

/-- A rounded magnitude is one of the eight. -/
theorem near_mem (r : ℝ) (h0 : 0 ≤ r) (h6 : r ≤ 6) : ∃ k : Fin 8, near r = mags k := by
  have key (a b : ℝ) (n : ℤ) (h : Ideal.roundHalfEven (r * a) = n) (k : Fin 8) (hk : (n : ℝ) * b = mags k) :
      Ideal.liftRound Ideal.roundHalfEven ((r : EReal) * (a : EReal)) * (b : EReal) = mags k := by
    rw [← EReal.coe_mul]
    show ((Ideal.roundHalfEven (r * a) : ℝ) : EReal) * _ = _
    rw [h, ← EReal.coe_mul, hk]
  unfold near
  rw [two_eq, four_eq, half_eq, ← EReal.coe_one]
  simp only [EReal.coe_lt_coe_iff]
  by_cases h2 : r < 2
  · simp only [if_pos h2]
    have l := le_round (r := r * 2) (n := 0) (by push_cast; linarith)
    have u := round_le (r := r * 2) (n := 4) (by push_cast; linarith)
    generalize hn : Ideal.roundHalfEven (r * 2) = n at l u
    interval_cases n
    · exact ⟨0, key _ _ _ hn _ (by simp [mags])⟩
    · exact ⟨1, key _ _ _ hn _ (by simp [mags])⟩
    · exact ⟨2, key _ _ _ hn _ (by simp [mags])⟩
    · exact ⟨3, key _ _ _ hn _ (by simp [mags]; norm_num)⟩
    · exact ⟨4, key _ _ _ hn _ (by simp [mags]; norm_num)⟩
  · simp only [if_neg h2]
    by_cases h4 : r < 4
    · simp only [if_pos h4]
      have l := le_round (r := r * 1) (n := 2) (by push_cast; linarith)
      have u := round_le (r := r * 1) (n := 4) (by push_cast; linarith)
      generalize hn : Ideal.roundHalfEven (r * 1) = n at l u
      interval_cases n
      · exact ⟨4, key _ _ _ hn _ (by simp [mags])⟩
      · exact ⟨5, key _ _ _ hn _ (by simp [mags])⟩
      · exact ⟨6, key _ _ _ hn _ (by simp [mags])⟩
    · simp only [if_neg h4]
      have l := le_round (r := r * (1 / 2)) (n := 2) (by push_cast; linarith)
      have u := round_le (r := r * (1 / 2)) (n := 3) (by push_cast; linarith)
      generalize hn : Ideal.roundHalfEven (r * (1 / 2)) = n at l u
      interval_cases n
      · exact ⟨6, key _ _ _ hn _ (by simp [mags]; norm_num)⟩
      · exact ⟨7, key _ _ _ hn _ (by simp [mags]; norm_num)⟩

theorem clipped (y : EReal) : ∃ r : ℝ, 0 ≤ r ∧ r ≤ 6 ∧ min (mg y) six = r := by
  have h1 : 0 ≤ min (mg y) six := le_min (absf_nonneg y) (by rw [six_eq]; exact EReal.coe_nonneg.2 (by norm_num))
  have h2 : min (mg y) six ≤ ((6 : ℝ) : EReal) := (min_le_right _ _).trans_eq six_eq
  obtain ⟨r, hr⟩ := finite_of_ne (ne_of_lt (h2.trans_lt (EReal.coe_lt_top 6))) (ne_of_gt (EReal.bot_lt_zero.trans_le h1))
  rw [hr] at h1 h2
  exact ⟨r, EReal.coe_nonneg.1 h1, EReal.coe_le_coe_iff.1 h2, hr⟩

/-- A value is one of the eight magnitudes or the opposite of one. -/
theorem value_mem (y : EReal) : ∃ k : Fin 8, value y = mags k ∨ value y = ((-mags k : ℝ) : EReal) := by
  obtain ⟨r, h0, h6, hr⟩ := clipped y
  obtain ⟨k, hk⟩ := near_mem r h0 h6
  refine ⟨k, ?_⟩
  unfold value
  rw [hr, hk]
  split
  · exact Or.inr (by rw [zero_sub, EReal.coe_neg])
  · exact Or.inl rfl

theorem value_finite (y : EReal) : Finite (value y) := by
  obtain ⟨k, h | h⟩ := value_mem y
  · exact ⟨_, h⟩
  · exact ⟨_, h⟩

/-- Clipping to six before the magnitude is taken changes no value. -/
theorem value_clip (y : EReal) (c : EReal) (hc : c = min six (max (Ideal.ofBits .f32 0xC0C00000#32) y)) :
    (if c < 0 then 0 - near (mg c) else near (mg c)) = value y := by
  subst hc
  rw [negSix_eq, six_eq]
  have e1 : (min ((6 : ℝ) : EReal) (max ((-6 : ℝ) : EReal) y) < 0) ↔ y < 0 := by
    have a : ¬ ((6 : ℝ) : EReal) < 0 := not_lt.2 (EReal.coe_nonneg.2 (by norm_num))
    have b : ((-6 : ℝ) : EReal) < 0 := EReal.coe_neg'.2 (by norm_num)
    rw [min_lt_iff, max_lt_iff]
    exact ⟨fun h => (h.resolve_left a).2, fun h => Or.inr ⟨b, h⟩⟩
  have e2 : mg (min ((6 : ℝ) : EReal) (max ((-6 : ℝ) : EReal) y)) = min (mg y) six := by
    rw [six_eq]
    show max _ (-_) = min (max y (-y)) _
    have n6 : -((6 : ℝ) : EReal) = ((-6 : ℝ) : EReal) := (EReal.coe_neg 6).symm
    have l6 : ((-6 : ℝ) : EReal) ≤ ((6 : ℝ) : EReal) := EReal.coe_le_coe_iff.2 (by norm_num)
    have p6 : (0 : EReal) ≤ ((6 : ℝ) : EReal) := EReal.coe_nonneg.2 (by norm_num)
    have neg0 {z : EReal} (hz : 0 ≤ z) : -z ≤ 0 := (EReal.neg_le_neg_iff.2 hz).trans_eq neg_zero
    have m6 : ((-6 : ℝ) : EReal) ≤ 0 := EReal.coe_nonpos.2 (by norm_num)
    rcases le_total 0 y with h | h
    · have hn : -y ≤ 0 := neg0 h
      rw [max_eq_right (m6.trans h), max_eq_left (hn.trans h), min_comm]
      have h3 : 0 ≤ min y ((6 : ℝ) : EReal) := le_min h p6
      exact max_eq_left ((neg0 h3).trans h3)
    · have hn : 0 ≤ -y := EReal.neg_nonneg.2 h
      rw [max_eq_right (h.trans hn)]
      have h3 : max ((-6 : ℝ) : EReal) y ≤ 0 := max_le m6 h
      rw [min_eq_right (h3.trans p6), max_eq_right (h3.trans (EReal.neg_nonneg.2 h3))]
      rcases le_total ((-6 : ℝ) : EReal) y with h4 | h4
      · rw [max_eq_right h4, min_eq_left]
        exact (EReal.neg_le_neg_iff.2 h4).trans_eq (by rw [← n6, neg_neg])
      · rw [max_eq_left h4, min_eq_right, ← n6, neg_neg]
        exact (show ((6 : ℝ) : EReal) = -((-6 : ℝ) : EReal) by rw [← n6, neg_neg]).trans_le (EReal.neg_le_neg_iff.2 h4)
  rw [e2]
  unfold value
  exact if_congr e1 rfl rfl

/-! ## The error -/

/-- What the code misses, scaled back after squaring or before: the same for any weight, finite or not. -/
theorem miss_eq (w : EReal) (q s : ℝ) (hs : s ≠ 0) :
    (Ideal.div w s - q) * (Ideal.div w s - q) * ((s : EReal) * s) = (w - (q : EReal) * s) * (w - (q : EReal) * s) := by
  have hpos : 0 < s * s := mul_self_pos.2 hs
  rw [← EReal.coe_mul, ← EReal.coe_mul]
  by_cases ht : w = ⊤
  · subst ht
    rw [Ideal.div, if_neg (EReal.coe_ne_zero.2 hs), ← EReal.coe_inv, EReal.top_sub_coe, EReal.top_mul_top]
    rcases lt_or_gt_of_ne hs with h | h
    · rw [EReal.top_mul_coe_of_neg (inv_lt_zero.2 h), EReal.bot_sub, EReal.bot_mul_bot, EReal.top_mul_coe_of_pos hpos]
    · rw [EReal.top_mul_coe_of_pos (inv_pos.2 h), EReal.top_sub_coe, EReal.top_mul_top, EReal.top_mul_coe_of_pos hpos]
  · by_cases hb : w = ⊥
    · subst hb
      rw [Ideal.div, if_neg (EReal.coe_ne_zero.2 hs), ← EReal.coe_inv, EReal.bot_sub, EReal.bot_mul_bot]
      rcases lt_or_gt_of_ne hs with h | h
      · rw [EReal.bot_mul_coe_of_neg (inv_lt_zero.2 h), EReal.top_sub_coe, EReal.top_mul_top, EReal.top_mul_coe_of_pos hpos]
      · rw [EReal.bot_mul_coe_of_pos (inv_pos.2 h), EReal.bot_sub, EReal.bot_mul_bot, EReal.top_mul_coe_of_pos hpos]
    · obtain ⟨r, rfl⟩ := finite_of_ne ht hb
      rw [div_coe _ _ hs, ← EReal.coe_sub, ← EReal.coe_sub, ← EReal.coe_mul, ← EReal.coe_mul, ← EReal.coe_mul]
      refine congrArg _ ?_
      have e : r / s * s = r := div_mul_cancel₀ _ hs
      rw [show r - q * s = (r / s - q) * s from by rw [sub_mul, e]]
      ring

theorem sum_mul_nonneg {ι : Type} (s : Finset ι) (f : ι → EReal) (hf : ∀ i, 0 ≤ f i) (a : EReal) : (∑ i ∈ s, f i) * a = ∑ i ∈ s, f i * a := by
  classical
  induction s using Finset.induction_on with
  | empty => simp
  | insert b s hb ih =>
    rw [Finset.sum_insert hb, Finset.sum_insert hb, EReal.right_distrib_of_nonneg (hf b) (Finset.sum_nonneg fun i _ => hf i), ih]

/-- A block's squared error, summed in units of what a code stands for a multiple of. -/
theorem unit_err (t : EReal) (x : Fin 16 → EReal) :
    (∑ e, (x e * Ideal.div 1 (eff t x) - value (x e * Ideal.div 1 (eff t x))) * (x e * Ideal.div 1 (eff t x) - value (x e * Ideal.div 1 (eff t x)))) * (eff t x * eff t x)
      = err t x := by
  obtain ⟨s, hs, he⟩ := eff_real t x
  have hr (e : Fin 16) : x e * Ideal.div 1 (eff t x) = Ideal.div (x e) (eff t x) := by
    have h0 : eff t x ≠ 0 := by rw [he]; exact EReal.coe_ne_zero.2 hs
    rw [Ideal.div, Ideal.div, if_neg h0, if_neg h0, one_mul]
  rw [sum_mul_nonneg _ _ (fun e => mul_self_nonneg' _)]
  refine Finset.sum_congr rfl fun e _ => ?_
  obtain ⟨q, hq⟩ := value_finite (Ideal.div (x e) (eff t x))
  rw [hr, hq, he]
  exact miss_eq (x e) q s hs

end Cert.BlockSpec
end
-- ==== Proof.NBlock.lean ====
/- What the second call's kernel computes from one load of weights: every block's scale and squared error. -/
module
public import proofs.«01_k».proof.Proof.Gen.Nvfp4Ideal.Value
public import proofs.«01_k».proof.Proof.NSpec
@[expose] public section
set_option maxRecDepth 16384
noncomputable section
open Idealize.ShloMosaic Idealize.ShloMosaic.TcCoe
namespace Cert.Nvfp4Ideal.Blocks
open Cert.Nvfp4Ideal Cert.Nvfp4Ideal.Gen Cert.BlockSpec

/-- A tensor's scale, from its greatest magnitude. -/
abbrev unit (a : EReal) : EReal := Ideal.div a (Ideal.ofBits .f32 0x45280000#32)

/-- The sixteen weights of a lane's block. -/
abbrev sixteen (v7 : Vec Ideal S1x128x512 .f32) (l : Fin 128) (h : Fin 32) : Fin 16 → EReal := fun e => v7 (ix3 0 l ⟨h.val * 16 + e.val, by omega⟩)

variable (v0 : Vec Ideal S1x1x128 .f32) (v7 : Vec Ideal S1x128x512 .f32)

theorem pay3_at (l : Fin 128) : (k0_pay3 v0 (ix2 0 l) : EReal) = unit (v0 (ix3 0 0 l)) := by
  pointwise [k0_pay3]

theorem pay7_at (h : Fin 32) (l : Fin 128) : (k0_pay7 v0 v7 (ix2 h l) : EReal) = scale (unit (v0 (ix3 0 0 l))) (sixteen v7 l h) := by
  rw [← scale_recip]
  unfold raw
  pointwise [k0_pay7, k0_pay6, k0_pay4, k0_pay3]

theorem pay8_at (h : Fin 32) (l : Fin 128) : (k0_pay8 v0 v7 (ix3 0 h l) : EReal) = scale (unit (v0 (ix3 0 0 l))) (sixteen v7 l h) := by
  rw [← pay7_at]
  pointwise [k0_pay8]

theorem pay9_at (h : Fin 32) (l : Fin 128) : (k0_pay9 v0 v7 (ix2 h l) : EReal) = eff (unit (v0 (ix3 0 0 l))) (sixteen v7 l h) := by
  unfold eff
  rw [← pay7_at, ← pay3_at]
  pointwise [k0_pay9]

theorem pay10_at (h : Fin 32) (l : Fin 128) : (k0_pay10 v0 v7 (ix3 h 0 l) : EReal) = Ideal.div 1 (eff (unit (v0 (ix3 0 0 l))) (sixteen v7 l h)) := by
  rw [← pay9_at]
  pointwise [k0_pay10]

theorem pay6_at (h : Fin 32) (e : Fin 16) (l : Fin 128) : (k0_pay6 v7 (ix3 h e l) : EReal) = sixteen v7 l h e := by
  pointwise [k0_pay6]

theorem pay12_at (v10 : FVec Ideal S32x16x128 .f32) (v36 : FVec Ideal S32x1x128 .f32) (r : Fin 512) (l : Fin 128) :
    (k0_pay12 v10 v36 (ix2 r l) : EReal) = value (v10 (ix3 ⟨r.val / 16, by omega⟩ ⟨r.val % 16, by omega⟩ l) * v36 (ix3 ⟨r.val / 16, by omega⟩ 0 l)) := by
  rw [← value_clip _ _ rfl]
  unfold near
  pointwise [k0_pay12, k0_pay11]

theorem pay13_at (acc : FVec Ideal S1x128 .f32) (v10 : FVec Ideal S32x16x128 .f32) (v33 : FVec Ideal S32x128 .f32) (v36 : FVec Ideal S32x1x128 .f32) (l : Fin 128) :
    (k0_pay13 acc v10 v33 v36 (ix2 0 l) : EReal) = acc (ix2 0 l) + ∑ h : Fin 32, (∑ e : Fin 16, (v10 (ix3 h e l) * v36 (ix3 h 0 l) - k0_pay12 v10 v36 (ix2 ⟨h.val * 16 + e.val, by omega⟩ l)) * (v10 (ix3 h e l) * v36 (ix3 h 0 l) - k0_pay12 v10 v36 (ix2 ⟨h.val * 16 + e.val, by omega⟩ l))) * (v33 (ix2 h l) * v33 (ix2 h l)) := by
  pointwise [k0_pay13, k0_pay11]

/-- The values, as multiples of what a code stands for. -/
abbrev vals : FVec Ideal S512x128 .f32 := k0_pay12 (k0_pay6 v7) (k0_pay10 v0 v7)

theorem vals_at (h : Fin 32) (e : Fin 16) (l : Fin 128) :
    (vals v0 v7 (ix2 ⟨h.val * 16 + e.val, by omega⟩ l) : EReal) = value (sixteen v7 l h e * Ideal.div 1 (eff (unit (v0 (ix3 0 0 l))) (sixteen v7 l h))) := by
  have e1 : (⟨(h.val * 16 + e.val) / 16, by omega⟩ : Fin 32) = h := Fin.ext (show (h.val * 16 + e.val) / 16 = h.val by omega)
  have e2 : (⟨(h.val * 16 + e.val) % 16, by omega⟩ : Fin 16) = e := Fin.ext (show (h.val * 16 + e.val) % 16 = e.val by omega)
  refine (pay12_at _ _ _ l).trans (congrArg value ?_)
  rw [show (⟨(⟨h.val * 16 + e.val, by omega⟩ : Fin 512).val / 16, by omega⟩ : Fin 32) = h from e1, show (⟨(⟨h.val * 16 + e.val, by omega⟩ : Fin 512).val % 16, by omega⟩ : Fin 16) = e from e2,
    pay6_at, pay10_at]

/-- The load's squared errors, added to those so far. -/
abbrev addErr (acc : FVec Ideal S1x128 .f32) : FVec Ideal S1x128 .f32 := k0_pay13 acc (k0_pay6 v7) (k0_pay9 v0 v7) (k0_pay10 v0 v7)

theorem addErr_at (acc : FVec Ideal S1x128 .f32) (l : Fin 128) :
    (addErr v0 v7 acc (ix2 0 l) : EReal) = acc (ix2 0 l) + ∑ h : Fin 32, err (unit (v0 (ix3 0 0 l))) (sixteen v7 l h) := by
  refine (pay13_at _ _ _ _ l).trans (congrArg (HAdd.hAdd _) (Finset.sum_congr rfl fun h _ => ?_))
  rw [← unit_err, pay9_at]
  refine congrArg (fun z : EReal => z * _) (Finset.sum_congr rfl fun e _ => ?_)
  rw [show k0_pay12 (k0_pay6 v7) (k0_pay10 v0 v7) (ix2 ⟨h.val * 16 + e.val, by omega⟩ l) = _ from vals_at v0 v7 h e l, pay6_at, pay10_at]

end Cert.Nvfp4Ideal.Blocks
end
-- ==== Proof.NOut.lean ====
/- What the second call's kernel leaves in its output blocks at a grid point: the scales and squared errors of its 256 rows. -/
module
public import proofs.«01_k».proof.Proof.NBlock
public import Idealize.ShloMosaic.Lib.Pipeline.ReadBack
public import Idealize.ShloMosaic.Lib.Pipeline.ValueKit.Geometry
public import Idealize.ShloMosaic.Lib.Pipeline.ValueKit.Tiles
@[expose] public section
set_option maxRecDepth 16384
noncomputable section
open Idealize.ShloMosaic Idealize.ShloMosaic.TcCoe
namespace Cert.Nvfp4Ideal.Blocks
open Cert.Nvfp4Ideal Cert.Nvfp4Ideal.Gen Cert.BlockSpec

/-- A block's weights: the sixteen of row `p` numbered `n`. -/
abbrev rowBlock (x1 : Vec Ideal S1x256x3072 .f32) (p : Fin 256) (n : Fin 192) : Fin 16 → EReal := fun e => x1 (ix3 0 p ⟨n.val * 16 + e.val, by omega⟩)

/-- The tensor's scale in the lane of row `p`. -/
abbrev rowUnit (x0 : Vec Ideal S1x8x128 .f32) (p : Fin 256) : EReal := unit (x0 (ix3 0 0 ⟨p.val % 128, by omega⟩))

theorem inb_w (o n : ℕ) (ho : o + 128 ≤ 256) (hn : n + 32 ≤ 192) : ∀ x : Fin 3, (![0, o, 16 * n] : Fin 3 → ℕ) x + S1x128x512.size x ≤ S1x256x3072.size x := by
  intro x
  match x with
  | ⟨0, _⟩ => exact (Nat.zero_add _).le
  | ⟨1, _⟩ => exact ho
  | ⟨2, _⟩ => exact (show 16 * n + 512 ≤ 3072 by omega)

theorem inb_s (o n : ℕ) (ho : o + 128 ≤ 256) (hn : n + 32 ≤ 192) : ∀ x : Fin 3, (![0, n, o] : Fin 3 → ℕ) x + S1x32x128.size x ≤ S1x192x256.size x := by
  intro x
  match x with
  | ⟨0, _⟩ => exact (Nat.zero_add _).le
  | ⟨1, _⟩ => exact hn
  | ⟨2, _⟩ => exact ho

theorem inb_e (o : ℕ) (ho : o + 128 ≤ 256) : ∀ x : Fin 3, (![0, 0, o] : Fin 3 → ℕ) x + S1x1x128.size x ≤ S1x1x256.size x := by
  intro x
  match x with
  | ⟨0, _⟩ => exact (Nat.zero_add _).le
  | ⟨1, _⟩ => exact (Nat.zero_add _).le
  | ⟨2, _⟩ => exact ho

variable (x0 : Vec Ideal S1x8x128 .f32) (x1 : Vec Ideal S1x256x3072 .f32)

/-- The tensor's scale's load, -/
abbrev topLoad : Vec Ideal S1x1x128 .f32 := View.ld x0 r0_0
/-- and that of the blocks `n … n + 31` of the rows `o … o + 127`. -/
abbrev load (o n : ℕ) (ho : o + 128 ≤ 256) (hn : n + 32 ≤ 192) : Vec Ideal S1x128x512 .f32 :=
  View.ld x1 (Rect.unit (s := S1x256x3072) ![0, o, 16 * n] S1x128x512.size (inb_w o n ho hn))

theorem load_at (o n : ℕ) (ho : o + 128 ≤ 256) (hn : n + 32 ≤ 192) (l : Fin 128) (c : Fin 512) :
    load x1 o n ho hn (ix3 0 l c) = x1 (ix3 0 ⟨o + l.val, by omega⟩ ⟨16 * n + c.val, by omega⟩) := by
  unfold load
  pointwise

theorem topLoad_at (l : Fin 128) : topLoad x0 (ix3 0 0 l) = x0 (ix3 0 0 l) := by
  unfold topLoad
  pointwise

theorem sixteen_load (o n : ℕ) (ho : o + 128 ≤ 256) (hn : n + 32 ≤ 192) (l : Fin 128) (h : Fin 32) :
    sixteen (load x1 o n ho hn) l h = rowBlock x1 ⟨o + l.val, by omega⟩ ⟨n + h.val, by omega⟩ := by
  funext e
  refine (load_at x1 o n ho hn l _).trans (congrArg x1 (congrArg (ix3 0 _) (Fin.ext ?_)))
  show 16 * n + (h.val * 16 + e.val) = (n + h.val) * 16 + e.val
  omega

theorem unit_load (o : ℕ) (h0 : o % 128 = 0) (ho : o + 128 ≤ 256) (l : Fin 128) : unit (topLoad x0 (ix3 0 0 l)) = rowUnit x0 ⟨o + l.val, by omega⟩ := by
  rw [topLoad_at]
  refine congrArg (fun k => unit (x0 (ix3 0 0 k))) (Fin.ext ?_)
  show l.val = (o + l.val) % 128
  omega

/-! ## Scales -/

abbrev scalesAt (o n : ℕ) (ho : o + 128 ≤ 256) (hn : n + 32 ≤ 192) : Rect S1x192x256 := Rect.unit (s := S1x192x256) ![0, n, o] S1x32x128.size (inb_s o n ho hn)

abbrev pS (o n : ℕ) (ho : o + 128 ≤ 256) (hn : n + 32 ≤ 192) : View.Piece (Elt Ideal) S1x192x256 .fp8e4m3 :=
  ⟨scalesAt o n ho hn, k0_pay8 (topLoad x0) (load x1 o n ho hn)⟩

/-- The scales of a block of rows. -/
abbrev scales : S1x192x256.Idx → EReal := fun y => scale (rowUnit x0 (y 2)) (rowBlock x1 (y 2) (y 1))

theorem scales_emb_blk (o n : ℕ) (ho : o + 128 ≤ 256) (hn : n + 32 ≤ 192) (x : S1x32x128.Idx) : ((scalesAt o n ho hn).emb x) 1 = (⟨n + (x 1).val, by have := (x 1).isLt; change _ < 32 at this; omega⟩ : Fin 192) :=
  Fin.ext (by show n + 1 * (x 1).val = n + (x 1).val; omega)
theorem scales_emb_row (o n : ℕ) (ho : o + 128 ≤ 256) (hn : n + 32 ≤ 192) (x : S1x32x128.Idx) : ((scalesAt o n ho hn).emb x) 2 = (⟨o + (x 2).val, by have := (x 2).isLt; change _ < 128 at this; omega⟩ : Fin 256) :=
  Fin.ext (by show o + 1 * (x 2).val = o + (x 2).val; omega)

theorem scales_load (o n : ℕ) (h0 : o % 128 = 0) (ho : o + 128 ≤ 256) (hn : n + 32 ≤ 192) (h : Fin 32) (l : Fin 128) :
    (k0_pay8 (topLoad x0) (load x1 o n ho hn) (ix3 0 h l) : EReal) = scale (rowUnit x0 ⟨o + l.val, by omega⟩) (rowBlock x1 ⟨o + l.val, by omega⟩ ⟨n + h.val, by omega⟩) := by
  rw [pay8_at, unit_load x0 o h0 ho, sixteen_load]

theorem pS_at (o n : ℕ) (h0 : o % 128 = 0) (ho : o + 128 ≤ 256) (hn : n + 32 ≤ 192) (x : S1x32x128.Idx) :
    (pS x0 x1 o n ho hn).2 x = scales x0 x1 ((scalesAt o n ho hn).emb x) := by
  have hx : x = ix3 0 (x 1) (x 2) := by
    idx_bounds x
    funext a
    fin_cases a
    · refine Fin.ext ?_
      show (x 0).val = 0
      omega
    · rfl
    · rfl
  refine (congrArg (k0_pay8 (topLoad x0) (load x1 o n ho hn)) hx).trans ((scales_load x0 x1 o n h0 ho hn (x 1) (x 2)).trans ?_)
  exact (congrArg₂ (fun p n => scale (rowUnit x0 p) (rowBlock x1 p n)) (scales_emb_row o n ho hn x) (scales_emb_blk o n ho hn x)).symm

theorem scale_pieces : out0_3 x0 x1 = View.canon [pS x0 x1 128 160 (by decide) (by decide),
    pS x0 x1 128 128 (by decide) (by decide),
    pS x0 x1 128 96 (by decide) (by decide),
    pS x0 x1 128 64 (by decide) (by decide),
    pS x0 x1 128 32 (by decide) (by decide),
    pS x0 x1 128 0 (by decide) (by decide),
    pS x0 x1 0 160 (by decide) (by decide),
    pS x0 x1 0 128 (by decide) (by decide),
    pS x0 x1 0 96 (by decide) (by decide),
    pS x0 x1 0 64 (by decide) (by decide),
    pS x0 x1 0 32 (by decide) (by decide),
    pS x0 x1 0 0 (by decide) (by decide)] := by
  unfold_out out0_3
  rfl

theorem out3_at (y : S1x192x256.Idx) : out0_3 x0 x1 y = scales x0 x1 y := by
  have hc := cover0_3 (F := Ideal) (pS x0 x1 128 160 (by decide) (by decide)).2 (pS x0 x1 128 128 (by decide) (by decide)).2 (pS x0 x1 128 96 (by decide) (by decide)).2 (pS x0 x1 128 64 (by decide) (by decide)).2 (pS x0 x1 128 32 (by decide) (by decide)).2 (pS x0 x1 128 0 (by decide) (by decide)).2 (pS x0 x1 0 160 (by decide) (by decide)).2 (pS x0 x1 0 128 (by decide) (by decide)).2 (pS x0 x1 0 96 (by decide) (by decide)).2 (pS x0 x1 0 64 (by decide) (by decide)).2 (pS x0 x1 0 32 (by decide) (by decide)).2 (pS x0 x1 0 0 (by decide) (by decide)).2 y
  rw [scale_pieces]
  have hp : View.PiecesOf (Val := Elt Ideal) (s := S1x192x256) (e := .fp8e4m3) (scales x0 x1) [pS x0 x1 128 160 (by decide) (by decide), pS x0 x1 128 128 (by decide) (by decide), pS x0 x1 128 96 (by decide) (by decide), pS x0 x1 128 64 (by decide) (by decide), pS x0 x1 128 32 (by decide) (by decide), pS x0 x1 128 0 (by decide) (by decide), pS x0 x1 0 160 (by decide) (by decide), pS x0 x1 0 128 (by decide) (by decide), pS x0 x1 0 96 (by decide) (by decide), pS x0 x1 0 64 (by decide) (by decide), pS x0 x1 0 32 (by decide) (by decide), pS x0 x1 0 0 (by decide) (by decide)] :=
    ⟨pS_at x0 x1 128 160 rfl (by decide) (by decide),
     pS_at x0 x1 128 128 rfl (by decide) (by decide),
     pS_at x0 x1 128 96 rfl (by decide) (by decide),
     pS_at x0 x1 128 64 rfl (by decide) (by decide),
     pS_at x0 x1 128 32 rfl (by decide) (by decide),
     pS_at x0 x1 128 0 rfl (by decide) (by decide),
     pS_at x0 x1 0 160 rfl (by decide) (by decide),
     pS_at x0 x1 0 128 rfl (by decide) (by decide),
     pS_at x0 x1 0 96 rfl (by decide) (by decide),
     pS_at x0 x1 0 64 rfl (by decide) (by decide),
     pS_at x0 x1 0 32 rfl (by decide) (by decide),
     pS_at x0 x1 0 0 rfl (by decide) (by decide), trivial⟩
  exact View.canon_apply_of_pieces (scales x0 x1) _ hp.mem y hc

/-! ## Squared errors -/

abbrev errAt (o : ℕ) (ho : o + 128 ≤ 256) : Rect S1x1x256 := Rect.unit (s := S1x1x256) ![0, 0, o] S1x1x128.size (inb_e o ho)

/-- A row's squared error. -/
abbrev errs : S1x1x256.Idx → EReal := fun y => ∑ n : Fin 192, err (rowUnit x0 (y 2)) (rowBlock x1 (y 2) n)

/-- The running sums of 128 rows after all their blocks. -/
abbrev sumErr (o : ℕ) (ho : o + 128 ≤ 256) : FVec Ideal S1x128 .f32 :=
  addErr (topLoad x0) (load x1 o 160 ho (by decide)) (addErr (topLoad x0) (load x1 o 128 ho (by decide)) (addErr (topLoad x0) (load x1 o 96 ho (by decide)) (addErr (topLoad x0) (load x1 o 64 ho (by decide)) (addErr (topLoad x0) (load x1 o 32 ho (by decide)) (addErr (topLoad x0) (load x1 o 0 ho (by decide)) (k0_pay5 (F := Ideal)))))))

abbrev pE (o : ℕ) (ho : o + 128 ≤ 256) : View.Piece (Elt Ideal) S1x1x256 .f32 := ⟨errAt o ho, k0_pay97 (sumErr x0 x1 o ho)⟩

theorem sum_blocks (f : Fin 192 → EReal) :
    ((((((0 + ∑ h : Fin 32, f ⟨0 + h.val, by omega⟩) + ∑ h : Fin 32, f ⟨32 + h.val, by omega⟩) + ∑ h : Fin 32, f ⟨64 + h.val, by omega⟩) + ∑ h : Fin 32, f ⟨96 + h.val, by omega⟩)
      + ∑ h : Fin 32, f ⟨128 + h.val, by omega⟩) + ∑ h : Fin 32, f ⟨160 + h.val, by omega⟩) = ∑ n, f n := by
  have e : ∑ n, f n = ∑ c : Fin 6, ∑ h : Fin 32, f ⟨32 * c.val + h.val, by omega⟩ := by
    rw [← Fintype.sum_prod_type']
    refine (Fintype.sum_equiv (finProdFinEquiv (m := 6) (n := 32)) _ _ fun x => congrArg f (Fin.ext ?_)).symm
    show 32 * x.1.val + x.2.val = x.2.val + 32 * x.1.val
    omega
  rw [e]
  simp only [Fin.sum_univ_castSucc (n := 5), Fin.sum_univ_castSucc (n := 4), Fin.sum_univ_castSucc (n := 3), Fin.sum_univ_castSucc (n := 2), Fin.sum_univ_castSucc (n := 1), Fin.sum_univ_castSucc (n := 0), Finset.univ_eq_empty, Finset.sum_empty]
  rfl

theorem sumErr_at (o : ℕ) (h0 : o % 128 = 0) (ho : o + 128 ≤ 256) (l : Fin 128) :
    (sumErr x0 x1 o ho (ix2 0 l) : EReal) = ∑ n : Fin 192, err (rowUnit x0 ⟨o + l.val, by omega⟩) (rowBlock x1 ⟨o + l.val, by omega⟩ n) := by
  unfold sumErr
  rw [addErr_at, addErr_at, addErr_at, addErr_at, addErr_at, addErr_at]
  simp only [unit_load x0 o h0 ho, sixteen_load]
  rw [show (k0_pay5 (F := Ideal) (ix2 0 l) : EReal) = 0 by pointwise [k0_pay5]]
  exact sum_blocks fun n => err (rowUnit x0 ⟨o + l.val, by omega⟩) (rowBlock x1 ⟨o + l.val, by omega⟩ n)

theorem pE_at (o : ℕ) (h0 : o % 128 = 0) (ho : o + 128 ≤ 256) (x : S1x1x128.Idx) : (pE x0 x1 o ho).2 x = errs x0 x1 ((errAt o ho).emb x) := by
  have hx : x = ix3 0 0 (x 2) := by
    idx_bounds x
    funext a
    fin_cases a
    · refine Fin.ext ?_
      show (x 0).val = 0
      omega
    · refine Fin.ext ?_
      show (x 1).val = 0
      omega
    · rfl
  have hr : ((errAt o ho).emb x) 2 = (⟨o + (x 2).val, by have := (x 2).isLt; change _ < 128 at this; omega⟩ : Fin 256) :=
    Fin.ext (by show o + 1 * (x 2).val = o + (x 2).val; omega)
  have h97 (v : FVec Ideal S1x128 .f32) (l : Fin 128) : (k0_pay97 v (ix3 0 0 l) : EReal) = v (ix2 0 l) := by
    pointwise [k0_pay97]
  refine (congrArg (k0_pay97 (sumErr x0 x1 o ho)) hx).trans ((h97 _ (x 2)).trans ((sumErr_at x0 x1 o h0 ho (x 2)).trans ?_))
  exact (congrArg (fun p => ∑ n : Fin 192, err (rowUnit x0 p) (rowBlock x1 p n)) hr).symm

theorem err_pieces : out0_4 x0 x1 = View.canon [pE x0 x1 128 (by decide), pE x0 x1 0 (by decide)] := by
  unfold_out out0_4
  rfl

theorem out4_at (y : S1x1x256.Idx) : out0_4 x0 x1 y = errs x0 x1 y := by
  have hc := cover0_4 (F := Ideal) (pE x0 x1 128 (by decide)).2 (pE x0 x1 0 (by decide)).2 y
  rw [err_pieces]
  have hp : View.PiecesOf (Val := Elt Ideal) (s := S1x1x256) (e := .f32) (errs x0 x1) [pE x0 x1 128 (by decide), pE x0 x1 0 (by decide)] :=
    ⟨pE_at x0 x1 128 rfl (by decide), pE_at x0 x1 0 rfl (by decide), trivial⟩
  exact View.canon_apply_of_pieces (errs x0 x1) _ hp.mem y hc

end Cert.Nvfp4Ideal.Blocks
end
-- ==== Proof.NValue.lean ====
/- The second call's output arrays after the run. -/
module
public import proofs.«01_k».proof.Proof.NOut
public import Idealize.ShloMosaic.Lib.StableHlo.RunClose
@[expose] public section
set_option maxRecDepth 16384
noncomputable section
open Idealize.ShloMosaic Idealize.ShloMosaic.TcCoe Idealize.SL.Sem
namespace Cert.Nvfp4Ideal.Blocks
open Cert.Nvfp4Ideal Cert.Nvfp4Ideal.Gen Cert.BlockSpec
open Idealize.ShloMosaic.Pipeline (Dat Cfg Window)

variable (m : (ℓ : Loc nD τ sig) → Buf (Elt Ideal) ℓ)

/-! ## The input blocks -/

theorem index_0 : ∀ t : Fin cfg0.N, win0_0.index t = ![(grid0.coords t 0).val, 0, 0] := (by decide +kernel : ∀ t : Fin grid0.N, _)
theorem index_1 : ∀ t : Fin cfg0.N, win0_1.index t = ![(grid0.coords t 0).val, (grid0.coords t 1).val, 0] := (by decide +kernel : ∀ t : Fin grid0.N, _)
theorem index_2 : ∀ t : Fin cfg0.N, win0_2.index t = ![(grid0.coords t 0).val, (grid0.coords t 1).val, 0] := (by decide +kernel : ∀ t : Fin grid0.N, _)
theorem index_3 : ∀ t : Fin cfg0.N, win0_3.index t = ![(grid0.coords t 0).val, 0, (grid0.coords t 1).val] := (by decide +kernel : ∀ t : Fin grid0.N, _)
theorem index_4 : ∀ t : Fin cfg0.N, win0_4.index t = ![(grid0.coords t 0).val, 0, (grid0.coords t 1).val] := (by decide +kernel : ∀ t : Fin grid0.N, _)

/-- The batch of a grid point, -/
abbrev batch (t : Fin cfg0.N) : Fin 2 := ⟨(grid0.coords t 0).val, (grid0.coords t 0).isLt⟩

theorem coord1 (t : Fin cfg0.N) : (grid0.coords t 1).val = t.val % 84 := by
  have e : (grid0.coords t 1).val = t.val / 1 % 84 := Pipeline.Grid.coords_val t 1 (by decide) rfl
  rw [e, Nat.div_one]

/-- and the row of the batch at row `p` of its tile. -/
abbrev rowOf (t : Fin cfg0.N) (p : Fin 256) : Fin 21504 :=
  ⟨256 * (grid0.coords t 1).val + p.val, by rw [coord1]; omega⟩

theorem block_0 (c : Dev nD) (t : Fin cfg0.N) (p : Fin 8) (q : Fin 128) :
    (iblk m c 0 t : Vec Ideal S1x8x128 .f32) (ix3 0 p q) = (V m c main_v1 : Vec Ideal S2x8x128 .f32) (ix3 (batch t) p q) := by
  blk_simp [iblk]
  refine congrArg _ ?_
  blk_ext [index_0]

theorem block_1 (c : Dev nD) (t : Fin cfg0.N) (p : Fin 256) (q : Fin 3072) :
    (iblk m c 1 t : Vec Ideal S1x256x3072 .f32) (ix3 0 p q) = (V m c main_arg1 : Vec Ideal S2x21504x3072 .f32) (ix3 (batch t) (rowOf t p) q) := by
  blk_simp [iblk]
  refine congrArg _ ?_
  blk_ext [index_1]

theorem V_1 (c : Dev nD) : V m c main_v1 = broadcastInDim S2x8x128 ![0, 1, 2] bcast_S2x1x1_S2x8x128_0_1_2
    (broadcastInDim S2x1x1 ![0] bcast_S2_S2x1x1_0 (m ((c : Thread nD τ).loc main_arg0) : Vec Ideal S2 .f32)) := by
  show StableHlo.after (List.flatten [hostOps0]) _ _ = _
  simp only [List.flatten_cons, List.flatten_nil, List.append_nil]
  after_results

theorem host_top (a : Vec Ideal S2 .f32) (b : Fin 2) (p : Fin 8) (q : Fin 128) :
    broadcastInDim S2x8x128 ![0, 1, 2] bcast_S2x1x1_S2x8x128_0_1_2 (broadcastInDim S2x1x1 ![0] bcast_S2_S2x1x1_0 a) (ix3 b p q) = a (ix1 b) := by
  pointwise

/-- A batch's greatest magnitude, over which its weights are scaled, -/
abbrev unitOf (a0 : Vec Ideal S2 .f32) (b : Fin 2) : EReal := unit (a0 (ix1 b))
/-- and its sixteen weights that share a scale. -/
abbrev blockOf (a1 : Vec Ideal S2x21504x3072 .f32) (b : Fin 2) (r : Fin 21504) (n : Fin 192) : Fin 16 → EReal := fun e => a1 (ix3 b r ⟨n.val * 16 + e.val, by omega⟩)

/-- The arguments. -/
abbrev top (c : Dev nD) : Vec Ideal S2 .f32 := m ((c : Thread nD τ).loc main_arg0)
abbrev wts (c : Dev nD) : Vec Ideal S2x21504x3072 .f32 := m ((c : Thread nD τ).loc main_arg1)

theorem rowUnit_eq (c : Dev nD) (t : Fin cfg0.N) (p : Fin 256) : rowUnit (iblk m c 0 t : Vec Ideal S1x8x128 .f32) p = unitOf (top m c) (batch t) := by
  refine congrArg unit ((block_0 m c t 0 _).trans ?_)
  rw [V_1]
  exact host_top ..

theorem rowBlock_eq (c : Dev nD) (t : Fin cfg0.N) (p : Fin 256) (n : Fin 192) : rowBlock (iblk m c 1 t : Vec Ideal S1x256x3072 .f32) p n = blockOf (wts m c) (batch t) (rowOf t p) n := by
  funext e
  refine (block_1 m c t p _).trans ?_
  rw [V_main_arg1]

/-! ## The arrays -/

theorem covers_3 : (cfg0.win 3).Covers := by decide +kernel
theorem covers_4 : (cfg0.win 4).Covers := by decide +kernel

theorem emb_3 (t : Fin cfg0.N) (y : S1x192x256.Idx) : (((cfg0.win 3).blk t).view.emb y : S2x192x21504.Idx) = ix3 (batch t) (y 1) (rowOf t (y 2)) := by
  idx_bounds y
  blk_ext [index_3]

theorem emb_4 (t : Fin cfg0.N) (y : S1x1x256.Idx) : (((cfg0.win 4).blk t).view.emb y : S2x1x21504.Idx) = ix3 (batch t) 0 (rowOf t (y 2)) := by
  idx_bounds y
  blk_ext [index_4]

/-- The scales -/
def scalesOf (a0 : Vec Ideal S2 .f32) (a1 : Vec Ideal S2x21504x3072 .f32) : Vec Ideal S2x192x21504 .fp8e4m3 := fun i => scale (unitOf a0 (i 0)) (blockOf a1 (i 0) (i 2) (i 1))
/-- and the squared errors. -/
def errsOf (a0 : Vec Ideal S2 .f32) (a1 : Vec Ideal S2x21504x3072 .f32) : Vec Ideal S2x1x21504 .f32 := fun i => ∑ n : Fin 192, err (unitOf a0 (i 0)) (blockOf a1 (i 0) (i 2) n)

theorem scales_of (c : Dev nD) (t : Fin cfg0.N) (y : S1x192x256.Idx) (i : S2x192x21504.Idx) (h : i = ix3 (batch t) (y 1) (rowOf t (y 2))) :
    out0_3 (iblk m c 0 t) (iblk m c 1 t) y = scalesOf (top m c) (wts m c) i := by
  subst h
  refine (out3_at _ _ y).trans ?_
  exact congrArg₂ scale (rowUnit_eq m c t (y 2)) (rowBlock_eq m c t (y 2) (y 1))

theorem final_3 (c : Dev nD) : (dats m 0 c).arrAt 3 cfg0.N = scalesOf (top m c) (wts m c) := by
  refine (dats m 0 c).arrAt_eq_of_covers 3 (scalesOf (top m c) (wts m c)) covers_3 (fun t hf y => ?_) (Memref.isWhole_whole _)
  blk_simp
  rw [after0_3]
  exact scales_of m c t y _ (emb_3 t y)

theorem errs_of (c : Dev nD) (t : Fin cfg0.N) (y : S1x1x256.Idx) (i : S2x1x21504.Idx) (h : i = ix3 (batch t) 0 (rowOf t (y 2))) :
    out0_4 (iblk m c 0 t) (iblk m c 1 t) y = errsOf (top m c) (wts m c) i := by
  subst h
  refine (out4_at _ _ y).trans ?_
  exact Finset.sum_congr rfl fun n _ => congrArg₂ err (rowUnit_eq m c t (y 2)) (rowBlock_eq m c t (y 2) n)

theorem final_4 (c : Dev nD) : (dats m 0 c).arrAt 4 cfg0.N = errsOf (top m c) (wts m c) := by
  refine (dats m 0 c).arrAt_eq_of_covers 4 (errsOf (top m c) (wts m c)) covers_4 (fun t hf y => ?_) (Memref.isWhole_whole _)
  blk_simp
  rw [after0_4]
  exact errs_of m c t y _ (emb_4 t y)

end Cert.Nvfp4Ideal.Blocks
end
-- ==== Proof.NRefAt.lean ====
/- The second call's reference's results, entry by entry, as the formulas of a block of sixteen weights. -/
module
public import proofs.«01_k».proof.Proof.Gen.Nvfp4ReferenceIdeal.Value
public import proofs.«01_k».proof.Proof.NSpec
@[expose] public section
set_option maxRecDepth 16384
noncomputable section
open Idealize.ShloMosaic Idealize.SL.Sem
namespace Cert.Nvfp4ReferenceIdeal.RefAt
open Cert.Nvfp4ReferenceIdeal Cert.Nvfp4ReferenceIdeal.Gen Cert.Nvfp4ReferenceIdeal.Value Cert.BlockSpec

/-- The tensor's scale of a batch. -/
abbrev unitOf (a0 : Vec Ideal S2 .f32) (b : Fin 2) : EReal := Ideal.div (a0 (ix1 b)) (Ideal.ofBits .f32 0x45280000#32)

/-- Sixteen weights that share a scale. -/
abbrev blockOf (a1 : Vec Ideal S2x21504x3072 .f32) (b : Fin 2) (r : Fin 21504) (n : Fin 192) : Fin 16 → EReal := fun e => a1 (ix3 b r ⟨n.val * 16 + e.val, by omega⟩)

variable (a0 : Vec Ideal S2 .f32) (a1 : Vec Ideal S2x21504x3072 .f32)

theorem w_at (b : Fin 2) (n : Fin 192) (e : Fin 16) (r : Fin 21504) : (k0_pay2 a1 (ix4 b n e r) : EReal) = blockOf a1 b r n e := by
  pointwise [k0_pay2]

theorem unit_at (b : Fin 2) : (k0_pay3 a0 (ix3 b 0 0) : EReal) = unitOf a0 b := by
  pointwise [k0_pay3]

/-- A block's greatest magnitude. -/
abbrev tops (v : FVec Ideal S2x192x16x21504 .f32) : FVec Ideal S2x192x21504 .f32 :=
  multiReduction .maximumf [2] S2x192x21504 (absf v) 0xFF800000#32 reduces_S2x192x16x21504_S2x192x21504 (.inl rfl) rfl

theorem tops_at (v : FVec Ideal S2x192x16x21504 .f32) (b : Fin 2) (n : Fin 192) (r : Fin 21504) :
    (tops v (ix3 b n r) : EReal) = Finset.fold max (Ideal.ofBits .f32 0xFF800000#32) (fun e => mg (v (ix4 b n e r))) Finset.univ := by
  unfold tops
  pointwise

theorem spread_at (v : FVec Ideal S2x1x1 .f32) (b : Fin 2) (n : Fin 192) (r : Fin 21504) :
    broadcastTo S2x192x21504 v broadcasts_S2x1x1_S2x192x21504 (ix3 b n r) = v (ix3 b 0 0) := by
  pointwise

/-- The clipped quotient of a block's enlarged sixth and the tensor's scale. -/
abbrev clipped (v w : FVec Ideal S2x192x21504 .f32) : FVec Ideal S2x192x21504 .fp8e4m3 :=
  truncf .fp8e4m3 (minimumf (broadcast S2x192x21504 (Scalar.ofBits .f32 0x43E00000#32)) (maximumf (broadcast S2x192x21504 (Scalar.ofBits .f32 0x00000000#32))
    (divf (divf (mulf v (broadcast S2x192x21504 (Scalar.ofBits .f32 0x3F800800#32))) (broadcast S2x192x21504 (Scalar.ofBits .f32 0x40C00000#32))) w))) bitsLt_fp8e4m3_f32

theorem clipped_at (v w : FVec Ideal S2x192x21504 .f32) (b : Fin 2) (n : Fin 192) (r : Fin 21504) :
    (clipped v w (ix3 b n r) : EReal) = min (Ideal.ofBits .f32 0x43E00000#32) (max 0 (Ideal.div (Ideal.div (v (ix3 b n r) * Ideal.ofBits .f32 0x3F800800#32) six) (w (ix3 b n r)))) := by
  unfold clipped
  pointwise

theorem scale_at (b : Fin 2) (n : Fin 192) (r : Fin 21504) : (k0_pay4 a1 a0 (ix3 b n r) : EReal) = scale (unitOf a0 b) (blockOf a1 b r n) := by
  have e : k0_pay4 a1 a0 = clipped (tops (k0_pay2 a1)) (broadcastTo S2x192x21504 (k0_pay3 a0) broadcasts_S2x1x1_S2x192x21504) := rfl
  rw [e, clipped_at, tops_at, spread_at, unit_at]
  simp only [w_at]
  rfl

/-- A block's scale times the tensor's, or one where that is zero. -/
abbrev stepped (v : FVec Ideal S2x192x21504 .fp8e4m3) (w : FVec Ideal S2x192x21504 .f32) : FVec Ideal S2x192x21504 .f32 :=
  select (cmpf .oeq (mulf (extf .f32 v bitsLt_fp8e4m3_f32) w) (broadcast S2x192x21504 (Scalar.ofBits .f32 0x00000000#32))) (broadcast S2x192x21504 (Scalar.ofBits .f32 0x3F800000#32)) (mulf (extf .f32 v bitsLt_fp8e4m3_f32) w)

theorem stepped_at (v : FVec Ideal S2x192x21504 .fp8e4m3) (w : FVec Ideal S2x192x21504 .f32) (b : Fin 2) (n : Fin 192) (r : Fin 21504) :
    (stepped v w (ix3 b n r) : EReal) = if (v (ix3 b n r) : EReal) * w (ix3 b n r) = 0 then 1 else (v (ix3 b n r) : EReal) * w (ix3 b n r) := by
  unfold stepped
  pointwise

theorem lift_at (v : FVec Ideal S2x192x21504 .f32) (b : Fin 2) (n : Fin 192) (r : Fin 21504) :
    shapeCast S2x192x1x21504 v shapeCasts_S2x192x21504_S2x192x1x21504 (ix4 b n 0 r) = v (ix3 b n r) := by
  pointwise

theorem eff_at (b : Fin 2) (n : Fin 192) (r : Fin 21504) : (k0_pay5 a1 a0 (ix4 b n 0 r) : EReal) = eff (unitOf a0 b) (blockOf a1 b r n) := by
  have e : k0_pay5 a1 a0 = shapeCast S2x192x1x21504 (stepped (k0_pay4 a1 a0) (broadcastTo S2x192x21504 (k0_pay3 a0) broadcasts_S2x1x1_S2x192x21504)) shapeCasts_S2x192x21504_S2x192x1x21504 := rfl
  rw [e, lift_at, stepped_at, spread_at, unit_at, scale_at]
  rfl

theorem over_at (v : FVec Ideal S2x192x16x21504 .f32) (w : FVec Ideal S2x192x1x21504 .f32) (b : Fin 2) (n : Fin 192) (e : Fin 16) (r : Fin 21504) :
    (divf v (broadcastTo S2x192x16x21504 w broadcasts_S2x192x1x21504_S2x192x16x21504) (ix4 b n e r) : EReal) = Ideal.div (v (ix4 b n e r)) (w (ix4 b n 0 r)) := by
  pointwise

theorem x_at (b : Fin 2) (n : Fin 192) (e : Fin 16) (r : Fin 21504) :
    (k0_pay6 a1 a0 (ix4 b n e r) : EReal) = Ideal.div (blockOf a1 b r n e) (eff (unitOf a0 b) (blockOf a1 b r n)) := by
  have h : k0_pay6 a1 a0 = divf (k0_pay2 a1) (broadcastTo S2x192x16x21504 (k0_pay5 a1 a0) broadcasts_S2x192x1x21504_S2x192x16x21504) := rfl
  rw [h, over_at, w_at, eff_at]

/-- The magnitudes, clipped to six, -/
abbrev mags6 (v : FVec Ideal S2x192x16x21504 .f32) : FVec Ideal S2x192x16x21504 .f32 := minimumf (absf v) (broadcast S2x192x16x21504 (Scalar.ofBits .f32 0x40C00000#32))

theorem mags6_at (v : FVec Ideal S2x192x16x21504 .f32) (b : Fin 2) (n : Fin 192) (e : Fin 16) (r : Fin 21504) :
    (mags6 v (ix4 b n e r) : EReal) = min (mg (v (ix4 b n e r))) six := by
  unfold mags6
  pointwise

/-- and how many steps of the eight magnitudes lie in a unit there. -/
abbrev pers (v : FVec Ideal S2x192x16x21504 .f32) : FVec Ideal S2x192x16x21504 .f32 :=
  select (cmpf .olt v (broadcast S2x192x16x21504 (Scalar.ofBits .f32 0x40000000#32))) (broadcast S2x192x16x21504 (Scalar.ofBits .f32 0x40000000#32))
    (select (cmpf .olt v (broadcast S2x192x16x21504 (Scalar.ofBits .f32 0x40800000#32))) (broadcast S2x192x16x21504 (Scalar.ofBits .f32 0x3F800000#32)) (broadcast S2x192x16x21504 (Scalar.ofBits .f32 0x3F000000#32)))

theorem pers_at (v : FVec Ideal S2x192x16x21504 .f32) (b : Fin 2) (n : Fin 192) (e : Fin 16) (r : Fin 21504) :
    (pers v (ix4 b n e r) : EReal) = if (v (ix4 b n e r) : EReal) < two then two else if (v (ix4 b n e r) : EReal) < four then 1 else half := by
  unfold pers
  pointwise

/-- A magnitude's own step. -/
abbrev steps (u : FVec Ideal S2x192x16x21504 .f32) : FVec Ideal S2x192x16x21504 .f32 :=
  select (cmpf .olt u (broadcast S2x192x16x21504 (Scalar.ofBits .f32 0x40000000#32))) (broadcast S2x192x16x21504 (Scalar.ofBits .f32 0x3F000000#32))
    (select (cmpf .olt u (broadcast S2x192x16x21504 (Scalar.ofBits .f32 0x40800000#32))) (broadcast S2x192x16x21504 (Scalar.ofBits .f32 0x3F800000#32)) (broadcast S2x192x16x21504 (Scalar.ofBits .f32 0x40000000#32)))

/-- The magnitudes rounded to whole steps, with the signs put back. -/
abbrev rounded (x u p : FVec Ideal S2x192x16x21504 .f32) : FVec Ideal S2x192x16x21504 .f32 :=
  select (cmpf .olt x (broadcast S2x192x16x21504 (Scalar.ofBits .f32 0x00000000#32))) (subf (broadcast S2x192x16x21504 (Scalar.ofBits .f32 0x00000000#32)) (mulf (roundeven (mulf u p)) (steps u))) (mulf (roundeven (mulf u p)) (steps u))

theorem round_at (x u p : FVec Ideal S2x192x16x21504 .f32) (b : Fin 2) (n : Fin 192) (e : Fin 16) (r : Fin 21504) :
    (rounded x u p (ix4 b n e r) : EReal)
      = if (x (ix4 b n e r) : EReal) < 0 then 0 - Ideal.liftRound Ideal.roundHalfEven (u (ix4 b n e r) * p (ix4 b n e r)) * (if (u (ix4 b n e r) : EReal) < two then half else if (u (ix4 b n e r) : EReal) < four then 1 else two)
        else Ideal.liftRound Ideal.roundHalfEven (u (ix4 b n e r) * p (ix4 b n e r)) * (if (u (ix4 b n e r) : EReal) < two then half else if (u (ix4 b n e r) : EReal) < four then 1 else two) := by
  unfold rounded steps
  pointwise

theorem value_at (b : Fin 2) (n : Fin 192) (e : Fin 16) (r : Fin 21504) :
    (rounded (k0_pay6 a1 a0) (k0_pay7 a1 a0) (k0_pay8 a1 a0) (ix4 b n e r) : EReal) = value (Ideal.div (blockOf a1 b r n e) (eff (unitOf a0 b) (blockOf a1 b r n))) := by
  have h8 : k0_pay7 a1 a0 = mags6 (k0_pay6 a1 a0) := rfl
  have h9 : k0_pay8 a1 a0 = pers (k0_pay7 a1 a0) := rfl
  rw [round_at, h9, pers_at, h8, mags6_at, x_at]
  rfl

/-- The squared errors summed, each block's first. -/
abbrev summed (V : FVec Ideal S2x192x16x21504 .f32) (E : FVec Ideal S2x192x1x21504 .f32) (Q : FVec Ideal S2x192x16x21504 .f32) : FVec Ideal S2x1x21504 .f32 :=
  shapeCast S2x1x21504 (multiReduction .add [1] S2x21504 (multiReduction .add [2] S2x192x21504
    (mulf (subf V (mulf Q (broadcastTo S2x192x16x21504 E broadcasts_S2x192x1x21504_S2x192x16x21504))) (subf V (mulf Q (broadcastTo S2x192x16x21504 E broadcasts_S2x192x1x21504_S2x192x16x21504))))
    0x00000000#32 reduces_S2x192x16x21504_S2x192x21504 (.inl rfl) rfl) 0x00000000#32 reduces_S2x192x21504_S2x21504 (.inl rfl) rfl) shapeCasts_S2x21504_S2x1x21504

theorem err_of (V : FVec Ideal S2x192x16x21504 .f32) (E : FVec Ideal S2x192x1x21504 .f32) (Q : FVec Ideal S2x192x16x21504 .f32) (b : Fin 2) (r : Fin 21504) :
    (summed V E Q (ix3 b 0 r) : EReal) = ∑ n : Fin 192, ∑ e : Fin 16, (V (ix4 b n e r) - Q (ix4 b n e r) * E (ix4 b n 0 r)) * (V (ix4 b n e r) - Q (ix4 b n e r) * E (ix4 b n 0 r)) := by
  unfold summed
  pointwise

theorem sum_eq (V : FVec Ideal S2x192x16x21504 .f32) (E : FVec Ideal S2x192x1x21504 .f32) (x u p : FVec Ideal S2x192x16x21504 .f32) : k0_pay1 V E x u p = summed V E (rounded x u p) := rfl

/-- The reference's scales -/
theorem G2_at (b : Fin 2) (n : Fin 192) (r : Fin 21504) : (G2 a0 a1 (ix3 b n r) : EReal) = scale (unitOf a0 b) (blockOf a1 b r n) := scale_at a0 a1 b n r

/-- and squared errors. -/
theorem G3_at (b : Fin 2) (r : Fin 21504) : (G3 a0 a1 (ix3 b 0 r) : EReal) = ∑ n : Fin 192, err (unitOf a0 b) (blockOf a1 b r n) := by
  unfold G3
  rw [sum_eq, err_of]
  refine Finset.sum_congr rfl fun n _ => Finset.sum_congr rfl fun e _ => ?_
  rw [w_at, value_at, eff_at]

end Cert.Nvfp4ReferenceIdeal.RefAt
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Nvfp4
public import proofs.«01_k».proof.Proof.Gen.Nvfp4.Skeleton
public import proofs.«01_k».proof.Proof.Gen.Nvfp4.Launch
public import proofs.«01_k».proof.Proof.Gen.Nvfp4.Points
public import proofs.«01_k».proof.Proof.Gen.Nvfp4.Frame
public import proofs.«01_k».proof.Proof.Gen.Nvfp4Ideal
public import proofs.«01_k».proof.Proof.Gen.Nvfp4Ideal.Skeleton
public import proofs.«01_k».proof.Proof.Gen.Nvfp4Ideal.Launch
public import proofs.«01_k».proof.Proof.Gen.Nvfp4Ideal.Points
public import proofs.«01_k».proof.Proof.Gen.Nvfp4Ideal.Frame
public import proofs.«01_k».proof.Proof.Gen.Nvfp4Ideal.Value
public import proofs.«01_k».proof.Proof.Gen.Nvfp4ReferenceIdeal
public import proofs.«01_k».proof.Proof.Gen.Nvfp4ReferenceIdeal.Skeleton
public import proofs.«01_k».proof.Proof.Gen.Nvfp4ReferenceIdeal.Launch
public import proofs.«01_k».proof.Proof.Gen.Nvfp4ReferenceIdeal.Points
public import proofs.«01_k».proof.Proof.Gen.Nvfp4ReferenceIdeal.Frame
public import proofs.«01_k».proof.Proof.Gen.Nvfp4ReferenceIdeal.Value
public import proofs.«01_k».proof.Proof.BFrame
public import proofs.«01_k».proof.Proof.KResult
public import proofs.«01_k».proof.Proof.Mask
public import proofs.«01_k».proof.Proof.NValue
public import proofs.«01_k».proof.Proof.NRefAt
public import Idealize.ShloMosaic.Adequacy
public import Idealize.ShloMosaic.Init

@[expose] public section

noncomputable section

namespace Cert.Proof

open Idealize.ShloMosaic Idealize.SL.Sem Cert.Kernel

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

/-- The two memories hold the same arguments. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

theorem norms (c : Dev Cert.KernelIdeal.nD) (h : Agree m m' c) : Cert.ReferenceIdeal.Value.G12 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = Cert.KernelIdeal.Merge.norms m c := by
  obtain ⟨h0, h1, h2, h3, h4, h5, h6, h7, h8, h9, h10, h11⟩ := h
  rw [Cert.ReferenceIdeal.RefAt.norms_eq, h0, h1, h2, h3, h4, h5, h6, h7, h8, h9, h10, h11]
  rfl

theorem codes (c : Dev Cert.KernelIdeal.nD) (h : Agree m m' c) : Cert.ReferenceIdeal.Value.G13 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = Cert.KernelIdeal.Merge.codes m c := by
  obtain ⟨h0, h1, h2, h3, h4, h5, h6, h7, h8, h9, h10, h11⟩ := h
  rw [Cert.ReferenceIdeal.RefAt.codes_eq, h0, h1, h2, h3, h4, h5, h6, h7, h8, h9, h10, h11]
  rfl

theorem scales (c : Dev Cert.KernelIdeal.nD) (h : Agree m m' c) : Cert.ReferenceIdeal.Value.G14 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = Cert.KernelIdeal.Merge.scales m c := by
  obtain ⟨h0, h1, h2, h3, h4, h5, h6, h7, h8, h9, h10, h11⟩ := h
  rw [Cert.ReferenceIdeal.RefAt.scales_eq, h0, h1, h2, h3, h4, h5, h6, h7, h8, h9, h10, h11]
  rfl

theorem tensorScales (c : Dev Cert.KernelIdeal.nD) (h : Agree m m' c) : Cert.ReferenceIdeal.Value.G15 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = Cert.KernelIdeal.Merge.tensorScales m c := by
  obtain ⟨h0, h1, h2, h3, h4, h5, h6, h7, h8, h9, h10, h11⟩ := h
  rw [Cert.ReferenceIdeal.RefAt.tensorScales_eq, h0, h1, h2, h3, h4, h5, h6, h7, h8, h9, h10, h11]
  rfl

theorem weights (c : Dev Cert.KernelIdeal.nD) (h : Agree m m' c) : Cert.ReferenceIdeal.Value.G16 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = Cert.KernelIdeal.Merge.weights m c := by
  obtain ⟨h0, h1, h2, h3, h4, h5, h6, h7, h8, h9, h10, h11⟩ := h
  rw [Cert.ReferenceIdeal.RefAt.weights_eq, h0, h1, h2, h3, h4, h5, h6, h7, h8, h9, h10, h11]
  rfl

theorem errs (c : Dev Cert.KernelIdeal.nD) (h : Agree m m' c) (i : (⟨2, ![2, 21504]⟩ : Shape).Idx)
    (hi : (Cert.On_everything_but_err_at_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 i = 1#1) :
    Cert.ReferenceIdeal.Value.G17 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) i = Cert.KernelIdeal.Merge.errs m c i := by
  obtain ⟨h0, h1, h2, h3, h4, h5, h6, h7, h8, h9, h10, h11⟩ := h
  rw [Cert.ReferenceIdeal.RefAt.errs_eq, h0, h1, h2, h3, h4, h5, h6, h7, h8, h9, h10, h11]
  idx_vars i
  exact (Cert.On_everything_but_err_at_infinities.err_of_mask _ _ _ _ _ _ _ _ _ _ _ _ i0 i1 (Cert.KernelIdeal.Merge.scale_ne_zero _) hi).symm

theorem algebraic : Cert.algebraic_KernelIdeal_ReferenceIdeal_on_everything_but_err_at_infinities := by
  intro m g m' g' _ hagree
  refine ⟨Cert.KernelIdeal.Merge.norms m, Cert.KernelIdeal.Merge.codes m, Cert.KernelIdeal.Merge.scales m, Cert.KernelIdeal.Merge.tensorScales m,
    Cert.KernelIdeal.Merge.weights m, Cert.KernelIdeal.Merge.errs m, ?_, ?_⟩
  · refine (θ_run Cert.KernelIdeal.defs _ _).mono (fun r h c => ?_) (θ_run_and (Cert.KernelIdeal.Merge.results m g) (Cert.KernelIdeal.Merge.frame m g))
    obtain ⟨h0, h1, h2, h3, h4, h5⟩ := h.1 c
    exact ⟨fun i _ => congrFun h0 i, fun i _ => congrFun h1 i, fun i _ => congrFun h2 i, fun i _ => congrFun h3 i, fun i _ => congrFun h4 i,
      fun i _ => congrFun h5 i, h.2.1 c⟩
  · refine (θ_run Cert.ReferenceIdeal.defs _ _).mono (fun r h c => ?_) (Cert.ReferenceIdeal.Value.run (F := Ideal) m' g')
    obtain ⟨h0, h1, h2, h3, h4, h5, hk⟩ := h c
    exact ⟨fun i _ => congrFun (h0.trans (norms m m' c (hagree c))) i, fun i _ => congrFun (h1.trans (codes m m' c (hagree c))) i,
      fun i _ => congrFun (h2.trans (scales m m' c (hagree c))) i, fun i _ => congrFun (h3.trans (tensorScales m m' c (hagree c))) i,
      fun i _ => congrFun (h4.trans (weights m m' c (hagree c))) i, fun i hi => (congrFun h5 i).trans (errs m m' c (hagree c) i hi), hk⟩

/-! ## The second call -/

theorem blockScales (a0 : Vec Ideal ⟨1, ![2]⟩ .f32) (a1 : Vec Ideal ⟨3, ![2, 21504, 3072]⟩ .f32) : Cert.Nvfp4ReferenceIdeal.Value.G2 a0 a1 = Cert.Nvfp4Ideal.Blocks.scalesOf a0 a1 := by
  funext i
  idx_vars i
  exact Cert.Nvfp4ReferenceIdeal.RefAt.G2_at a0 a1 i0 i1 i2

theorem blockErrs (a0 : Vec Ideal ⟨1, ![2]⟩ .f32) (a1 : Vec Ideal ⟨3, ![2, 21504, 3072]⟩ .f32) : Cert.Nvfp4ReferenceIdeal.Value.G3 a0 a1 = Cert.Nvfp4Ideal.Blocks.errsOf a0 a1 := by
  funext i
  idx_vars i
  obtain rfl : i1 = 0 := Subsingleton.elim _ _
  exact Cert.Nvfp4ReferenceIdeal.RefAt.G3_at a0 a1 i0 i2

theorem algebraic_blocks : Cert.algebraic_Nvfp4Ideal_Nvfp4ReferenceIdeal := by
  intro m g m' g' _ hagree
  refine ⟨fun c => Cert.Nvfp4Ideal.Blocks.scalesOf (Cert.Nvfp4Ideal.Blocks.top m c) (Cert.Nvfp4Ideal.Blocks.wts m c),
    fun c => Cert.Nvfp4Ideal.Blocks.errsOf (Cert.Nvfp4Ideal.Blocks.top m c) (Cert.Nvfp4Ideal.Blocks.wts m c), ?_, ?_⟩
  · refine (θ_run Cert.Nvfp4Ideal.defs _ _).mono (fun r h c => ?_) (Cert.Nvfp4Ideal.Value.run_blocks (F := Ideal) m g)
    obtain ⟨_, h1, h2, hk⟩ := h c
    exact ⟨h1.trans (Cert.Nvfp4Ideal.Blocks.final_3 m c), h2.trans (Cert.Nvfp4Ideal.Blocks.final_4 m c), hk⟩
  · refine (θ_run Cert.Nvfp4ReferenceIdeal.defs _ _).mono (fun r h c => ?_) (Cert.Nvfp4ReferenceIdeal.Value.run (F := Ideal) m' g')
    obtain ⟨h0, h1, hk⟩ := h c
    obtain ⟨e0, e1⟩ := hagree c
    rw [e0, e1] at h0 h1
    exact ⟨h0.trans (blockScales _ _), h1.trans (blockErrs _ _), hk⟩

theorem claim : Cert.Claim := ⟨Cert.Kernel.Gen.facts, Cert.KernelIdeal.Gen.facts, Cert.ReferenceIdeal.Gen.facts,
  Cert.Nvfp4.Gen.facts, Cert.Nvfp4Ideal.Gen.facts, Cert.Nvfp4ReferenceIdeal.Gen.facts, Cert.On_everything_but_err_at_infinities.facts,
  fun m g _ => Cert.Kernel.Merge.frame m g,
  fun m g _ => Cert.KernelIdeal.Merge.frame m g,
  fun m g _ => Cert.ReferenceIdeal.Gen.frame m g,
  fun m g _ => Cert.Nvfp4.Gen.frame m g,
  fun m g _ => Cert.Nvfp4Ideal.Gen.frame m g,
  fun m g _ => Cert.Nvfp4ReferenceIdeal.Gen.frame m g,
  trivial,
  algebraic,
  trivial,
  algebraic_blocks⟩

end Cert.Proof

end
